-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_FhIn (m : (ℓ : Loc Cert.FhIn.nD Cert.FhIn.τ Cert.FhIn.sig) → Buf (Elt Bits) ℓ) : Prop :=
  True

def Pre_FhInIdeal (m : (ℓ : Loc Cert.FhInIdeal.nD Cert.FhInIdeal.τ Cert.FhInIdeal.sig) → Buf (Elt Ideal) ℓ) : Prop :=
  True

def Pre_FhInRefIdeal (m : (ℓ : Loc Cert.FhInRefIdeal.nD Cert.FhInRefIdeal.τ Cert.FhInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_FhIn [hFhIn : Cert.FhIn.Facts] : Prop :=
  ∀ (m : (ℓ : Loc Cert.FhIn.nD Cert.FhIn.τ Cert.FhIn.sig) → Buf (Elt Bits) ℓ) (g : Dev Cert.FhIn.nD → PrngReg), Pre_FhIn m →
    θ_run (Cert.FhIn.defs (F := Bits)) (onTc (τ := Cert.FhIn.τ) (Cert.FhIn.main (F := Bits))) ⟨m, fun _ => 0, g⟩ (fun r => (∀ c : Dev Cert.FhIn.nD,
      r.2.mem ((c.tc : Thread Cert.FhIn.nD Cert.FhIn.τ).loc Cert.FhIn.main_arg0) = m ((c.tc : Thread Cert.FhIn.nD Cert.FhIn.τ).loc Cert.FhIn.main_arg0)
      ∧ r.2.mem ((c.tc : Thread Cert.FhIn.nD Cert.FhIn.τ).loc Cert.FhIn.main_arg1) = m ((c.tc : Thread Cert.FhIn.nD Cert.FhIn.τ).loc Cert.FhIn.main_arg1)
      ∧ r.2.mem ((c.tc : Thread Cert.FhIn.nD Cert.FhIn.τ).loc Cert.FhIn.main_arg2) = m ((c.tc : Thread Cert.FhIn.nD Cert.FhIn.τ).loc Cert.FhIn.main_arg2)
      ∧ r.2.mem ((c.tc : Thread Cert.FhIn.nD Cert.FhIn.τ).loc Cert.FhIn.main_arg3) = m ((c.tc : Thread Cert.FhIn.nD Cert.FhIn.τ).loc Cert.FhIn.main_arg3)
      ∧ r.2.mem ((c.tc : Thread Cert.FhIn.nD Cert.FhIn.τ).loc Cert.FhIn.main_arg4) = m ((c.tc : Thread Cert.FhIn.nD Cert.FhIn.τ).loc Cert.FhIn.main_arg4)
      ∧ r.2.mem ((c.tc : Thread Cert.FhIn.nD Cert.FhIn.τ).loc Cert.FhIn.main_arg5) = m ((c.tc : Thread Cert.FhIn.nD Cert.FhIn.τ).loc Cert.FhIn.main_arg5)
      ∧ r.2.mem ((c.tc : Thread Cert.FhIn.nD Cert.FhIn.τ).loc Cert.FhIn.main_arg6) = m ((c.tc : Thread Cert.FhIn.nD Cert.FhIn.τ).loc Cert.FhIn.main_arg6)
      ∧ r.2.mem ((c.tc : Thread Cert.FhIn.nD Cert.FhIn.τ).loc Cert.FhIn.main_arg7) = m ((c.tc : Thread Cert.FhIn.nD Cert.FhIn.τ).loc Cert.FhIn.main_arg7))
      ∧ r.2.sem = fun _ => 0)

def quiescent_FhInIdeal [hFhInIdeal : Cert.FhInIdeal.Facts] : Prop :=
  ∀ (m : (ℓ : Loc Cert.FhInIdeal.nD Cert.FhInIdeal.τ Cert.FhInIdeal.sig) → Buf (Elt Ideal) ℓ) (g : Dev Cert.FhInIdeal.nD → PrngReg), Pre_FhInIdeal m →
    θ_run (Cert.FhInIdeal.defs (F := Ideal)) (onTc (τ := Cert.FhInIdeal.τ) (Cert.FhInIdeal.main (F := Ideal))) ⟨m, fun _ => 0, g⟩ (fun r => (∀ c : Dev Cert.FhInIdeal.nD,
      r.2.mem ((c.tc : Thread Cert.FhInIdeal.nD Cert.FhInIdeal.τ).loc Cert.FhInIdeal.main_arg0) = m ((c.tc : Thread Cert.FhInIdeal.nD Cert.FhInIdeal.τ).loc Cert.FhInIdeal.main_arg0)
      ∧ r.2.mem ((c.tc : Thread Cert.FhInIdeal.nD Cert.FhInIdeal.τ).loc Cert.FhInIdeal.main_arg1) = m ((c.tc : Thread Cert.FhInIdeal.nD Cert.FhInIdeal.τ).loc Cert.FhInIdeal.main_arg1)
      ∧ r.2.mem ((c.tc : Thread Cert.FhInIdeal.nD Cert.FhInIdeal.τ).loc Cert.FhInIdeal.main_arg2) = m ((c.tc : Thread Cert.FhInIdeal.nD Cert.FhInIdeal.τ).loc Cert.FhInIdeal.main_arg2)
      ∧ r.2.mem ((c.tc : Thread Cert.FhInIdeal.nD Cert.FhInIdeal.τ).loc Cert.FhInIdeal.main_arg3) = m ((c.tc : Thread Cert.FhInIdeal.nD Cert.FhInIdeal.τ).loc Cert.FhInIdeal.main_arg3)
      ∧ r.2.mem ((c.tc : Thread Cert.FhInIdeal.nD Cert.FhInIdeal.τ).loc Cert.FhInIdeal.main_arg4) = m ((c.tc : Thread Cert.FhInIdeal.nD Cert.FhInIdeal.τ).loc Cert.FhInIdeal.main_arg4)
      ∧ r.2.mem ((c.tc : Thread Cert.FhInIdeal.nD Cert.FhInIdeal.τ).loc Cert.FhInIdeal.main_arg5) = m ((c.tc : Thread Cert.FhInIdeal.nD Cert.FhInIdeal.τ).loc Cert.FhInIdeal.main_arg5)
      ∧ r.2.mem ((c.tc : Thread Cert.FhInIdeal.nD Cert.FhInIdeal.τ).loc Cert.FhInIdeal.main_arg6) = m ((c.tc : Thread Cert.FhInIdeal.nD Cert.FhInIdeal.τ).loc Cert.FhInIdeal.main_arg6)
      ∧ r.2.mem ((c.tc : Thread Cert.FhInIdeal.nD Cert.FhInIdeal.τ).loc Cert.FhInIdeal.main_arg7) = m ((c.tc : Thread Cert.FhInIdeal.nD Cert.FhInIdeal.τ).loc Cert.FhInIdeal.main_arg7))
      ∧ r.2.sem = fun _ => 0)

def quiescent_FhInRefIdeal [hFhInRefIdeal : Cert.FhInRefIdeal.Facts] : Prop :=
  ∀ (m : (ℓ : Loc Cert.FhInRefIdeal.nD Cert.FhInRefIdeal.τ Cert.FhInRefIdeal.sig) → Buf (Elt Ideal) ℓ) (g : Dev Cert.FhInRefIdeal.nD → PrngReg), Pre_FhInRefIdeal m →
    θ_run (Cert.FhInRefIdeal.defs (F := Ideal)) (onTc (τ := Cert.FhInRefIdeal.τ) (Cert.FhInRefIdeal.main (F := Ideal))) ⟨m, fun _ => 0, g⟩ (fun r => (∀ c : Dev Cert.FhInRefIdeal.nD,
      r.2.mem ((c.tc : Thread Cert.FhInRefIdeal.nD Cert.FhInRefIdeal.τ).loc Cert.FhInRefIdeal.main_arg0) = m ((c.tc : Thread Cert.FhInRefIdeal.nD Cert.FhInRefIdeal.τ).loc Cert.FhInRefIdeal.main_arg0)
      ∧ r.2.mem ((c.tc : Thread Cert.FhInRefIdeal.nD Cert.FhInRefIdeal.τ).loc Cert.FhInRefIdeal.main_arg1) = m ((c.tc : Thread Cert.FhInRefIdeal.nD Cert.FhInRefIdeal.τ).loc Cert.FhInRefIdeal.main_arg1)
      ∧ r.2.mem ((c.tc : Thread Cert.FhInRefIdeal.nD Cert.FhInRefIdeal.τ).loc Cert.FhInRefIdeal.main_arg2) = m ((c.tc : Thread Cert.FhInRefIdeal.nD Cert.FhInRefIdeal.τ).loc Cert.FhInRefIdeal.main_arg2)
      ∧ r.2.mem ((c.tc : Thread Cert.FhInRefIdeal.nD Cert.FhInRefIdeal.τ).loc Cert.FhInRefIdeal.main_arg3) = m ((c.tc : Thread Cert.FhInRefIdeal.nD Cert.FhInRefIdeal.τ).loc Cert.FhInRefIdeal.main_arg3)
      ∧ r.2.mem ((c.tc : Thread Cert.FhInRefIdeal.nD Cert.FhInRefIdeal.τ).loc Cert.FhInRefIdeal.main_arg4) = m ((c.tc : Thread Cert.FhInRefIdeal.nD Cert.FhInRefIdeal.τ).loc Cert.FhInRefIdeal.main_arg4)
      ∧ r.2.mem ((c.tc : Thread Cert.FhInRefIdeal.nD Cert.FhInRefIdeal.τ).loc Cert.FhInRefIdeal.main_arg5) = m ((c.tc : Thread Cert.FhInRefIdeal.nD Cert.FhInRefIdeal.τ).loc Cert.FhInRefIdeal.main_arg5)
      ∧ r.2.mem ((c.tc : Thread Cert.FhInRefIdeal.nD Cert.FhInRefIdeal.τ).loc Cert.FhInRefIdeal.main_arg6) = m ((c.tc : Thread Cert.FhInRefIdeal.nD Cert.FhInRefIdeal.τ).loc Cert.FhInRefIdeal.main_arg6)
      ∧ r.2.mem ((c.tc : Thread Cert.FhInRefIdeal.nD Cert.FhInRefIdeal.τ).loc Cert.FhInRefIdeal.main_arg7) = m ((c.tc : Thread Cert.FhInRefIdeal.nD Cert.FhInRefIdeal.τ).loc Cert.FhInRefIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v58) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_FhIn_FhInIdeal : Prop :=
  True

def algebraic_FhInIdeal_FhInRefIdeal [hFhInIdeal : Cert.FhInIdeal.Facts] [hFhInRefIdeal : Cert.FhInRefIdeal.Facts] : Prop :=
  ∀ (m : (ℓ : Loc Cert.FhInIdeal.nD Cert.FhInIdeal.τ Cert.FhInIdeal.sig) → Buf (Elt Ideal) ℓ) (g : Dev Cert.FhInIdeal.nD → PrngReg)
    (m' : (ℓ : Loc Cert.FhInRefIdeal.nD Cert.FhInRefIdeal.τ Cert.FhInRefIdeal.sig) → Buf (Elt Ideal) ℓ) (g' : Dev Cert.FhInRefIdeal.nD → PrngReg), Pre_FhInIdeal m →
    (∀ c : Dev Cert.FhInIdeal.nD,
      m' ((c.tc : Thread Cert.FhInRefIdeal.nD Cert.FhInRefIdeal.τ).loc Cert.FhInRefIdeal.main_arg0) = m ((c.tc : Thread Cert.FhInIdeal.nD Cert.FhInIdeal.τ).loc Cert.FhInIdeal.main_arg0)
      ∧ m' ((c.tc : Thread Cert.FhInRefIdeal.nD Cert.FhInRefIdeal.τ).loc Cert.FhInRefIdeal.main_arg1) = m ((c.tc : Thread Cert.FhInIdeal.nD Cert.FhInIdeal.τ).loc Cert.FhInIdeal.main_arg1)
      ∧ m' ((c.tc : Thread Cert.FhInRefIdeal.nD Cert.FhInRefIdeal.τ).loc Cert.FhInRefIdeal.main_arg2) = m ((c.tc : Thread Cert.FhInIdeal.nD Cert.FhInIdeal.τ).loc Cert.FhInIdeal.main_arg2)
      ∧ m' ((c.tc : Thread Cert.FhInRefIdeal.nD Cert.FhInRefIdeal.τ).loc Cert.FhInRefIdeal.main_arg3) = m ((c.tc : Thread Cert.FhInIdeal.nD Cert.FhInIdeal.τ).loc Cert.FhInIdeal.main_arg3)
      ∧ m' ((c.tc : Thread Cert.FhInRefIdeal.nD Cert.FhInRefIdeal.τ).loc Cert.FhInRefIdeal.main_arg4) = m ((c.tc : Thread Cert.FhInIdeal.nD Cert.FhInIdeal.τ).loc Cert.FhInIdeal.main_arg4)
      ∧ m' ((c.tc : Thread Cert.FhInRefIdeal.nD Cert.FhInRefIdeal.τ).loc Cert.FhInRefIdeal.main_arg5) = m ((c.tc : Thread Cert.FhInIdeal.nD Cert.FhInIdeal.τ).loc Cert.FhInIdeal.main_arg5)
      ∧ m' ((c.tc : Thread Cert.FhInRefIdeal.nD Cert.FhInRefIdeal.τ).loc Cert.FhInRefIdeal.main_arg6) = m ((c.tc : Thread Cert.FhInIdeal.nD Cert.FhInIdeal.τ).loc Cert.FhInIdeal.main_arg6)
      ∧ m' ((c.tc : Thread Cert.FhInRefIdeal.nD Cert.FhInRefIdeal.τ).loc Cert.FhInRefIdeal.main_arg7) = m ((c.tc : Thread Cert.FhInIdeal.nD Cert.FhInIdeal.τ).loc Cert.FhInIdeal.main_arg7)) →
    ∃ (v0 : (c : Dev Cert.FhInIdeal.nD) → Buf (Elt Ideal) ((c.tc : Thread Cert.FhInIdeal.nD Cert.FhInIdeal.τ).loc Cert.FhInIdeal.main_v15_0)) (v1 : (c : Dev Cert.FhInIdeal.nD) → Buf (Elt Ideal) ((c.tc : Thread Cert.FhInIdeal.nD Cert.FhInIdeal.τ).loc Cert.FhInIdeal.main_v15_1)) (v2 : (c : Dev Cert.FhInIdeal.nD) → Buf (Elt Ideal) ((c.tc : Thread Cert.FhInIdeal.nD Cert.FhInIdeal.τ).loc Cert.FhInIdeal.main_v15_2)),
      θ_run (Cert.FhInIdeal.defs (F := Ideal)) (onTc (τ := Cert.FhInIdeal.τ) (Cert.FhInIdeal.main (F := Ideal))) ⟨m, fun _ => 0, g⟩ (fun r => ∀ c : Dev Cert.FhInIdeal.nD,
          r.2.mem ((c.tc : Thread Cert.FhInIdeal.nD Cert.FhInIdeal.τ).loc Cert.FhInIdeal.main_v15_0) = v0 c
          ∧ r.2.mem ((c.tc : Thread Cert.FhInIdeal.nD Cert.FhInIdeal.τ).loc Cert.FhInIdeal.main_v15_1) = v1 c
          ∧ r.2.mem ((c.tc : Thread Cert.FhInIdeal.nD Cert.FhInIdeal.τ).loc Cert.FhInIdeal.main_v15_2) = v2 c
          ∧ r.2.mem ((c.tc : Thread Cert.FhInIdeal.nD Cert.FhInIdeal.τ).loc Cert.FhInIdeal.main_arg0) = m ((c.tc : Thread Cert.FhInIdeal.nD Cert.FhInIdeal.τ).loc Cert.FhInIdeal.main_arg0)
          ∧ r.2.mem ((c.tc : Thread Cert.FhInIdeal.nD Cert.FhInIdeal.τ).loc Cert.FhInIdeal.main_arg1) = m ((c.tc : Thread Cert.FhInIdeal.nD Cert.FhInIdeal.τ).loc Cert.FhInIdeal.main_arg1)
          ∧ r.2.mem ((c.tc : Thread Cert.FhInIdeal.nD Cert.FhInIdeal.τ).loc Cert.FhInIdeal.main_arg2) = m ((c.tc : Thread Cert.FhInIdeal.nD Cert.FhInIdeal.τ).loc Cert.FhInIdeal.main_arg2)
          ∧ r.2.mem ((c.tc : Thread Cert.FhInIdeal.nD Cert.FhInIdeal.τ).loc Cert.FhInIdeal.main_arg3) = m ((c.tc : Thread Cert.FhInIdeal.nD Cert.FhInIdeal.τ).loc Cert.FhInIdeal.main_arg3)
          ∧ r.2.mem ((c.tc : Thread Cert.FhInIdeal.nD Cert.FhInIdeal.τ).loc Cert.FhInIdeal.main_arg4) = m ((c.tc : Thread Cert.FhInIdeal.nD Cert.FhInIdeal.τ).loc Cert.FhInIdeal.main_arg4)
          ∧ r.2.mem ((c.tc : Thread Cert.FhInIdeal.nD Cert.FhInIdeal.τ).loc Cert.FhInIdeal.main_arg5) = m ((c.tc : Thread Cert.FhInIdeal.nD Cert.FhInIdeal.τ).loc Cert.FhInIdeal.main_arg5)
          ∧ r.2.mem ((c.tc : Thread Cert.FhInIdeal.nD Cert.FhInIdeal.τ).loc Cert.FhInIdeal.main_arg6) = m ((c.tc : Thread Cert.FhInIdeal.nD Cert.FhInIdeal.τ).loc Cert.FhInIdeal.main_arg6)
          ∧ r.2.mem ((c.tc : Thread Cert.FhInIdeal.nD Cert.FhInIdeal.τ).loc Cert.FhInIdeal.main_arg7) = m ((c.tc : Thread Cert.FhInIdeal.nD Cert.FhInIdeal.τ).loc Cert.FhInIdeal.main_arg7))
      ∧ θ_run (Cert.FhInRefIdeal.defs (F := Ideal)) (onTc (τ := Cert.FhInRefIdeal.τ) (Cert.FhInRefIdeal.main (F := Ideal))) ⟨m', fun _ => 0, g'⟩ (fun r => ∀ c : Dev Cert.FhInRefIdeal.nD,
          r.2.mem ((c.tc : Thread Cert.FhInRefIdeal.nD Cert.FhInRefIdeal.τ).loc Cert.FhInRefIdeal.main_v53) = v0 c
          ∧ r.2.mem ((c.tc : Thread Cert.FhInRefIdeal.nD Cert.FhInRefIdeal.τ).loc Cert.FhInRefIdeal.main_v55) = v1 c
          ∧ r.2.mem ((c.tc : Thread Cert.FhInRefIdeal.nD Cert.FhInRefIdeal.τ).loc Cert.FhInRefIdeal.main_v50) = v2 c
          ∧ r.2.mem ((c.tc : Thread Cert.FhInRefIdeal.nD Cert.FhInRefIdeal.τ).loc Cert.FhInRefIdeal.main_arg0) = m' ((c.tc : Thread Cert.FhInRefIdeal.nD Cert.FhInRefIdeal.τ).loc Cert.FhInRefIdeal.main_arg0)
          ∧ r.2.mem ((c.tc : Thread Cert.FhInRefIdeal.nD Cert.FhInRefIdeal.τ).loc Cert.FhInRefIdeal.main_arg1) = m' ((c.tc : Thread Cert.FhInRefIdeal.nD Cert.FhInRefIdeal.τ).loc Cert.FhInRefIdeal.main_arg1)
          ∧ r.2.mem ((c.tc : Thread Cert.FhInRefIdeal.nD Cert.FhInRefIdeal.τ).loc Cert.FhInRefIdeal.main_arg2) = m' ((c.tc : Thread Cert.FhInRefIdeal.nD Cert.FhInRefIdeal.τ).loc Cert.FhInRefIdeal.main_arg2)
          ∧ r.2.mem ((c.tc : Thread Cert.FhInRefIdeal.nD Cert.FhInRefIdeal.τ).loc Cert.FhInRefIdeal.main_arg3) = m' ((c.tc : Thread Cert.FhInRefIdeal.nD Cert.FhInRefIdeal.τ).loc Cert.FhInRefIdeal.main_arg3)
          ∧ r.2.mem ((c.tc : Thread Cert.FhInRefIdeal.nD Cert.FhInRefIdeal.τ).loc Cert.FhInRefIdeal.main_arg4) = m' ((c.tc : Thread Cert.FhInRefIdeal.nD Cert.FhInRefIdeal.τ).loc Cert.FhInRefIdeal.main_arg4)
          ∧ r.2.mem ((c.tc : Thread Cert.FhInRefIdeal.nD Cert.FhInRefIdeal.τ).loc Cert.FhInRefIdeal.main_arg5) = m' ((c.tc : Thread Cert.FhInRefIdeal.nD Cert.FhInRefIdeal.τ).loc Cert.FhInRefIdeal.main_arg5)
          ∧ r.2.mem ((c.tc : Thread Cert.FhInRefIdeal.nD Cert.FhInRefIdeal.τ).loc Cert.FhInRefIdeal.main_arg6) = m' ((c.tc : Thread Cert.FhInRefIdeal.nD Cert.FhInRefIdeal.τ).loc Cert.FhInRefIdeal.main_arg6)
          ∧ r.2.mem ((c.tc : Thread Cert.FhInRefIdeal.nD Cert.FhInRefIdeal.τ).loc Cert.FhInRefIdeal.main_arg7) = m' ((c.tc : Thread Cert.FhInRefIdeal.nD Cert.FhInRefIdeal.τ).loc Cert.FhInRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hFhIn : Cert.FhIn.Facts) (hFhInIdeal : Cert.FhInIdeal.Facts) (hFhInRefIdeal : Cert.FhInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_FhIn (hFhIn := hFhIn)
    ∧ quiescent_FhInIdeal (hFhInIdeal := hFhInIdeal)
    ∧ quiescent_FhInRefIdeal (hFhInRefIdeal := hFhInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_FhIn_FhInIdeal
    ∧ algebraic_FhInIdeal_FhInRefIdeal (hFhInIdeal := hFhInIdeal) (hFhInRefIdeal := hFhInRefIdeal)
-- ==== Pre_finite.lean ====
abbrev S8x4096x16x96 : Shape := ⟨4, ![8, 4096, 16, 96]⟩
abbrev S8x4096x16x64 : Shape := ⟨4, ![8, 4096, 16, 64]⟩
abbrev S8x256x16x96 : Shape := ⟨4, ![8, 256, 16, 96]⟩
abbrev S8x256x16x64 : Shape := ⟨4, ![8, 256, 16, 64]⟩
abbrev S_ : Shape := ⟨0, ![]⟩

class Facts : Prop where
  bcast_S_S8x4096x16x96 : S_.BroadcastsInDim S8x4096x16x96 (![] : Fin 0 → Fin S8x4096x16x96.rank)
  reducesTo_S8x4096x16x96_S_d0_1_2_3 : S8x4096x16x96.ReducesTo [0, 1, 2, 3] S_
  h_S_ : 0 < S_.numel
  bcast_S_S8x256x16x96 : S_.BroadcastsInDim S8x256x16x96 (![] : Fin 0 → Fin S8x256x16x96.rank)
  reducesTo_S8x256x16x96_S_d0_1_2_3 : S8x256x16x96.ReducesTo [0, 1, 2, 3] S_

variable [Facts]

def fn {F : FTy → Type} [FloatOps F] (main_arg0 : FVec F S8x4096x16x96 .f32) (main_arg1 : FVec F S8x4096x16x96 .f32) (main_arg2 : FVec F S8x4096x16x64 .f32) (main_arg3 : FVec F S8x256x16x96 .f32) (main_arg4 : FVec F S8x256x16x64 .f32) : IVec S_ 1 :=
  let main_v0 : FVec F S8x4096x16x96 .f32 := Host.absf main_arg0
  let main_cst : FVec F S_ .f32 := constant S_ .f32 0x7F800000#32
  let main_v1 : FVec F S8x4096x16x96 .f32 := broadcastInDim S8x4096x16x96 ![] bcast_S_S8x4096x16x96 main_cst
  let main_v2 : IVec S8x4096x16x96 1 := cmpf .olt main_v0 main_v1
  let main_c : IVec S_ 1 := constantI S_ 1 1#1
  let main_v3 : IVec S_ 1 := (fun x v => Host.reduce IntOp.andi x v reducesTo_S8x4096x16x96_S_d0_1_2_3 h_S_) main_v2 main_c
  let main_v4 : FVec F S8x4096x16x96 .f32 := Host.absf main_arg1
  let main_cst_0 : FVec F S_ .f32 := constant S_ .f32 0x7F800000#32
  let main_v5 : FVec F S8x4096x16x96 .f32 := broadcastInDim S8x4096x16x96 ![] bcast_S_S8x4096x16x96 main_cst_0
  let main_v6 : IVec S8x4096x16x96 1 := cmpf .olt main_v4 main_v5
  let main_c_1 : IVec S_ 1 := constantI S_ 1 1#1
  let main_v7 : IVec S_ 1 := (fun x v => Host.reduce IntOp.andi x v reducesTo_S8x4096x16x96_S_d0_1_2_3 h_S_) main_v6 main_c_1
  let main_v8 : IVec S_ 1 := andi main_v3 main_v7
  let main_v9 : FVec F S8x256x16x96 .f32 := Host.absf main_arg3
  let main_cst_2 : FVec F S_ .f32 := constant S_ .f32 0x7F800000#32
  let main_v10 : FVec F S8x256x16x96 .f32 := broadcastInDim S8x256x16x96 ![] bcast_S_S8x256x16x96 main_cst_2
  let main_v11 : IVec S8x256x16x96 1 := cmpf .olt main_v9 main_v10
  let main_c_3 : IVec S_ 1 := constantI S_ 1 1#1
  let main_v12 : IVec S_ 1 := (fun x v => Host.reduce IntOp.andi x v reducesTo_S8x256x16x96_S_d0_1_2_3 h_S_) main_v11 main_c_3
  let main_v13 : IVec S_ 1 := andi main_v8 main_v12
  main_v13
-- ==== Kernel.lean ====
abbrev S8x4096x16x96 : Shape := ⟨4, ![8, 4096, 16, 96]⟩
abbrev S8x4096x16x64 : Shape := ⟨4, ![8, 4096, 16, 64]⟩
abbrev S8x256x16x96 : Shape := ⟨4, ![8, 256, 16, 96]⟩
abbrev S8x256x16x64 : Shape := ⟨4, ![8, 256, 16, 64]⟩
abbrev S_ : Shape := ⟨0, ![]⟩
abbrev S8x4096x16x128 : Shape := ⟨4, ![8, 4096, 16, 128]⟩
abbrev S8x4096x2048 : Shape := ⟨3, ![8, 4096, 2048]⟩
abbrev S8x2048x4096 : Shape := ⟨3, ![8, 2048, 4096]⟩
abbrev S8x256x16x128 : Shape := ⟨4, ![8, 256, 16, 128]⟩
abbrev S8x256x2048 : Shape := ⟨3, ![8, 256, 2048]⟩
abbrev S8x4096x1024 : Shape := ⟨3, ![8, 4096, 1024]⟩
abbrev S8x1024x4096 : Shape := ⟨3, ![8, 1024, 4096]⟩
abbrev S8x256x1024 : Shape := ⟨3, ![8, 256, 1024]⟩
abbrev S8x1024x256 : Shape := ⟨3, ![8, 1024, 256]⟩
abbrev S1x256x1024 : Shape := ⟨3, ![1, 256, 1024]⟩
abbrev S1x4096x256 : Shape := ⟨3, ![1, 4096, 256]⟩
abbrev S1x256x256 : Shape := ⟨3, ![1, 256, 256]⟩
abbrev S1x128x4096 : Shape := ⟨3, ![1, 128, 4096]⟩
abbrev S1x128x256 : Shape := ⟨3, ![1, 128, 256]⟩
abbrev S1x1024x128 : Shape := ⟨3, ![1, 1024, 128]⟩
abbrev S4096x2048 : Shape := ⟨2, ![4096, 2048]⟩
abbrev S256x2048 : Shape := ⟨2, ![256, 2048]⟩
abbrev S16x2048 : Shape := ⟨2, ![16, 2048]⟩
abbrev S1x16x2048 : Shape := ⟨3, ![1, 16, 2048]⟩
abbrev S256x16x2048 : Shape := ⟨3, ![256, 16, 2048]⟩
abbrev S16x16x2048 : Shape := ⟨3, ![16, 16, 2048]⟩
abbrev S1x128x1024 : Shape := ⟨3, ![1, 128, 1024]⟩
abbrev S128x1024 : Shape := ⟨2, ![128, 1024]⟩
abbrev S128x2048 : Shape := ⟨2, ![128, 2048]⟩
abbrev S4096x256 : Shape := ⟨2, ![4096, 256]⟩
abbrev S256x256 : Shape := ⟨2, ![256, 256]⟩
abbrev S2048 : Shape := ⟨1, ![2048]⟩
abbrev S1x2048 : Shape := ⟨2, ![1, 2048]⟩
abbrev S128x4096 : Shape := ⟨2, ![128, 4096]⟩
abbrev S128x256 : Shape := ⟨2, ![128, 256]⟩
abbrev S64x4096 : Shape := ⟨2, ![64, 4096]⟩
abbrev S64x256 : Shape := ⟨2, ![64, 256]⟩
abbrev S4096x1024 : Shape := ⟨2, ![4096, 1024]⟩
abbrev S256x1024 : Shape := ⟨2, ![256, 1024]⟩
abbrev S64x1024 : Shape := ⟨2, ![64, 1024]⟩
abbrev S1x1024 : Shape := ⟨2, ![1, 1024]⟩
abbrev S1024x128 : Shape := ⟨2, ![1024, 128]⟩

abbrev nBuf : Space → Nat
  | .hbm => 42
  | .vmem => 20
  | .smem => 0
  | _ => 0

abbrev bufTy : (tb : Table) → Fin (tcTables nBuf tb) → BufTy
  | .hbm, ⟨0, _⟩ => ⟨S8x4096x16x96, .f32⟩
  | .hbm, ⟨1, _⟩ => ⟨S8x4096x16x96, .f32⟩
  | .hbm, ⟨2, _⟩ => ⟨S8x4096x16x64, .f32⟩
  | .hbm, ⟨3, _⟩ => ⟨S8x256x16x96, .f32⟩
  | .hbm, ⟨4, _⟩ => ⟨S8x256x16x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096x16x96, .f32⟩
  | .hbm, ⟨14, _⟩ => ⟨S8x4096x16x96, .f32⟩
  | .hbm, ⟨15, _⟩ => ⟨S_, .i32⟩
  | .hbm, ⟨16, _⟩ => ⟨S_, .f32⟩
  | .hbm, ⟨17, _⟩ => ⟨S8x4096x16x128, .f32⟩
  | .hbm, ⟨18, _⟩ => ⟨S8x4096x2048, .f32⟩
  | .hbm, ⟨19, _⟩ => ⟨S8x4096x2048, .fp8e4m3⟩
  | .hbm, ⟨20, _⟩ => ⟨S8x2048x4096, .fp8e4m3⟩
  | .hbm, ⟨21, _⟩ => ⟨S8x4096x16x96, .f32⟩
  | .hbm, ⟨22, _⟩ => ⟨S8x4096x16x96, .f32⟩
  | .hbm, ⟨23, _⟩ => ⟨S_, .i32⟩
  | .hbm, ⟨24, _⟩ => ⟨S_, .f32⟩
  | .hbm, ⟨25, _⟩ => ⟨S8x4096x16x128, .f32⟩
  | .hbm, ⟨26, _⟩ => ⟨S8x4096x2048, .f32⟩
  | .hbm, ⟨27, _⟩ => ⟨S8x4096x2048, .fp8e4m3⟩
  | .hbm, ⟨28, _⟩ => ⟨S8x256x16x96, .f32⟩
  | .hbm, ⟨29, _⟩ => ⟨S8x256x16x96, .f32⟩
  | .hbm, ⟨30, _⟩ => ⟨S_, .i32⟩
  | .hbm, ⟨31, _⟩ => ⟨S_, .f32⟩
  | .hbm, ⟨32, _⟩ => ⟨S8x256x16x128, .f32⟩
  | .hbm, ⟨33, _⟩ => ⟨S8x256x2048, .f32⟩
  | .hbm, ⟨34, _⟩ => ⟨S8x256x2048, .fp8e4m3⟩
  | .hbm, ⟨35, _⟩ => ⟨S8x4096x1024, .f32⟩
  | .hbm, ⟨36, _⟩ => ⟨S8x4096x1024, .fp8e4m3⟩
  | .hbm, ⟨37, _⟩ => ⟨S8x1024x4096, .fp8e4m3⟩
  | .hbm, ⟨38, _⟩ => ⟨S8x256x1024, .f32⟩
  | .hbm, ⟨39, _⟩ => ⟨S8x256x1024, .fp8e4m3⟩
  | .hbm, ⟨40, _⟩ => ⟨S8x1024x256, .fp8e4m3⟩
  | .hbm, ⟨41, _⟩ => ⟨S8x4096x1024, .bf16⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x4096x256, .fp8e4m3⟩
  | .local _ .vmem, ⟨3, _⟩ => ⟨S1x4096x256, .fp8e4m3⟩
  | .local _ .vmem, ⟨4, _⟩ => ⟨S1x256x256, .fp8e4m3⟩
  | .local _ .vmem, ⟨5, _⟩ => ⟨S1x256x256, .fp8e4m3⟩
  | .local _ .vmem, ⟨6, _⟩ => ⟨S1x128x4096, .fp8e4m3⟩
  | .local _ .vmem, ⟨7, _⟩ => ⟨S1x128x4096, .fp8e4m3⟩
  | .local _ .vmem, ⟨8, _⟩ => ⟨S1x128x256, .fp8e4m3⟩
  | .local _ .vmem, ⟨9, _⟩ => ⟨S1x128x256, .fp8e4m3⟩
  | .local _ .vmem, ⟨10, _⟩ => ⟨S1x1024x128, .bf16⟩
  | .local _ .vmem, ⟨11, _⟩ => ⟨S1x1024x128, .bf16⟩
  | .local _ .vmem, ⟨12, _⟩ => ⟨S4096x2048, .bf16⟩
  | .local _ .vmem, ⟨13, _⟩ => ⟨S256x2048, .bf16⟩
  | .local _ .vmem, ⟨14, _⟩ => ⟨S16x2048, .bf16⟩
  | .local _ .vmem, ⟨15, _⟩ => ⟨S4096x2048, .bf16⟩
  | .local _ .vmem, ⟨16, _⟩ => ⟨S256x2048, .bf16⟩
  | .local _ .vmem, ⟨17, _⟩ => ⟨S16x2048, .bf16⟩
  | .local _ .vmem, ⟨18, _⟩ => ⟨S4096x2048, .fp8e4m3⟩
  | .local _ .vmem, ⟨19, _⟩ => ⟨S256x2048, .fp8e4m3⟩
  | _, _ => ⟨S8x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c0_i32 : BitVec 32 := 0#32
  let c255_i32 : BitVec 32 := 255#32
  let v0 : BitVec 32 := Scalar.maxsi c0_i32 arg0
  let v1 : BitVec 32 := Scalar.minsi c255_i32 v0
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.divsi v1 c4_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c4_i32 c0_i32_7
  let v26 : BitVec 32 := Scalar.extui v25
  let c0_i32_8 : BitVec 32 := 0#32
  let v27 : BitVec 1 := Scalar.cmpi .slt c4_i32 c0_i32_8
  let v28 : BitVec 32 := Scalar.extui v27
  let v29 : BitVec 32 := Scalar.subi v26 v28
  let v30 : BitVec 1 := Scalar.cmpi .ne v24 v29
  let v31 : BitVec 32 := Scalar.remsi v1 c4_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32 : BitVec 32 := 8#32
  let c0_i32_11 : BitVec 32 := 0#32
  let v36 : BitVec 1 := Scalar.cmpi .eq c8_i32 c0_i32_11
  let c1_i32_12 : BitVec 32 := 1#32
  let v37 : BitVec 32 := Scalar.select v36 c1_i32_12 c8_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v18.toNat, v45.toNat, v55.toNat]

def cc0_transform_1 (i : grid0.Coords) : Fin 3 → Nat :=
  let arg0 : BitVec 32 := BitVec.ofNat 32 (i 0).val
  let c0_i32 : BitVec 32 := 0#32
  let c255_i32 : BitVec 32 := 255#32
  let v0 : BitVec 32 := Scalar.maxsi c0_i32 arg0
  let v1 : BitVec 32 := Scalar.minsi c255_i32 v0
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.divsi v1 c4_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c4_i32 c0_i32_7
  let v26 : BitVec 32 := Scalar.extui v25
  let c0_i32_8 : BitVec 32 := 0#32
  let v27 : BitVec 1 := Scalar.cmpi .slt c4_i32 c0_i32_8
  let v28 : BitVec 32 := Scalar.extui v27
  let v29 : BitVec 32 := Scalar.subi v26 v28
  let v30 : BitVec 1 := Scalar.cmpi .ne v24 v29
  let v31 : BitVec 32 := Scalar.remsi v1 c4_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32 : BitVec 32 := 8#32
  let c0_i32_11 : BitVec 32 := 0#32
  let v36 : BitVec 1 := Scalar.cmpi .eq c8_i32 c0_i32_11
  let c1_i32_12 : BitVec 32 := 1#32
  let v37 : BitVec 32 := Scalar.select v36 c1_i32_12 c8_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  let c0_i32_23 : BitVec 32 := 0#32
  ![v18.toNat, c0_i32_22.toNat, v45.toNat]

def cc0_transform_2 (i : grid0.Coords) : Fin 3 → Nat :=
  let arg0 : BitVec 32 := BitVec.ofNat 32 (i 0).val
  let c0_i32 : BitVec 32 := 0#32
  let c255_i32 : BitVec 32 := 255#32
  let v0 : BitVec 32 := Scalar.maxsi c0_i32 arg0
  let v1 : BitVec 32 := Scalar.minsi c255_i32 v0
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.divsi v1 c4_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c4_i32 c0_i32_7
  let v26 : BitVec 32 := Scalar.extui v25
  let c0_i32_8 : BitVec 32 := 0#32
  let v27 : BitVec 1 := Scalar.cmpi .slt c4_i32 c0_i32_8
  let v28 : BitVec 32 := Scalar.extui v27
  let v29 : BitVec 32 := Scalar.subi v26 v28
  let v30 : BitVec 1 := Scalar.cmpi .ne v24 v29
  let v31 : BitVec 32 := Scalar.remsi v1 c4_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32 : BitVec 32 := 8#32
  let c0_i32_11 : BitVec 32 := 0#32
  let v36 : BitVec 1 := Scalar.cmpi .eq c8_i32 c0_i32_11
  let c1_i32_12 : BitVec 32 := 1#32
  let v37 : BitVec 32 := Scalar.select v36 c1_i32_12 c8_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c4_i32_16 : BitVec 32 := 4#32
  let c0_i32_17 : BitVec 32 := 0#32
  let v46 : BitVec 1 := Scalar.cmpi .eq c4_i32_16 c0_i32_17
  let c1_i32_18 : BitVec 32 := 1#32
  let v47 : BitVec 32 := Scalar.select v46 c1_i32_18 c4_i32_16
  let v48 : BitVec 32 := Scalar.remsi v1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  let c0_i32_23 : BitVec 32 := 0#32
  ![v18.toNat, c0_i32_22.toNat, v45.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32 : BitVec 32 := 4#32
  let v20 : BitVec 32 := Scalar.divsi v2 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c4_i32 c0_i32_8
  let v27 : BitVec 32 := Scalar.extui v26
  let c0_i32_9 : BitVec 32 := 0#32
  let v28 : BitVec 1 := Scalar.cmpi .slt c4_i32 c0_i32_9
  let v29 : BitVec 32 := Scalar.extui v28
  let v30 : BitVec 32 := Scalar.subi v27 v29
  let v31 : BitVec 1 := Scalar.cmpi .ne v25 v30
  let v32 : BitVec 32 := Scalar.remsi v2 c4_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32 : BitVec 32 := 8#32
  let c0_i32_12 : BitVec 32 := 0#32
  let v37 : BitVec 1 := Scalar.cmpi .eq c8_i32 c0_i32_12
  let c1_i32_13 : BitVec 32 := 1#32
  let v38 : BitVec 32 := Scalar.select v37 c1_i32_13 c8_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c4_i32_17 : BitVec 32 := 4#32
  let c0_i32_18 : BitVec 32 := 0#32
  let v47 : BitVec 1 := Scalar.cmpi .eq c4_i32_17 c0_i32_18
  let c1_i32_19 : BitVec 32 := 1#32
  let v48 : BitVec 32 := Scalar.select v47 c1_i32_19 c4_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  let c0_i32_24 : BitVec 32 := 0#32
  ![v19.toNat, v46.toNat, c0_i32_23.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32 : BitVec 32 := 4#32
  let v20 : BitVec 32 := Scalar.divsi v2 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c4_i32 c0_i32_8
  let v27 : BitVec 32 := Scalar.extui v26
  let c0_i32_9 : BitVec 32 := 0#32
  let v28 : BitVec 1 := Scalar.cmpi .slt c4_i32 c0_i32_9
  let v29 : BitVec 32 := Scalar.extui v28
  let v30 : BitVec 32 := Scalar.subi v27 v29
  let v31 : BitVec 1 := Scalar.cmpi .ne v25 v30
  let v32 : BitVec 32 := Scalar.remsi v2 c4_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32 : BitVec 32 := 8#32
  let c0_i32_12 : BitVec 32 := 0#32
  let v37 : BitVec 1 := Scalar.cmpi .eq c8_i32 c0_i32_12
  let c1_i32_13 : BitVec 32 := 1#32
  let v38 : BitVec 32 := Scalar.select v37 c1_i32_13 c8_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c4_i32_17 : BitVec 32 := 4#32
  let c0_i32_18 : BitVec 32 := 0#32
  let v47 : BitVec 1 := Scalar.cmpi .eq c4_i32_17 c0_i32_18
  let c1_i32_19 : BitVec 32 := 1#32
  let v48 : BitVec 32 := Scalar.select v47 c1_i32_19 c4_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  let c0_i32_24 : BitVec 32 := 0#32
  ![v19.toNat, v46.toNat, c0_i32_23.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c4_i32 : BitVec 32 := 4#32
  let v20 : BitVec 32 := Scalar.divsi v2 c4_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c4_i32 c0_i32_8
  let v27 : BitVec 32 := Scalar.extui v26
  let c0_i32_9 : BitVec 32 := 0#32
  let v28 : BitVec 1 := Scalar.cmpi .slt c4_i32 c0_i32_9
  let v29 : BitVec 32 := Scalar.extui v28
  let v30 : BitVec 32 := Scalar.subi v27 v29
  let v31 : BitVec 1 := Scalar.cmpi .ne v25 v30
  let v32 : BitVec 32 := Scalar.remsi v2 c4_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32 : BitVec 32 := 8#32
  let c0_i32_12 : BitVec 32 := 0#32
  let v37 : BitVec 1 := Scalar.cmpi .eq c8_i32 c0_i32_12
  let c1_i32_13 : BitVec 32 := 1#32
  let v38 : BitVec 32 := Scalar.select v37 c1_i32_13 c8_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c4_i32_17 : BitVec 32 := 4#32
  let c0_i32_18 : BitVec 32 := 0#32
  let v47 : BitVec 1 := Scalar.cmpi .eq c4_i32_17 c0_i32_18
  let c1_i32_19 : BitVec 32 := 1#32
  let v48 : BitVec 32 := Scalar.select v47 c1_i32_19 c4_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  ![v19.toNat, v56.toNat, v46.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x16x96 : Shape := ⟨4, ![8, 4096, 16, 96]⟩
abbrev S8x4096x16x64 : Shape := ⟨4, ![8, 4096, 16, 64]⟩
abbrev S8x256x16x96 : Shape := ⟨4, ![8, 256, 16, 96]⟩
abbrev S8x256x16x64 : Shape := ⟨4, ![8, 256, 16, 64]⟩
abbrev S8x4352x16x96 : Shape := ⟨4, ![8, 4352, 16, 96]⟩
abbrev S8x4352x16x64 : Shape := ⟨4, ![8, 4352, 16, 64]⟩
abbrev S8x16x4096x4352 : Shape := ⟨4, ![8, 16, 4096, 4352]⟩
abbrev S_ : Shape := ⟨0, ![]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x16x96, .f32⟩
  | .hbm, ⟨1, _⟩ => ⟨S8x4096x16x96, .f32⟩
  | .hbm, ⟨2, _⟩ => ⟨S8x4096x16x64, .f32⟩
  | .hbm, ⟨3, _⟩ => ⟨S8x256x16x96, .f32⟩
  | .hbm, ⟨4, _⟩ => ⟨S8x256x16x64, .f32⟩
  | .hbm, ⟨5, _⟩ => ⟨S8x4352x16x96, .f32⟩
  | .hbm, ⟨6, _⟩ => ⟨S8x4352x16x64, .f32⟩
  | .hbm, ⟨7, _⟩ => ⟨S8x16x4096x4352, .f32⟩
  | .hbm, ⟨8, _⟩ => ⟨S_, .f32⟩
  | .hbm, ⟨9, _⟩ => ⟨S_, .f32⟩
  | .hbm, ⟨10, _⟩ => ⟨S8x16x4096x4352, .f32⟩
  | .hbm, ⟨11, _⟩ => ⟨S8x16x4096x4352, .f32⟩
  | .hbm, ⟨12, _⟩ => ⟨S_, .f32⟩
  | .hbm, ⟨13, _⟩ => ⟨S8x16x4096, .f32⟩
  | .hbm, ⟨14, _⟩ => ⟨S_, .f32⟩
  | .hbm, ⟨15, _⟩ => ⟨S8x16x4096, .f32⟩
  | .hbm, ⟨16, _⟩ => ⟨S8x16x4096, .f32⟩
  | .hbm, ⟨17, _⟩ => ⟨S8x16x4096x1, .f32⟩
  | .hbm, ⟨18, _⟩ => ⟨S8x16x4096x4352, .f32⟩
  | .hbm, ⟨19, _⟩ => ⟨S8x16x4096x4352, .f32⟩
  | .hbm, ⟨20, _⟩ => ⟨S8x16x4096x4352, .f32⟩
  | .hbm, ⟨21, _⟩ => ⟨S_, .f32⟩
  | .hbm, ⟨22, _⟩ => ⟨S8x16x4096, .f32⟩
  | .hbm, ⟨23, _⟩ => ⟨S8x16x4096x1, .f32⟩
  | .hbm, ⟨24, _⟩ => ⟨S8x16x4096x4352, .f32⟩
  | .hbm, ⟨25, _⟩ => ⟨S8x16x4096x4352, .f32⟩
  | .hbm, ⟨26, _⟩ => ⟨S8x16x64x4096, .f32⟩
  | .hbm, ⟨27, _⟩ => ⟨S8x4096x16x64, .f32⟩
  | .hbm, ⟨28, _⟩ => ⟨S8x4096x1024, .f32⟩
  | .hbm, ⟨29, _⟩ => ⟨S8x4096x1024, .bf16⟩
  | _, _ => ⟨S8x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Ffn.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x1024x1024 : Shape := ⟨3, ![1, 1024, 1024]⟩
abbrev S1x16x1024 : Shape := ⟨3, ![1, 16, 1024]⟩
abbrev S1x1x1024 : Shape := ⟨3, ![1, 1, 1024]⟩
abbrev S1056x1024 : Shape := ⟨2, ![1056, 1024]⟩
abbrev S1024x2816 : Shape := ⟨2, ![1024, 2816]⟩
abbrev S16x1024 : Shape := ⟨2, ![16, 1024]⟩
abbrev S16 : Shape := ⟨1, ![16]⟩
abbrev S16x1 : Shape := ⟨2, ![16, 1]⟩
abbrev S1024x1 : Shape := ⟨2, ![1024, 1]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩

abbrev nBuf : Space → Nat
  | .hbm => 18
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024x1024, .bf16⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S1x2816, .f32⟩
  | .hbm, ⟨17, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x5632, .bf16⟩
  | .local _ .vmem, ⟨17, _⟩ => ⟨S3x2816, .f32⟩
  | .local _ .vmem, ⟨18, _⟩ => ⟨S1x2816, .f32⟩
  | .local _ .vmem, ⟨19, _⟩ => ⟨S2816x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x16x1024, .bf16⟩
  | .local _ .vmem, ⟨23, _⟩ => ⟨S1x16x1024, .bf16⟩
  | .local _ .vmem, ⟨24, _⟩ => ⟨S1x16x1024, .bf16⟩
  | .local _ .vmem, ⟨25, _⟩ => ⟨S1x16x1024, .bf16⟩
  | .local _ .vmem, ⟨26, _⟩ => ⟨S1x1024x1024, .f32⟩
  | .local _ .vmem, ⟨27, _⟩ => ⟨S1x1024x1024, .f32⟩
  | .local _ .vmem, ⟨28, _⟩ => ⟨S1056x1024, .bf16⟩
  | .local _ .vmem, ⟨29, _⟩ => ⟨S1056x1024, .bf16⟩
  | .local _ .vmem, ⟨30, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== FfnRefIdeal.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x5632, .f32⟩
  | .hbm, ⟨41, _⟩ => ⟨S8x4096x2816, .f32⟩
  | .hbm, ⟨42, _⟩ => ⟨S8x4096x2816, .f32⟩
  | .hbm, ⟨43, _⟩ => ⟨S_, .i32⟩
  | .hbm, ⟨44, _⟩ => ⟨S_, .f32⟩
  | .hbm, ⟨45, _⟩ => ⟨S8x4098x2816, .f32⟩
  | .hbm, ⟨46, _⟩ => ⟨S8x4096x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S1x2816, .f32⟩
  | .hbm, ⟨61, _⟩ => ⟨S2816, .f32⟩
  | .hbm, ⟨62, _⟩ => ⟨S1x1x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S1x1x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Mix.lean ====
abbrev S8x4096x1024 : Shape := ⟨3, ![8, 4096, 1024]⟩
abbrev S8x4096x512 : Shape := ⟨3, ![8, 4096, 512]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x1024x1024 : Shape := ⟨3, ![1, 1024, 1024]⟩
abbrev S1x16x1024 : Shape := ⟨3, ![1, 16, 1024]⟩
abbrev S1x1x1024 : Shape := ⟨3, ![1, 1, 1024]⟩
abbrev S1x1024x512 : Shape := ⟨3, ![1, 1024, 512]⟩
abbrev S1x16x512 : Shape := ⟨3, ![1, 16, 512]⟩
abbrev S1056x1024 : Shape := ⟨2, ![1056, 1024]⟩
abbrev S1024x2816 : Shape := ⟨2, ![1024, 2816]⟩
abbrev S16x512 : Shape := ⟨2, ![16, 512]⟩
abbrev S1024x512 : Shape := ⟨2, ![1024, 512]⟩
abbrev S16x1024 : Shape := ⟨2, ![16, 1024]⟩
abbrev S16 : Shape := ⟨1, ![16]⟩
abbrev S16x1 : Shape := ⟨2, ![16, 1]⟩
abbrev S1024x1 : Shape := ⟨2, ![1024, 1]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩

abbrev nBuf : Space → Nat
  | .hbm => 19
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024x1024, .bf16⟩
  | .hbm, ⟨14, _⟩ => ⟨S1024x5632, .bf16⟩
  | .hbm, ⟨15, _⟩ => ⟨S2816x1024, .bf16⟩
  | .hbm, ⟨16, _⟩ => ⟨S1x1024, .f32⟩
  | .hbm, ⟨17, _⟩ => ⟨S1x2816, .f32⟩
  | .hbm, ⟨18, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x5632, .bf16⟩
  | .local _ .vmem, ⟨17, _⟩ => ⟨S3x2816, .f32⟩
  | .local _ .vmem, ⟨18, _⟩ => ⟨S1x2816, .f32⟩
  | .local _ .vmem, ⟨19, _⟩ => ⟨S2816x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x16x512, .bf16⟩
  | .local _ .vmem, ⟨23, _⟩ => ⟨S1x16x512, .bf16⟩
  | .local _ .vmem, ⟨24, _⟩ => ⟨S1x16x512, .bf16⟩
  | .local _ .vmem, ⟨25, _⟩ => ⟨S1x16x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x16x512, .bf16⟩
  | .local _ .vmem, ⟨29, _⟩ => ⟨S1x16x512, .bf16⟩
  | .local _ .vmem, ⟨30, _⟩ => ⟨S1x16x512, .bf16⟩
  | .local _ .vmem, ⟨31, _⟩ => ⟨S1x16x512, .bf16⟩
  | .local _ .vmem, ⟨32, _⟩ => ⟨S1x1024x1024, .f32⟩
  | .local _ .vmem, ⟨33, _⟩ => ⟨S1x1024x1024, .f32⟩
  | .local _ .vmem, ⟨34, _⟩ => ⟨S1056x1024, .bf16⟩
  | .local _ .vmem, ⟨35, _⟩ => ⟨S1056x1024, .bf16⟩
  | .local _ .vmem, ⟨36, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixRefIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S8x1x1024 : Shape := ⟨3, ![8, 1, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S8x4096x512, .f32⟩
  | .hbm, ⟨14, _⟩ => ⟨S8x4096x512, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S_, .i32⟩
  | .hbm, ⟨47, _⟩ => ⟨S_, .f32⟩
  | .hbm, ⟨48, _⟩ => ⟨S8x4098x2816, .f32⟩
  | .hbm, ⟨49, _⟩ => ⟨S8x4096x2816, .f32⟩
  | .hbm, ⟨50, _⟩ => ⟨S1x2816, .f32⟩
  | .hbm, ⟨51, _⟩ => ⟨S2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S1x2816, .f32⟩
  | .hbm, ⟨64, _⟩ => ⟨S2816, .f32⟩
  | .hbm, ⟨65, _⟩ => ⟨S1x1x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S1x1x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S_, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== FhIn.lean ====
abbrev S8x4096x1024 : Shape := ⟨3, ![8, 4096, 1024]⟩
abbrev S1024 : Shape := ⟨1, ![1024]⟩
abbrev S8x1x1024 : Shape := ⟨3, ![8, 1, 1024]⟩
abbrev S1024x2048 : Shape := ⟨2, ![1024, 2048]⟩
abbrev S3x1536 : Shape := ⟨2, ![3, 1536]⟩
abbrev S1536 : Shape := ⟨1, ![1536]⟩
abbrev S512x1024 : Shape := ⟨2, ![512, 1024]⟩
abbrev S1x1024 : Shape := ⟨2, ![1, 1024]⟩
abbrev S1x1536 : Shape := ⟨2, ![1, 1536]⟩
abbrev S512x512 : Shape := ⟨2, ![512, 512]⟩
abbrev S_ : Shape := ⟨0, ![]⟩
abbrev S8x32x128x1024 : Shape := ⟨4, ![8, 32, 128, 1024]⟩
abbrev S8x4096x512 : Shape := ⟨3, ![8, 4096, 512]⟩
abbrev S1x512x1024 : Shape := ⟨3, ![1, 512, 1024]⟩
abbrev S1x16x1024 : Shape := ⟨3, ![1, 16, 1024]⟩
abbrev S1x1x1024 : Shape := ⟨3, ![1, 1, 1024]⟩
abbrev S1x32x16x1024 : Shape := ⟨4, ![1, 32, 16, 1024]⟩
abbrev S1x512x512 : Shape := ⟨3, ![1, 512, 512]⟩
abbrev S544x1024 : Shape := ⟨2, ![544, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x2048 : Shape := ⟨2, ![544, 2048]⟩
abbrev S32x16x1024 : Shape := ⟨3, ![32, 16, 1024]⟩
abbrev S544x1536 : Shape := ⟨2, ![544, 1536]⟩
abbrev S512x1536 : Shape := ⟨2, ![512, 1536]⟩

abbrev nBuf : Space → Nat
  | .hbm => 33
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S3x1536, .f32⟩
  | .hbm, ⟨6, _⟩ => ⟨S1536, .f32⟩
  | .hbm, ⟨7, _⟩ => ⟨S512x1024, .bf16⟩
  | .hbm, ⟨8, _⟩ => ⟨S1024x2048, .bf16⟩
  | .hbm, ⟨9, _⟩ => ⟨S1x1024, .f32⟩
  | .hbm, ⟨10, _⟩ => ⟨S1x1536, .f32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S8x32x128x1024, .bf16⟩
  | .hbm, ⟨31, _⟩ => ⟨S8x4096x512, .bf16⟩
  | .hbm, ⟨32, _⟩ => ⟨S8x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x2048, .bf16⟩
  | .local _ .vmem, ⟨12, _⟩ => ⟨S3x1536, .f32⟩
  | .local _ .vmem, ⟨13, _⟩ => ⟨S1x1536, .f32⟩
  | .local _ .vmem, ⟨14, _⟩ => ⟨S512x1024, .bf16⟩
  | .local _ .vmem, ⟨15, _⟩ => ⟨S512x512, .bf16⟩
  | .local _ .vmem, ⟨16, _⟩ => ⟨S1x32x16x1024, .bf16⟩
  | .local _ .vmem, ⟨17, _⟩ => ⟨S1x32x16x1024, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .f32⟩
  | .local _ .vmem, ⟨21, _⟩ => ⟨S1x512x512, .f32⟩
  | .local _ .vmem, ⟨22, _⟩ => ⟨S544x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FhInRefIdeal.lean ====
abbrev S8x4096x1024 : Shape := ⟨3, ![8, 4096, 1024]⟩
abbrev S1024 : Shape := ⟨1, ![1024]⟩
abbrev S8x1x1024 : Shape := ⟨3, ![8, 1, 1024]⟩
abbrev S1024x2048 : Shape := ⟨2, ![1024, 2048]⟩
abbrev S3x1536 : Shape := ⟨2, ![3, 1536]⟩
abbrev S1536 : Shape := ⟨1, ![1536]⟩
abbrev S512x1024 : Shape := ⟨2, ![512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x512 : Shape := ⟨3, ![8, 4096, 512]⟩
abbrev S8x128x32x1024 : Shape := ⟨4, ![8, 128, 32, 1024]⟩
abbrev S8x32x128x1024 : Shape := ⟨4, ![8, 32, 128, 1024]⟩
abbrev S8x4096x1536 : Shape := ⟨3, ![8, 4096, 1536]⟩
abbrev S8x4098x1536 : Shape := ⟨3, ![8, 4098, 1536]⟩
abbrev S1x1536 : Shape := ⟨2, ![1, 1536]⟩
abbrev S1x1x1536 : Shape := ⟨3, ![1, 1, 1536]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S3x1536, .f32⟩
  | .hbm, ⟨6, _⟩ => ⟨S1536, .f32⟩
  | .hbm, ⟨7, _⟩ => ⟨S512x1024, .bf16⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x2048, .f32⟩
  | .hbm, ⟨32, _⟩ => ⟨S8x4096x512, .f32⟩
  | .hbm, ⟨33, _⟩ => ⟨S512x1024, .f32⟩
  | .hbm, ⟨34, _⟩ => ⟨S8x4096x1024, .f32⟩
  | .hbm, ⟨35, _⟩ => ⟨S8x128x32x1024, .f32⟩
  | .hbm, ⟨36, _⟩ => ⟨S8x32x128x1024, .f32⟩
  | .hbm, ⟨37, _⟩ => ⟨S8x4096x1536, .f32⟩
  | .hbm, ⟨38, _⟩ => ⟨S_, .i32⟩
  | .hbm, ⟨39, _⟩ => ⟨S_, .f32⟩
  | .hbm, ⟨40, _⟩ => ⟨S8x4098x1536, .f32⟩
  | .hbm, ⟨41, _⟩ => ⟨S8x4096x1536, .f32⟩
  | .hbm, ⟨42, _⟩ => ⟨S1x1536, .f32⟩
  | .hbm, ⟨43, _⟩ => ⟨S1536, .f32⟩
  | .hbm, ⟨44, _⟩ => ⟨S1x1x1536, .f32⟩
  | .hbm, ⟨45, _⟩ => ⟨S8x4096x1536, .f32⟩
  | .hbm, ⟨46, _⟩ => ⟨S8x4096x1536, .f32⟩
  | .hbm, ⟨47, _⟩ => ⟨S8x4096x1536, .f32⟩
  | .hbm, ⟨48, _⟩ => ⟨S1x1536, .f32⟩
  | .hbm, ⟨49, _⟩ => ⟨S1536, .f32⟩
  | .hbm, ⟨50, _⟩ => ⟨S1x1x1536, .f32⟩
  | .hbm, ⟨51, _⟩ => ⟨S8x4096x1536, .f32⟩
  | .hbm, ⟨52, _⟩ => ⟨S8x4096x1536, .f32⟩
  | .hbm, ⟨53, _⟩ => ⟨S8x4096x1536, .f32⟩
  | .hbm, ⟨54, _⟩ => ⟨S8x4096x1536, .f32⟩
  | .hbm, ⟨55, _⟩ => ⟨S1x1536, .f32⟩
  | .hbm, ⟨56, _⟩ => ⟨S1536, .f32⟩
  | .hbm, ⟨57, _⟩ => ⟨S1x1x1536, .f32⟩
  | .hbm, ⟨58, _⟩ => ⟨S8x4096x1536, .f32⟩
  | .hbm, ⟨59, _⟩ => ⟨S8x4096x1536, .f32⟩
  | .hbm, ⟨60, _⟩ => ⟨S8x4096x1536, .f32⟩
  | .hbm, ⟨61, _⟩ => ⟨S1x1x1536, .f32⟩
  | .hbm, ⟨62, _⟩ => ⟨S8x4096x1536, .f32⟩
  | .hbm, ⟨63, _⟩ => ⟨S8x4096x1536, .f32⟩
  | .hbm, ⟨64, _⟩ => ⟨S8x4096x512, .f32⟩
  | .hbm, ⟨65, _⟩ => ⟨S8x4096x512, .f32⟩
  | .hbm, ⟨66, _⟩ => ⟨S8x4096x512, .f32⟩
  | .hbm, ⟨67, _⟩ => ⟨S8x32x128x1024, .bf16⟩
  | .hbm, ⟨68, _⟩ => ⟨S8x4096x512, .f32⟩
  | .hbm, ⟨69, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Attn.Step.lean ====
module

public import proofs.«01_k».proof.Proof.Gen.KernelIdeal.Value
public import Idealize.ShloMosaic.Lib.Pointwise

/-! What one step of the attention kernel leaves: the scores it parks for the next step, and the output block it computes
from the parked scores. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first head's queries, and the second's: the two halves of the query block. -/
abbrev qLo (x0 : Vec F S1x256x1024 .fp8e4m3) : Vec F S1x128x1024 .fp8e4m3 :=
  View.ld x0 (Rect.unit (s := S1x256x1024) ![0, 0, 0] S1x128x1024.size inb_S1x256x1024_S1x128x1024_0_0_0)
abbrev qHi (x0 : Vec F S1x256x1024 .fp8e4m3) : Vec F S1x128x1024 .fp8e4m3 :=
  View.ld x0 (Rect.unit (s := S1x256x1024) ![0, 128, 0] S1x128x1024.size inb_S1x256x1024_S1x128x1024_0_128_0)

/-- The scores of the sequence's keys, those of the context's keys, and the offset the weights are taken at. -/
abbrev scores (x0 : Vec F S1x256x1024 .fp8e4m3) (x1 : Vec F S1x4096x256 .fp8e4m3) : Vec F S4096x2048 .bf16 :=
  k0_pay12 (k0_pay10 (qLo x0) (qHi x0) x1)
abbrev scoresCtx (x0 : Vec F S1x256x1024 .fp8e4m3) (x2 : Vec F S1x256x256 .fp8e4m3) : Vec F S256x2048 .bf16 :=
  k0_pay13 (k0_pay9 (qLo x0) (qHi x0)) x2
abbrev offset (x0 : Vec F S1x256x1024 .fp8e4m3) (x1 : Vec F S1x4096x256 .fp8e4m3) (x2 : Vec F S1x256x256 .fp8e4m3) :
    Vec F S16x2048 .bf16 :=
  k0_pay14 (k0_pay9 (qLo x0) (qHi x0)) (k0_pay10 (qLo x0) (qHi x0) x1) x2

/-- The output block computed from the value blocks, the parked scores and the parked offset. -/
abbrev tileOut (x3 : Vec F S1x128x4096 .fp8e4m3) (x4 : Vec F S1x128x256 .fp8e4m3) (s : Vec F S4096x2048 .bf16)
    (sc : Vec F S256x2048 .bf16) (o : Vec F S16x2048 .bf16) : Vec F S1x1024x128 .bf16 :=
  k0_pay4 (k0_pay15 x3) (k0_pay16 x4)
    (k0_pay17 x3 (View.ld (k0_pay7 o s) (Rect.unit (s := S4096x2048) ![0, 0] S4096x1024.size inb_S4096x2048_S4096x1024_0_0)))
    (k0_pay18 x4)
    (View.ld (k0_pay8 o sc) (Rect.unit (s := S256x2048) ![0, 0] S256x1024.size inb_S256x2048_S256x1024_0_0))
    (View.ld (k0_pay7 o s) (Rect.unit (s := S4096x2048) ![0, 1024] S4096x1024.size inb_S4096x2048_S4096x1024_0_1024))
    (View.ld (k0_pay8 o sc) (Rect.unit (s := S256x2048) ![0, 1024] S256x1024.size inb_S256x2048_S256x1024_0_1024))

variable (c : Dev nD) (i : grid0.Coords)
  (a1 : Memref sig .tc .vmem S1x256x1024 .fp8e4m3) (h1 : a1.IsWhole)
  (a2 : Memref sig .tc .vmem S1x4096x256 .fp8e4m3) (h2 : a2.IsWhole)
  (a3 : Memref sig .tc .vmem S1x256x256 .fp8e4m3) (h3 : a3.IsWhole)
  (a4 : Memref sig .tc .vmem S1x128x4096 .fp8e4m3) (h4 : a4.IsWhole)
  (a5 : Memref sig .tc .vmem S1x128x256 .fp8e4m3) (h5 : a5.IsWhole)
  (a6 : Memref sig .tc .vmem S1x1024x128 .bf16) (h6 : a6.IsWhole)
  (a7 : Memref sig .tc .vmem S4096x2048 .bf16) (h7 : a7.IsWhole)
  (a8 : Memref sig .tc .vmem S256x2048 .bf16) (h8 : a8.IsWhole)
  (a9 : Memref sig .tc .vmem S16x2048 .bf16) (h9 : a9.IsWhole)
  (a10 : Memref sig .tc .vmem S4096x2048 .bf16) (h10 : a10.IsWhole)
  (a11 : Memref sig .tc .vmem S256x2048 .bf16) (h11 : a11.IsWhole)
  (a12 : Memref sig .tc .vmem S16x2048 .bf16) (h12 : a12.IsWhole)
  (a13 : Memref sig .tc .vmem S4096x2048 .fp8e4m3) (h13 : a13.IsWhole)
  (a14 : Memref sig .tc .vmem S256x2048 .fp8e4m3) (h14 : a14.IsWhole)
  (x0 : Vec F S1x256x1024 .fp8e4m3) (x1 : Vec F S1x4096x256 .fp8e4m3) (x2 : Vec F S1x256x256 .fp8e4m3)
  (x3 : Vec F S1x128x4096 .fp8e4m3) (x4 : Vec F S1x128x256 .fp8e4m3)
  (xs0 : Vec F S4096x2048 .bf16) (xs1 : Vec F S256x2048 .bf16) (xs2 : Vec F S16x2048 .bf16)
  (xs3 : Vec F S4096x2048 .bf16) (xs4 : Vec F S256x2048 .bf16) (xs5 : Vec F S16x2048 .bf16)

theorem out0_B_5_eq (hc0 : ¬cond0_0 i) (hc1 : ¬cond0_1 i) (hc2 : cond0_2 i) :
    out0_B_5 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2 = tileOut x3 x4 xs0 xs1 xs2 := by
  unfold out0_B_5
  rw [View.read_writes_eq_canon _ _ _ (cover0_B_5 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2)]
  unfold kernelRun0_B
  dsimp only
  sl_unfold_words
  first
    | rw [View.canon_unit_zero (S := S1x1024x128) hz3]
    | rw [View.canon_cons_unit_zero (S := S1x1024x128) hz3]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem out0_C_5_eq (hc0 : ¬cond0_0 i) (hc1 : cond0_1 i) (hc2 : ¬cond0_2 i) :
    out0_C_5 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5 = tileOut x3 x4 xs3 xs4 xs5 := by
  unfold out0_C_5
  rw [View.read_writes_eq_canon _ _ _ (cover0_C_5 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5)]
  unfold kernelRun0_C
  dsimp only
  sl_unfold_words
  first
    | rw [View.canon_unit_zero (S := S1x1024x128) hz3]
    | rw [View.canon_cons_unit_zero (S := S1x1024x128) hz3]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_A_0_eq (hc0 : cond0_0 i) (hc1 : cond0_1 i) (hc2 : ¬cond0_2 i) :
    sout0_A_0 c i a1 h1 a2 h2 a3 h3 a4 h4 a5 h5 a6 h6 a7 h7 a8 h8 a9 h9 a10 h10 a11 h11 a12 h12 a13 h13 a14 h14 hc0 hc1 hc2 x0 x1 x2 x3 x4  = scores x0 x1 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc0 hc1 hc2 x0 x1 x2 x3 x4 )]
  unfold kernelRun0_A
  dsimp only
  sl_unfold_words
  first
    | rw [View.canon_unit_zero (S := S4096x2048) hz2]
    | rw [View.canon_cons_unit_zero (S := S4096x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_A_1_eq (hc0 : cond0_0 i) (hc1 : cond0_1 i) (hc2 : ¬cond0_2 i) :
    sout0_A_1 c i a1 h1 a2 h2 a3 h3 a4 h4 a5 h5 a6 h6 a7 h7 a8 h8 a9 h9 a10 h10 a11 h11 a12 h12 a13 h13 a14 h14 hc0 hc1 hc2 x0 x1 x2 x3 x4  = scoresCtx x0 x2 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 hc0 hc1 hc2 x0 x1 x2 x3 x4 )]
  unfold kernelRun0_A
  dsimp only
  sl_unfold_words
  first
    | rw [View.canon_unit_zero (S := S256x2048) hz2]
    | rw [View.canon_cons_unit_zero (S := S256x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_A_2_eq (hc0 : cond0_0 i) (hc1 : cond0_1 i) (hc2 : ¬cond0_2 i) :
    sout0_A_2 c i a1 h1 a2 h2 a3 h3 a4 h4 a5 h5 a6 h6 a7 h7 a8 h8 a9 h9 a10 h10 a11 h11 a12 h12 a13 h13 a14 h14 hc0 hc1 hc2 x0 x1 x2 x3 x4  = offset x0 x1 x2 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 hc0 hc1 hc2 x0 x1 x2 x3 x4 )]
  unfold kernelRun0_A
  dsimp only
  sl_unfold_words
  first
    | rw [View.canon_unit_zero (S := S16x2048) hz2]
    | rw [View.canon_cons_unit_zero (S := S16x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_B_3_eq (hc0 : ¬cond0_0 i) (hc1 : ¬cond0_1 i) (hc2 : cond0_2 i) :
    sout0_B_3 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2 = scores x0 x1 := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2)]
  unfold kernelRun0_B
  dsimp only
  sl_unfold_words
  first
    | rw [View.canon_unit_zero (S := S4096x2048) hz2]
    | rw [View.canon_cons_unit_zero (S := S4096x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_B_4_eq (hc0 : ¬cond0_0 i) (hc1 : ¬cond0_1 i) (hc2 : cond0_2 i) :
    sout0_B_4 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2 = scoresCtx x0 x2 := by
  unfold sout0_B_4
  rw [View.read_writes_eq_canon _ _ _ (scover0_B_4 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2)]
  unfold kernelRun0_B
  dsimp only
  sl_unfold_words
  first
    | rw [View.canon_unit_zero (S := S256x2048) hz2]
    | rw [View.canon_cons_unit_zero (S := S256x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_B_5_eq (hc0 : ¬cond0_0 i) (hc1 : ¬cond0_1 i) (hc2 : cond0_2 i) :
    sout0_B_5 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2 = offset x0 x1 x2 := by
  unfold sout0_B_5
  rw [View.read_writes_eq_canon _ _ _ (scover0_B_5 c i a1 h1 a2 h2 a3 h3 a4 h4 a5 h5 a6 h6 a7 h7 a8 h8 a9 h9 a10 h10 a11 h11 a12 h12 a13 h13 a14 h14 hc0 hc1 hc2 x0 x1 x2 x3 x4 xs0 xs1 xs2)]
  unfold kernelRun0_B
  dsimp only
  sl_unfold_words
  first
    | rw [View.canon_unit_zero (S := S16x2048) hz2]
    | rw [View.canon_cons_unit_zero (S := S16x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_C_0_eq (hc0 : ¬cond0_0 i) (hc1 : cond0_1 i) (hc2 : ¬cond0_2 i) :
    sout0_C_0 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5 = scores x0 x1 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5)]
  unfold kernelRun0_C
  dsimp only
  sl_unfold_words
  first
    | rw [View.canon_unit_zero (S := S4096x2048) hz2]
    | rw [View.canon_cons_unit_zero (S := S4096x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_C_1_eq (hc0 : ¬cond0_0 i) (hc1 : cond0_1 i) (hc2 : ¬cond0_2 i) :
    sout0_C_1 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5 = scoresCtx x0 x2 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5)]
  unfold kernelRun0_C
  dsimp only
  sl_unfold_words
  first
    | rw [View.canon_unit_zero (S := S256x2048) hz2]
    | rw [View.canon_cons_unit_zero (S := S256x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

theorem sout0_C_2_eq (hc0 : ¬cond0_0 i) (hc1 : cond0_1 i) (hc2 : ¬cond0_2 i) :
    sout0_C_2 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5 = offset x0 x1 x2 := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 hc0 hc1 hc2 x0 x1 x2 x3 x4 xs3 xs4 xs5)]
  unfold kernelRun0_C
  dsimp only
  sl_unfold_words
  first
    | rw [View.canon_unit_zero (S := S16x2048) hz2]
    | rw [View.canon_cons_unit_zero (S := S16x2048) hz2]
  simp only [View.readCov_eq_canon', View.canon_unit_zero (S := S4096x2048) hz2, View.canon_unit_zero (S := S256x2048) hz2,
    View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S4096x2048) hz2, View.ld_unit_zero (S := S256x2048) hz2,
    View.ld_unit_zero (S := S16x2048) hz2, View.ld_unit_zero (S := S1x4096x256) hz3, View.ld_unit_zero (S := S1x256x256) hz3,
    View.ld_unit_zero (S := S1x128x4096) hz3, View.ld_unit_zero (S := S1x128x256) hz3]
  try rfl

end Cert.KernelIdeal.Attn
end
-- ==== Proof.Attn.Array.lean ====
module

public import proofs.«01_k».proof.Proof.Attn.Step

/-! The array the attention kernel leaves, block by block: the step after a tile's own writes the tile's output, from the
scores that tile's step parked. -/

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value

variable {F : FTy → Type} [FloatOps F]
variable (m : (ℓ : Loc nD τ sig) → Buf (Elt F) ℓ) (c : Dev nD)

/-- An even step parks its scores in the first triple of buffers, -/
theorem park_even (t : Fin cfg0.N) (h : t.val % 2 = 0) :
    (outsAt0 m c t.val t.isLt).2.1 = scores (iblk m c 0 t) (iblk m c 1 t)
    ∧ (outsAt0 m c t.val t.isLt).2.2.1 = scoresCtx (iblk m c 0 t) (iblk m c 2 t)
    ∧ (outsAt0 m c t.val t.isLt).2.2.2.1 = offset (iblk m c 0 t) (iblk m c 1 t) (iblk m c 2 t) := by
  by_cases h0 : t.val % 257 = 0
  · rw [outsAt0_A m c t h0 h (by omega)]
    dsimp only
    rw [sout0_A_0_eq, sout0_A_1_eq, sout0_A_2_eq]
    exact ⟨rfl, rfl, rfl⟩
  · rw [outsAt0_C m c t h0 h (by omega)]
    dsimp only
    rw [sout0_C_0_eq, sout0_C_1_eq, sout0_C_2_eq]
    exact ⟨rfl, rfl, rfl⟩

/-- and an odd step in the second. -/
theorem park_odd (t : Fin cfg0.N) (h : t.val % 2 = 1) :
    (outsAt0 m c t.val t.isLt).2.2.2.2.1 = scores (iblk m c 0 t) (iblk m c 1 t)
    ∧ (outsAt0 m c t.val t.isLt).2.2.2.2.2.1 = scoresCtx (iblk m c 0 t) (iblk m c 2 t)
    ∧ (outsAt0 m c t.val t.isLt).2.2.2.2.2.2 = offset (iblk m c 0 t) (iblk m c 1 t) (iblk m c 2 t) := by
  have hN : t.val < 257 := lt_of_lt_of_eq t.isLt N_0
  rw [outsAt0_B m c t (by omega) (by omega) h]
  dsimp only
  rw [sout0_B_3_eq, sout0_B_4_eq, sout0_B_5_eq]
  exact ⟨rfl, rfl, rfl⟩

/-- The output block of tile `n`: its values are read one step later than its queries and keys. -/
abbrev tile (n : Nat) (hn : n + 1 < cfg0.N) : Vec F S1x1024x128 .bf16 :=
  tileOut (iblk m c 3 ⟨n + 1, hn⟩) (iblk m c 4 ⟨n + 1, hn⟩)
    (scores (iblk m c 0 ⟨n, Nat.lt_of_succ_lt hn⟩) (iblk m c 1 ⟨n, Nat.lt_of_succ_lt hn⟩))
    (scoresCtx (iblk m c 0 ⟨n, Nat.lt_of_succ_lt hn⟩) (iblk m c 2 ⟨n, Nat.lt_of_succ_lt hn⟩))
    (offset (iblk m c 0 ⟨n, Nat.lt_of_succ_lt hn⟩) (iblk m c 1 ⟨n, Nat.lt_of_succ_lt hn⟩) (iblk m c 2 ⟨n, Nat.lt_of_succ_lt hn⟩))

/-- Step `n + 1` leaves tile `n`'s output block. -/
theorem out_succ (n : Nat) (hn : n + 1 < cfg0.N) : (outsAt0 m c (n + 1) hn).1 = tile m c n hn := by
  have hN : n + 1 < 257 := lt_of_lt_of_eq hn N_0
  by_cases h : n % 2 = 0
  · rw [outsAt0_B m c ⟨n + 1, hn⟩ (by dsimp only; omega) (by dsimp only; omega) (by dsimp only; omega)]
    dsimp only
    rw [out0_B_5_eq]
    obtain ⟨e0, e1, e2⟩ := park_even m c ⟨n, Nat.lt_of_succ_lt hn⟩ h
    dsimp only at e0 e1 e2
    simp only [Nat.add_sub_cancel]
    rw [e0, e1, e2]
  · rw [outsAt0_C m c ⟨n + 1, hn⟩ (by dsimp only; omega) (by dsimp only; omega) (by dsimp only; omega)]
    dsimp only
    rw [out0_C_5_eq]
    obtain ⟨e0, e1, e2⟩ := park_odd m c ⟨n, Nat.lt_of_succ_lt hn⟩ (by dsimp only; omega)
    dsimp only at e0 e1 e2
    simp only [Nat.add_sub_cancel]
    rw [e0, e1, e2]

/-- Where each window's block lies at a step. -/
theorem index0 : ∀ t : Fin cfg0.N, win0_0.index t = ![min t.val 255 / 32, min t.val 255 / 4 % 8, min t.val 255 % 4] := by decide +kernel
theorem index1 : ∀ t : Fin cfg0.N, win0_1.index t = ![min t.val 255 / 32, 0, min t.val 255 / 4 % 8] := by decide +kernel
theorem index2 : ∀ t : Fin cfg0.N, win0_2.index t = ![min t.val 255 / 32, 0, min t.val 255 / 4 % 8] := by decide +kernel
theorem index3 : ∀ t : Fin cfg0.N, win0_3.index t = ![(t.val - 1) / 32, (t.val - 1) / 4 % 8, 0] := by decide +kernel
theorem index4 : ∀ t : Fin cfg0.N, win0_4.index t = ![(t.val - 1) / 32, (t.val - 1) / 4 % 8, 0] := by decide +kernel
theorem index5 : ∀ t : Fin cfg0.N, win0_5.index t = ![(t.val - 1) / 32, (t.val - 1) % 4, (t.val - 1) / 4 % 8] := by decide +kernel
theorem flush5 : ∀ t : Fin cfg0.N, (cfg0.win 5).flush t = true → 1 ≤ t.val := by decide +kernel
theorem flush5' : ∀ t : Fin cfg0.N, 1 ≤ t.val → (cfg0.win 5).flush t = true := by decide +kernel

/-- The tile an entry of the output lies in. -/
def tileOf (b : Fin 8) (l : Fin 4096) (d : Fin 1024) : Nat := b.val * 32 + d.val / 128 * 4 + l.val / 1024

theorem tileOf_lt (b : Fin 8) (l : Fin 4096) (d : Fin 1024) : tileOf b l d + 1 < cfg0.N := by
  rw [show cfg0.N = 257 from N_0]; unfold tileOf; omega

/-- The output array. -/
def result : Buf (Elt F) ((c : Thread nD τ).loc main_v27) := fun i =>
  tile m c (tileOf (i 0) (i 1) (i 2)) (tileOf_lt (i 0) (i 1) (i 2))
    (ix3 (0 : Fin 1) (⟨(i 1).val % 1024, Nat.mod_lt _ (by decide)⟩ : Fin 1024) (⟨(i 2).val % 128, Nat.mod_lt _ (by decide)⟩ : Fin 128))

theorem result_at (n : Nat) (hn : n + 1 < cfg0.N) (i : S8x4096x1024.Idx) (y : S1x1024x128.Idx)
    (h0 : (i 0).val = n / 32) (h1 : (i 1).val = n % 4 * 1024 + (y 1).val) (h2 : (i 2).val = n / 4 % 8 * 128 + (y 2).val) :
    result m c i = tile m c n hn y := by
  have hN : n + 1 < 257 := lt_of_lt_of_eq hn N_0
  have y0 : (y 0).val < 1 := (y 0).isLt
  have y1 : (y 1).val < 1024 := (y 1).isLt
  have y2 : (y 2).val < 128 := (y 2).isLt
  have e : tileOf (i 0) (i 1) (i 2) = n := by unfold tileOf; omega
  have key : ∀ (n' : Nat) (hn' : n' + 1 < cfg0.N) (_ : n' = n), tile m c n' hn' = tile m c n hn := by
    intro n' hn' e; subst e; rfl
  unfold result
  rw [key _ _ e]
  congr 1
  funext a
  apply Fin.ext
  match a with
  | ⟨0, _⟩ => show 0 = (y 0).val; omega
  | ⟨1, _⟩ => show (i 1).val % 1024 = (y 1).val; omega
  | ⟨2, _⟩ => show (i 2).val % 128 = (y 2).val; omega

theorem flushed_eq (t : Fin cfg0.N) (hf : (cfg0.win 5).flush t = true) :
    (dats m 0 c).flushed 5 t = ((cfg0.win 5).blk t).view.read (Elt F) (result m c) := by
  have h1 := flush5 t hf
  obtain ⟨_ | n, hn⟩ := t
  · exact absurd h1 (by simp)
  rw [flushed5]
  funext y
  rw [View.read_apply]
  refine (congrFun (out_succ m c n hn) _).trans ?_
  refine (result_at m c n hn _ _ ?_ ?_ ?_).symm
  · show win0_5.index ⟨n + 1, hn⟩ 0 * 1 + 1 * (y 0).val = _
    rw [index5]; have : (y 0).val < 1 := (y 0).isLt; simp; omega
  · show win0_5.index ⟨n + 1, hn⟩ 1 * 1024 + 1 * (y 1).val = _
    rw [index5]; simp
  · show win0_5.index ⟨n + 1, hn⟩ 2 * 128 + 1 * (y 2).val = _
    rw [index5]; simp

theorem final : (dats m 0 c).arrAt 5 cfg0.N = result m c :=
  (dats m 0 c).arrAt_eq_of_cover 5 (result m c) (flushed_eq m c) fun i => by
    have h0 : (i 0 : Nat) < 8 := (i 0).isLt
    have h1 : (i 1 : Nat) < 4096 := (i 1).isLt
    have h2 : (i 2 : Nat) < 1024 := (i 2).isLt
    have hn := tileOf_lt (i 0) (i 1) (i 2)
    refine ⟨⟨tileOf (i 0) (i 1) (i 2) + 1, hn⟩, flush5' _ (Nat.le_add_left _ _), ?_⟩
    show i ∈ ((View.whole main_v27).slice (win0_5.rect ⟨tileOf (i 0) (i 1) (i 2) + 1, hn⟩)).set
    rw [View.set_slice_whole, Rect.mem_set_unit]
    intro a
    match a with
    | ⟨0, _⟩ =>
      show win0_5.index _ 0 * 1 ≤ (i 0 : Nat) ∧ (i 0 : Nat) < win0_5.index _ 0 * 1 + 1
      rw [index5]; simp [tileOf]; omega
    | ⟨1, _⟩ =>
      show win0_5.index _ 1 * 1024 ≤ (i 1 : Nat) ∧ (i 1 : Nat) < win0_5.index _ 1 * 1024 + 1024
      rw [index5]; simp [tileOf]; omega
    | ⟨2, _⟩ =>
      show win0_5.index _ 2 * 128 ≤ (i 2 : Nat) ∧ (i 2 : Nat) < win0_5.index _ 2 * 128 + 128
      rw [index5]; simp [tileOf]; omega

end Cert.KernelIdeal.Attn

end
-- ==== Proof.Attn.Consts.lean ====
module

public import Idealize.ShloMosaic.Lib.Pointwise

/-! The constants of the kernel and of the reference, as extended reals. -/

@[expose] public section

noncomputable section

open Idealize.ShloMosaic

namespace Cert.Attn

theorem ofBits_zero_fp8 : Ideal.ofBits .fp8e4m3 0x00#8 = 0 := by simp [Ideal.ofBits, Ideal.e4m3fn]

theorem ofBits_one_fp8 : Ideal.ofBits .fp8e4m3 0x38#8 = 1 := by
  rw [show (1 : EReal) = ((1 : ℝ) : EReal) by norm_cast]
  simp [Ideal.ofBits, Ideal.e4m3fn, -EReal.coe_mul]; norm_num

theorem ofBits_bot_bf16 : Ideal.ofBits .bf16 0xFF80#16 = ⊥ := by simp [Ideal.ofBits, Ideal.ieee]

theorem ofBits_bot_f32 : Ideal.ofBits .f32 0xFF800000#32 = ⊥ := by simp [Ideal.ofBits, Ideal.ieee]

theorem ofBits_eight_f32 : Ideal.ofBits .f32 0x41000000#32 = ((8 : ℝ) : EReal) := by
  simp [Ideal.ofBits, Ideal.ieee, -EReal.coe_mul]; norm_num

theorem ofBits_two_f32 : Ideal.ofBits .f32 0x40000000#32 = ((2 : ℝ) : EReal) := by
  simp [Ideal.ofBits, Ideal.ieee, -EReal.coe_mul]; norm_num

theorem ofBits_96_f32 : Ideal.ofBits .f32 0x42C00000#32 = ((96 : ℝ) : EReal) := by
  simp [Ideal.ofBits, Ideal.ieee, -EReal.coe_mul]; norm_num

end Cert.Attn

end
-- ==== Proof.Attn.Entry.lean ====
module

public import proofs.«01_k».proof.Proof.Attn.Array
public import proofs.«01_k».proof.Proof.Attn.Consts
public import Idealize.ShloMosaic.Lib.StableHlo.ReadAt

/-! What the kernel's arrays hold when it starts, and what a block of one of them holds at a step. -/

@[expose] public section

set_option maxRecDepth 16384

noncomputable section

open Idealize.ShloMosaic Idealize.ShloMosaic.TcCoe

namespace Cert.KernelIdeal.Attn

open Cert.KernelIdeal Cert.KernelIdeal.Gen Cert.Attn

variable (m : (ℓ : Loc nD τ sig) → Buf (Elt Ideal) ℓ) (c : Dev nD)

/-- The square root of the softmax's scale in base two, by which the queries and the keys are both multiplied. -/
def halfScale : EReal := Ideal.sqrt (Ideal.div 1
  (Ideal.sqrt (FloatOps.ofBits (F := Ideal) .f32 0x42C00000#32) * Ideal.log (FloatOps.ofBits (F := Ideal) .f32 0x40000000#32)))

/-- The arguments. -/
abbrev argQ : S8x4096x16x96.Idx → EReal := m (c, Proc.tc.devRef main_arg0)
abbrev argK : S8x4096x16x96.Idx → EReal := m (c, Proc.tc.devRef main_arg1)
abbrev argV : S8x4096x16x64.Idx → EReal := m (c, Proc.tc.devRef main_arg2)
abbrev argKCtx : S8x256x16x96.Idx → EReal := m (c, Proc.tc.devRef main_arg3)
abbrev argVCtx : S8x256x16x64.Idx → EReal := m (c, Proc.tc.devRef main_arg4)

/-- The queries, a channel per row: 16 heads of 96 channels, each filled up with zeros to 128. -/
theorem queries_at (b : Fin 8) (ch : Fin 2048) (l : Fin 4096) : @Eq EReal (V m c main_v10 (ix3 b ch l))
    (if h : ch.val % 128 < 96 then
      argQ m c (ix4 b l (⟨ch.val / 128, by omega⟩ : Fin 16) (⟨ch.val % 128, h⟩ : Fin 96)) * halfScale else 0) := by
  unfold V
  after_reads_at
  have hch : ch.val / 128 < 16 := by omega
  by_cases h : ch.val % 128 < 96
  · rw [dif_pos ⟨hch, h⟩, dif_pos h]; unfold halfScale; rfl
  · rw [dif_neg (fun h' => h h'.2), dif_neg h]
    show (((0#32 : BitVec 32).toInt : ℝ) : EReal) = 0
    simp

theorem keys_at (b : Fin 8) (k : Fin 4096) (ch : Fin 2048) : @Eq EReal (V m c main_v15 (ix3 b k ch))
    (if h : ch.val % 128 < 96 then
      argK m c (ix4 b k (⟨ch.val / 128, by omega⟩ : Fin 16) (⟨ch.val % 128, h⟩ : Fin 96)) * halfScale else 0) := by
  unfold V
  after_reads_at
  have hch : ch.val / 128 < 16 := by omega
  by_cases h : ch.val % 128 < 96
  · rw [dif_pos ⟨hch, h⟩, dif_pos h]; unfold halfScale; rfl
  · rw [dif_neg (fun h' => h h'.2), dif_neg h]
    show (((0#32 : BitVec 32).toInt : ℝ) : EReal) = 0
    simp

theorem keysCtx_at (b : Fin 8) (k : Fin 256) (ch : Fin 2048) : @Eq EReal (V m c main_v20 (ix3 b k ch))
    (if h : ch.val % 128 < 96 then
      argKCtx m c (ix4 b k (⟨ch.val / 128, by omega⟩ : Fin 16) (⟨ch.val % 128, h⟩ : Fin 96)) * halfScale else 0) := by
  unfold V
  after_reads_at
  have hch : ch.val / 128 < 16 := by omega
  by_cases h : ch.val % 128 < 96
  · rw [dif_pos ⟨hch, h⟩, dif_pos h]; unfold halfScale; rfl
  · rw [dif_neg (fun h' => h h'.2), dif_neg h]
    show (((0#32 : BitVec 32).toInt : ℝ) : EReal) = 0
    simp

theorem values_at (b : Fin 8) (ch : Fin 1024) (l : Fin 4096) : @Eq EReal (V m c main_v23 (ix3 b ch l))
    (argV m c (ix4 b l (⟨ch.val / 64, by omega⟩ : Fin 16) (⟨ch.val % 64, by omega⟩ : Fin 64))) := by
  unfold V
  after_reads_at

theorem valuesCtx_at (b : Fin 8) (ch : Fin 1024) (l : Fin 256) : @Eq EReal (V m c main_v26 (ix3 b ch l))
    (argVCtx m c (ix4 b l (⟨ch.val / 64, by omega⟩ : Fin 16) (⟨ch.val % 64, by omega⟩ : Fin 64))) := by
  unfold V
  after_reads_at

end Cert.KernelIdeal.Attn

end
-- ==== Proof.Attn.Blocks.lean ====
module

public import proofs.«01_k».proof.Proof.Attn.Array
public import proofs.«01_k».proof.Proof.Attn.Consts
public import Idealize.ShloMosaic.Lib.StableHlo.ReadAt

/-! A block of each array at a step. -/

@[expose] public section

set_option maxRecDepth 16384

noncomputable section

open Idealize.ShloMosaic Idealize.ShloMosaic.TcCoe

namespace Cert.KernelIdeal.Attn

open Cert.KernelIdeal Cert.KernelIdeal.Gen Cert.Attn

variable (m : (ℓ : Loc nD τ sig) → Buf (Elt Ideal) ℓ) (c : Dev nD)

theorem read0 (X : Buf (Elt Ideal) ((c : Thread nD τ).loc main_v10)) (t : Fin cfg0.N) (y : S1x256x1024.Idx) (i : S8x2048x4096.Idx)
    (h0 : (i 0).val = win0_0.index t 0 * 1 + 1 * (y 0).val) (h1 : (i 1).val = win0_0.index t 1 * 256 + 1 * (y 1).val)
    (h2 : (i 2).val = win0_0.index t 2 * 1024 + 1 * (y 2).val) : ((cfg0.win 0).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem iblk0_at (t : Fin cfg0.N) (ht : t.val ≤ 255) (x : Fin 256) (r : Fin 1024) :
    iblk m c 0 t (ix3 (0 : Fin 1) x r) = V m c main_v10 (ix3 (⟨t.val / 32, by omega⟩ : Fin 8) (⟨t.val / 4 % 8 * 256 + x.val, by omega⟩ : Fin 2048) (⟨t.val % 4 * 1024 + r.val, by omega⟩ : Fin 4096)) := by
  have hm : min t.val 255 = t.val := min_eq_left ht
  refine read0 c (V m c main_v10) _ _ _ ?_ ?_ ?_ <;> rw [index0, hm] <;> simp

theorem read1 (X : Buf (Elt Ideal) ((c : Thread nD τ).loc main_v15)) (t : Fin cfg0.N) (y : S1x4096x256.Idx) (i : S8x4096x2048.Idx)
    (h0 : (i 0).val = win0_1.index t 0 * 1 + 1 * (y 0).val) (h1 : (i 1).val = win0_1.index t 1 * 4096 + 1 * (y 1).val)
    (h2 : (i 2).val = win0_1.index t 2 * 256 + 1 * (y 2).val) : ((cfg0.win 1).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem iblk1_at (t : Fin cfg0.N) (ht : t.val ≤ 255) (k : Fin 4096) (x : Fin 256) :
    iblk m c 1 t (ix3 (0 : Fin 1) k x) = V m c main_v15 (ix3 (⟨t.val / 32, by omega⟩ : Fin 8) k (⟨t.val / 4 % 8 * 256 + x.val, by omega⟩ : Fin 2048)) := by
  have hm : min t.val 255 = t.val := min_eq_left ht
  refine read1 c (V m c main_v15) _ _ _ ?_ ?_ ?_ <;> rw [index1, hm] <;> simp

theorem read2 (X : Buf (Elt Ideal) ((c : Thread nD τ).loc main_v20)) (t : Fin cfg0.N) (y : S1x256x256.Idx) (i : S8x256x2048.Idx)
    (h0 : (i 0).val = win0_2.index t 0 * 1 + 1 * (y 0).val) (h1 : (i 1).val = win0_2.index t 1 * 256 + 1 * (y 1).val)
    (h2 : (i 2).val = win0_2.index t 2 * 256 + 1 * (y 2).val) : ((cfg0.win 2).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem iblk2_at (t : Fin cfg0.N) (ht : t.val ≤ 255) (k : Fin 256) (x : Fin 256) :
    iblk m c 2 t (ix3 (0 : Fin 1) k x) = V m c main_v20 (ix3 (⟨t.val / 32, by omega⟩ : Fin 8) k (⟨t.val / 4 % 8 * 256 + x.val, by omega⟩ : Fin 2048)) := by
  have hm : min t.val 255 = t.val := min_eq_left ht
  refine read2 c (V m c main_v20) _ _ _ ?_ ?_ ?_ <;> rw [index2, hm] <;> simp

theorem read3 (X : Buf (Elt Ideal) ((c : Thread nD τ).loc main_v23)) (t : Fin cfg0.N) (y : S1x128x4096.Idx) (i : S8x1024x4096.Idx)
    (h0 : (i 0).val = win0_3.index t 0 * 1 + 1 * (y 0).val) (h1 : (i 1).val = win0_3.index t 1 * 128 + 1 * (y 1).val)
    (h2 : (i 2).val = win0_3.index t 2 * 4096 + 1 * (y 2).val) : ((cfg0.win 3).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem iblk3_at (n : Nat) (hn : n + 1 < cfg0.N) (e : Fin 128) (k : Fin 4096) :
    iblk m c 3 ⟨n + 1, hn⟩ (ix3 (0 : Fin 1) e k)
      = V m c main_v23 (ix3 (⟨n / 32, by have := lt_of_lt_of_eq hn N_0; omega⟩ : Fin 8)
          (⟨n / 4 % 8 * 128 + e.val, by omega⟩ : Fin 1024) k) := by
  refine read3 c (V m c main_v23) _ _ _ ?_ ?_ ?_ <;> rw [index3] <;> simp

theorem read4 (X : Buf (Elt Ideal) ((c : Thread nD τ).loc main_v26)) (t : Fin cfg0.N) (y : S1x128x256.Idx) (i : S8x1024x256.Idx)
    (h0 : (i 0).val = win0_4.index t 0 * 1 + 1 * (y 0).val) (h1 : (i 1).val = win0_4.index t 1 * 128 + 1 * (y 1).val)
    (h2 : (i 2).val = win0_4.index t 2 * 256 + 1 * (y 2).val) : ((cfg0.win 4).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem iblk4_at (n : Nat) (hn : n + 1 < cfg0.N) (e : Fin 128) (k : Fin 256) :
    iblk m c 4 ⟨n + 1, hn⟩ (ix3 (0 : Fin 1) e k)
      = V m c main_v26 (ix3 (⟨n / 32, by have := lt_of_lt_of_eq hn N_0; omega⟩ : Fin 8)
          (⟨n / 4 % 8 * 128 + e.val, by omega⟩ : Fin 1024) k) := by
  refine read4 c (V m c main_v26) _ _ _ ?_ ?_ ?_ <;> rw [index4] <;> simp

end Cert.KernelIdeal.Attn

end
-- ==== Proof.Attn.Offset.lean ====
module

public import proofs.«01_k».proof.Proof.Attn.Step
public import proofs.«01_k».proof.Proof.Attn.Consts

/-! The offset a step of the attention kernel takes its weights at, at an index. -/

@[expose] public section

set_option maxRecDepth 16384

noncomputable section

open Idealize.ShloMosaic Idealize.ShloMosaic.TcCoe

namespace Cert.KernelIdeal.Attn

open Cert.KernelIdeal Cert.KernelIdeal.Gen Cert.Attn

variable (x0 : Vec Ideal S1x256x1024 .fp8e4m3) (x1 : Vec Ideal S1x4096x256 .fp8e4m3) (x2 : Vec Ideal S1x256x256 .fp8e4m3)

/-- What becomes of the two columns' maxima. -/
abbrev offsetOf (u v : FVec Ideal S2048 .bf16) : FVec Ideal S16x2048 .bf16 :=
  shapeCast S16x2048 (broadcastTo S16x2048 (shapeCast S1x2048 (truncf .bf16
    (subf (extf .f32 (maximumf (shapeCast S1x2048 u shapeCasts_S2048_S1x2048) (shapeCast S1x2048 v shapeCasts_S2048_S1x2048))
        bitsLt_bf16_f32)
      (broadcast S1x2048 (Scalar.ofBits .f32 0x41000000#32 : Ideal .f32))) bitsLt_bf16_f32) shapeCasts_S1x2048_S1x2048)
    broadcasts_S1x2048_S16x2048) shapeCasts_S16x2048_S16x2048

theorem offsetOf_apply (u v : FVec Ideal S2048 .bf16) (k : Fin 16) (q : Fin 2048) :
    offsetOf u v (ix2 k q) = max (u (ix1 q)) (v (ix1 q)) - ((8 : ℝ) : EReal) := by
  unfold offsetOf
  pointwise
  rw [ofBits_eight_f32]

theorem colMax4096 (w : FVec Ideal S4096x2048 .bf16) (h : S4096x2048.Reduces [0] S2048) (h1) (h2) (q : Fin 2048) :
    multiReduction (F := Ideal) .maximumf [0] S2048 w 0xFF80#16 h h1 h2 (ix1 q)
      = Finset.univ.fold max ⊥ fun x : Fin 4096 => w (ix2 x q) := by
  refine (Ideal.multiReduction_maximumf_single w _ h h1 h2 (ix1 q)).trans ?_
  rw [show (FloatOps.ofBits (F := Ideal) .bf16 0xFF80#16 : EReal) = ⊥ from ofBits_bot_bf16]
  refine congrArg (fun f => Finset.fold max (⊥ : EReal) f Finset.univ) (funext fun x => congrArg w (funext fun a => Fin.ext ?_))
  match a with
  | ⟨0, _⟩ => rfl
  | ⟨1, _⟩ => rfl

theorem colMax256 (w : FVec Ideal S256x2048 .bf16) (h : S256x2048.Reduces [0] S2048) (h1) (h2) (q : Fin 2048) :
    multiReduction (F := Ideal) .maximumf [0] S2048 w 0xFF80#16 h h1 h2 (ix1 q)
      = Finset.univ.fold max ⊥ fun x : Fin 256 => w (ix2 x q) := by
  refine (Ideal.multiReduction_maximumf_single w _ h h1 h2 (ix1 q)).trans ?_
  rw [show (FloatOps.ofBits (F := Ideal) .bf16 0xFF80#16 : EReal) = ⊥ from ofBits_bot_bf16]
  refine congrArg (fun f => Finset.fold max (⊥ : EReal) f Finset.univ) (funext fun x => congrArg w (funext fun a => Fin.ext ?_))
  match a with
  | ⟨0, _⟩ => rfl
  | ⟨1, _⟩ => rfl

/-- The offset: eight below the largest score. -/
theorem offset_at (k : Fin 16) (q : Fin 2048) : offset x0 x1 x2 (ix2 k q)
    = max (Finset.univ.fold max ⊥ fun x : Fin 4096 => scores x0 x1 (ix2 x q))
        (Finset.univ.fold max ⊥ fun x : Fin 256 => scoresCtx x0 x2 (ix2 x q)) - ((8 : ℝ) : EReal) := by
  unfold offset scores scoresCtx k0_pay12 k0_pay13 k0_pay14
  generalize k0_pay10 (qLo x0) (qHi x0) x1 = w1
  generalize k0_pay11 (k0_pay9 (qLo x0) (qHi x0)) x2 = w2
  refine (offsetOf_apply _ _ k q).trans ?_
  rw [show multiReduction (F := Ideal) .maximumf [0] S2048 w1 0xFF80#16 reduces_S4096x2048_S2048 (.inr rfl) rfl (ix1 q) = _ from colMax4096 w1 _ _ _ q,
    show multiReduction (F := Ideal) .maximumf [0] S2048 w2 0xFF80#16 reduces_S256x2048_S2048 (.inr rfl) rfl (ix1 q) = _ from colMax256 w2 _ _ _ q]
  simp only [shapeCast_self]

end Cert.KernelIdeal.Attn

end
-- ==== Proof.Attn.Tile.lean ====
module

public import proofs.«01_k».proof.Proof.Attn.Step
public import proofs.«01_k».proof.Proof.Attn.Consts

/-! The scores and the output block of one step of the attention kernel, at an index. A step works on two heads at once:
head `h` of the two has lanes `128 h …` of the query and key blocks, columns `1024 h …` of the scores and channels
`64 h …` of the value and output blocks. -/

@[expose] public section

set_option maxRecDepth 16384

noncomputable section

open Idealize.ShloMosaic Idealize.ShloMosaic.TcCoe

namespace Cert.KernelIdeal.Attn

open Cert.KernelIdeal Cert.KernelIdeal.Gen Cert.Attn

variable (x0 : Vec Ideal S1x256x1024 .fp8e4m3) (x1 : Vec Ideal S1x4096x256 .fp8e4m3) (x2 : Vec Ideal S1x256x256 .fp8e4m3)
  (x3 : Vec Ideal S1x128x4096 .fp8e4m3) (x4 : Vec Ideal S1x128x256 .fp8e4m3)
  (s : Vec Ideal S4096x2048 .bf16) (sc : Vec Ideal S256x2048 .bf16) (o : Vec Ideal S16x2048 .bf16)

/-- Lane `x` of head `h`; column `r` of head `h`; channel `e` of head `h`. -/
abbrev lane (h : Fin 2) (x : Fin 128) : Fin 256 := ⟨128 * h.val + x.val, by omega⟩
abbrev col (h : Fin 2) (r : Fin 1024) : Fin 2048 := ⟨1024 * h.val + r.val, by omega⟩
abbrev chan (h : Fin 2) (e : Fin 64) : Fin 128 := ⟨64 * h.val + e.val, by omega⟩

theorem scores_raw (k : Fin 4096) (q : Fin 2048) : scores x0 x1 (ix2 k q)
    = (∑ x : Fin 128, x1 (ix3 0 k ⟨x.val, by omega⟩) * if h : q.val < 1024 then x0 (ix3 0 ⟨x.val, by omega⟩ ⟨q.val, h⟩) else 0)
      + ∑ x : Fin 128, x1 (ix3 0 k ⟨128 + x.val, by omega⟩) *
          if h : q.val < 1024 then 0 else x0 (ix3 0 ⟨128 + x.val, by omega⟩ ⟨q.val - 1024, by omega⟩) := by
  unfold scores qLo qHi
  unfold_payloads
  pointwise
  rw [ofBits_zero_fp8]

theorem scoresCtx_raw (k : Fin 256) (q : Fin 2048) : scoresCtx x0 x2 (ix2 k q)
    = (∑ x : Fin 128, x2 (ix3 0 k ⟨x.val, by omega⟩) * if h : q.val < 1024 then x0 (ix3 0 ⟨x.val, by omega⟩ ⟨q.val, h⟩) else 0)
      + ∑ x : Fin 128, x2 (ix3 0 k ⟨128 + x.val, by omega⟩) *
          if h : q.val < 1024 then 0 else x0 (ix3 0 ⟨128 + x.val, by omega⟩ ⟨q.val - 1024, by omega⟩) := by
  unfold scoresCtx qLo qHi
  unfold_payloads
  pointwise
  rw [ofBits_zero_fp8]

/-- A head's scores: the other head's half of the block-diagonal product is zero. -/
theorem scores_at (h : Fin 2) (k : Fin 4096) (r : Fin 1024) :
    scores x0 x1 (ix2 k (col h r)) = ∑ x : Fin 128, x1 (ix3 0 k (lane h x)) * x0 (ix3 0 (lane h x) r) := by
  rw [scores_raw]
  have hr := r.isLt
  match h with
  | 0 =>
    simp only [col, lane, Fin.val_zero, Nat.mul_zero, Nat.zero_add, hr, dif_pos, mul_zero, Finset.sum_const_zero, add_zero]
  | 1 =>
    have e : ¬ (1024 * 1 + r.val < 1024) := by omega
    simp only [col, lane, Fin.val_one, e, dif_neg, mul_zero, Finset.sum_const_zero, zero_add, not_false_eq_true, Nat.mul_one,
      Nat.add_sub_cancel_left]

theorem scoresCtx_at (h : Fin 2) (k : Fin 256) (r : Fin 1024) :
    scoresCtx x0 x2 (ix2 k (col h r)) = ∑ x : Fin 128, x2 (ix3 0 k (lane h x)) * x0 (ix3 0 (lane h x) r) := by
  rw [scoresCtx_raw]
  have hr := r.isLt
  match h with
  | 0 =>
    simp only [col, lane, Fin.val_zero, Nat.mul_zero, Nat.zero_add, hr, dif_pos, mul_zero, Finset.sum_const_zero, add_zero]
  | 1 =>
    have e : ¬ (1024 * 1 + r.val < 1024) := by omega
    simp only [col, lane, Fin.val_one, e, dif_neg, mul_zero, Finset.sum_const_zero, zero_add, not_false_eq_true, Nat.mul_one,
      Nat.add_sub_cancel_left]

/-- The output block: a weighted sum of the values over the sum of the weights. -/
theorem tile_at (h : Fin 2) (r : Fin 1024) (e : Fin 64) : tileOut x3 x4 s sc o (ix3 0 r (chan h e))
    = ((∑ x : Fin 4096, x3 (ix3 0 (chan h e) x) *
            Ideal.exp2 (s (ix2 x (col h r)) - o (ix2 ⟨x.val % 16, Nat.mod_lt _ (by decide)⟩ (col h r))))
        + ∑ x : Fin 256, x4 (ix3 0 (chan h e) x) *
            Ideal.exp2 (sc (ix2 x (col h r)) - o (ix2 ⟨x.val % 16, Nat.mod_lt _ (by decide)⟩ (col h r))))
      * Ideal.div 1 ((∑ x : Fin 4096,
            Ideal.exp2 (s (ix2 x (col h r)) - o (ix2 ⟨x.val % 16, Nat.mod_lt _ (by decide)⟩ (col h r))))
        + ∑ x : Fin 256,
            Ideal.exp2 (sc (ix2 x (col h r)) - o (ix2 ⟨x.val % 16, Nat.mod_lt _ (by decide)⟩ (col h r)))) := by
  unfold tileOut
  unfold_payloads
  pointwise
  have he := e.isLt
  simp only [ofBits_one_fp8, one_mul]
  match h with
  | 0 =>
    simp only [col, chan, Fin.val_zero, Nat.mul_zero, Nat.zero_add, he, dif_pos]
    rfl
  | 1 =>
    have e' : ¬ (64 * 1 + e.val < 64) := by omega
    simp only [col, chan, Fin.val_one, e', dif_neg, not_false_eq_true, Nat.mul_one, Nat.add_sub_cancel_left]
    rfl

end Cert.KernelIdeal.Attn

end
-- ==== Proof.Attn.Softmax.lean ====
module

public import proofs.«01_k».proof.Proof.Attn.Consts

/-! The equation between the two forms of the softmax: weights that are powers of two, taken at an offset and divided out at
the end, and weights that are exponentials, taken at another offset and normalised first. -/

@[expose] public section

noncomputable section

open Idealize.ShloMosaic

namespace Cert.Attn

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplying by a nonnegative real distributes over any sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The largest of finitely many reals, at least one of them, is a real. -/
theorem fold_max_real {n : Nat} (f : Fin (n + 1) → ℝ) :
    ∃ r : ℝ, (Finset.univ.fold max (⊥ : EReal) fun x => ((f x : ℝ) : EReal)) = (r : EReal) := by
  have hlt : (Finset.univ.fold max (⊥ : EReal) fun x => ((f x : ℝ) : EReal)) < ⊤ :=
    (Finset.fold_max_lt _).mpr ⟨bot_lt_top, fun x _ => EReal.coe_lt_top _⟩
  have hgt : (⊥ : EReal) < (Finset.univ.fold max (⊥ : EReal) fun x => ((f x : ℝ) : EReal)) :=
    (Finset.lt_fold_max _).mpr (Or.inr ⟨0, Finset.mem_univ _, EReal.bot_lt_coe _⟩)
  exact ⟨_, (EReal.coe_toReal hlt.ne hgt.ne').symm⟩

/-- Weights taken with a common positive factor, divided out at the end. -/
theorem weighted_late {ι : Type*} [Fintype ι] [Nonempty ι] (v : ι → EReal) (E : ι → ℝ) (hE : ∀ i, 0 < E i) (c : ℝ) (hc : 0 < c) :
    (∑ i, v i * ((E i * c : ℝ) : EReal)) * Ideal.div 1 (∑ i, ((E i * c : ℝ) : EReal))
      = ∑ i, v i * ((E i / ∑ j, E j : ℝ) : EReal) := by
  have hZ : 0 < ∑ j, E j := Finset.sum_pos (fun i _ => hE i) Finset.univ_nonempty
  rw [coe_sum, ← Finset.sum_mul, Ideal.div_coe (ne_of_gt (mul_pos hZ hc)), one_mul, sum_mul_coe _ _ _ (by positivity)]
  refine Finset.sum_congr rfl fun i _ => ?_
  rw [mul_assoc, ← EReal.coe_mul]
  congr 2
  field_simp

/-- Weights taken with a common positive factor, normalised first. -/
theorem weighted_early {ι : Type*} [Fintype ι] [Nonempty ι] (v : ι → EReal) (E : ι → ℝ) (hE : ∀ i, 0 < E i) (c : ℝ) (hc : 0 < c) :
    (∑ i, v i * Ideal.div ((E i * c : ℝ) : EReal) (∑ j, ((E j * c : ℝ) : EReal)))
      = ∑ i, v i * ((E i / ∑ j, E j : ℝ) : EReal) := by
  have hZ : 0 < ∑ j, E j := Finset.sum_pos (fun i _ => hE i) Finset.univ_nonempty
  refine Finset.sum_congr rfl fun i _ => ?_
  rw [coe_sum, ← Finset.sum_mul, Ideal.div_coe (ne_of_gt (mul_pos hZ hc)), ← EReal.coe_mul]
  congr 2
  field_simp

theorem exp2_sub (t o : ℝ) : Ideal.exp2 ((t : EReal) - (o : EReal)) = ((Real.exp (t * Real.log 2) * Real.exp (-(o * Real.log 2)) : ℝ) : EReal) := by
  rw [← EReal.coe_sub, Ideal.exp2_coe]
  congr 1
  rw [← Real.exp_add, Real.rpow_eq_pow, Real.rpow_def_of_pos (by norm_num)]
  congr 1; ring

theorem exp_sub (s o : ℝ) : Ideal.exp ((s : EReal) - (o : EReal)) = ((Real.exp s * Real.exp (-o) : ℝ) : EReal) := by
  rw [← EReal.coe_sub, Ideal.exp_coe]
  congr 1
  rw [← Real.exp_add]
  congr 1

/-- The kernel's form over the sequence's keys and the context's keys, and the reference's over both together. -/
theorem softmax_eq (tA : Fin 4096 → ℝ) (tC : Fin 256 → ℝ) (s : Fin 4352 → ℝ) (vA : Fin 4096 → EReal) (vC : Fin 256 → EReal)
    (v : Fin 4352 → EReal) (o μ : ℝ)
    (hA : ∀ k : Fin 4096, s ⟨k.val, by omega⟩ = tA k * Real.log 2) (hC : ∀ k : Fin 256, s ⟨4096 + k.val, by omega⟩ = tC k * Real.log 2)
    (hvA : ∀ k : Fin 4096, v ⟨k.val, by omega⟩ = vA k) (hvC : ∀ k : Fin 256, v ⟨4096 + k.val, by omega⟩ = vC k) :
    ((∑ k, vA k * Ideal.exp2 ((tA k : EReal) - (o : EReal))) + ∑ k, vC k * Ideal.exp2 ((tC k : EReal) - (o : EReal)))
        * Ideal.div 1 ((∑ k, Ideal.exp2 ((tA k : EReal) - (o : EReal))) + ∑ k, Ideal.exp2 ((tC k : EReal) - (o : EReal)))
      = ∑ k, v k * Ideal.div (Ideal.exp ((s k : EReal) - (μ : EReal))) (∑ j, Ideal.exp ((s j : EReal) - (μ : EReal))) := by
  have split : ∀ f : Fin 4352 → EReal,
      ∑ k, f k = (∑ k : Fin 4096, f ⟨k.val, by omega⟩) + ∑ k : Fin 256, f ⟨4096 + k.val, by omega⟩ := fun f =>
    Fin.sum_univ_add (a := 4096) (b := 256) f
  have e1 := split fun k => v k * ((Real.exp (s k) * Real.exp (-(o * Real.log 2)) : ℝ) : EReal)
  have e2 := split fun k => ((Real.exp (s k) * Real.exp (-(o * Real.log 2)) : ℝ) : EReal)
  simp only [hA, hC, hvA, hvC] at e1 e2
  simp only [exp2_sub, exp_sub]
  rw [← e1, ← e2, weighted_late v (fun k => Real.exp (s k)) (fun k => Real.exp_pos _) _ (Real.exp_pos _),
    weighted_early v (fun k => Real.exp (s k)) (fun k => Real.exp_pos _) _ (Real.exp_pos _)]

end Cert.Attn

end
-- ==== Proof.Attn.Scores.lean ====
module

public import proofs.«01_k».proof.Proof.Attn.Softmax

/-! The scores of the kernel, in base two, from queries and keys that were both multiplied by the square root of the scale
and filled up with zeros. -/

@[expose] public section

noncomputable section

open Idealize.ShloMosaic

namespace Cert.Attn

theorem padded_dot (k q : Fin 96 → ℝ) (g : ℝ) :
    (∑ x : Fin 128, (if h : x.val < 96 then ((k ⟨x.val, h⟩ : ℝ) : EReal) * (g : EReal) else 0)
        * (if h : x.val < 96 then ((q ⟨x.val, h⟩ : ℝ) : EReal) * (g : EReal) else 0))
      = ((g * g * ∑ x, q x * k x : ℝ) : EReal) := by
  have split : ∀ f : Fin 128 → EReal, ∑ x, f x = (∑ x : Fin 96, f ⟨x.val, by omega⟩) + ∑ x : Fin 32, f ⟨96 + x.val, by omega⟩ :=
    fun f => Fin.sum_univ_add (a := 96) (b := 32) f
  have h0 : ∀ x : Fin 32, ¬ (96 + x.val < 96) := fun x => by omega
  have hx : ∀ x : Fin 96, ((k x : ℝ) : EReal) * (g : EReal) * (((q x : ℝ) : EReal) * (g : EReal)) = ((g * g * (q x * k x) : ℝ) : EReal) := by
    intro x
    rw [← EReal.coe_mul, ← EReal.coe_mul, ← EReal.coe_mul]
    congr 1
    ring
  rw [split]
  simp only [h0, dif_neg, not_false_eq_true, mul_zero, Finset.sum_const_zero, add_zero, Fin.is_lt, dif_pos, hx]
  rw [coe_sum, ← Finset.mul_sum]

theorem plain_dot (k q : Fin 96 → ℝ) (s : ℝ) (hs : s ≠ 0) :
    Ideal.div (∑ x : Fin 96, ((q x : ℝ) : EReal) * ((k x : ℝ) : EReal)) (s : EReal) = (((∑ x, q x * k x) / s : ℝ) : EReal) := by
  rw [Finset.sum_congr rfl (g := fun x : Fin 96 => ((q x * k x : ℝ) : EReal)) fun x _ => (EReal.coe_mul _ _).symm, coe_sum,
    Ideal.div_coe hs, ← EReal.coe_mul, mul_one_div]

/-- The square root of the scale in base two. -/
theorem half_real : Ideal.sqrt (Ideal.div 1 (Ideal.sqrt ((96 : ℝ) : EReal) * Ideal.log ((2 : ℝ) : EReal)))
    = ((Real.sqrt (1 / (Real.sqrt 96 * Real.log 2)) : ℝ) : EReal) := by
  have hlog : 0 < Real.log 2 := Real.log_pos (by norm_num)
  have hsq : 0 < Real.sqrt 96 := Real.sqrt_pos.mpr (by norm_num)
  rw [Ideal.sqrt_coe, if_neg (by norm_num), Ideal.log_coe, if_neg (by norm_num), ← EReal.coe_mul,
    Ideal.div_coe (ne_of_gt (mul_pos hsq hlog)), one_mul, Ideal.sqrt_coe, if_neg (not_lt.mpr (by positivity))]

theorem half_sq (z : ℝ) : z / Real.sqrt 96
    = Real.sqrt (1 / (Real.sqrt 96 * Real.log 2)) * Real.sqrt (1 / (Real.sqrt 96 * Real.log 2)) * z * Real.log 2 := by
  have hlog : 0 < Real.log 2 := Real.log_pos (by norm_num)
  have hsq : 0 < Real.sqrt 96 := Real.sqrt_pos.mpr (by norm_num)
  rw [Real.mul_self_sqrt (by positivity)]
  field_simp

end Cert.Attn

end
-- ==== Proof.Attn.Ref.lean ====
module

public import proofs.«01_k».proof.Proof.Gen.ReferenceIdeal.Read
public import proofs.«01_k».proof.Proof.Attn.Consts
public import Idealize.ShloMosaic.Lib.Pointwise

/-! The reference, read at an index: the attention of one query to the keys of the sequence and of the context. -/

@[expose] public section

set_option maxRecDepth 16384

noncomputable section

open Idealize.ShloMosaic

namespace Cert.ReferenceIdeal.Attn

open Cert.ReferenceIdeal Cert.ReferenceIdeal.Gen Cert.ReferenceIdeal.Read Cert.Attn

variable (x0 x1 : FVec Ideal S8x4096x16x96 .f32) (x2 : FVec Ideal S8x4096x16x64 .f32) (x3 : FVec Ideal S8x256x16x96 .f32)
  (x4 : FVec Ideal S8x256x16x64 .f32)

/-- The keys of the sequence, then those of the context. -/
def allKeys (b : Fin 8) (h : Fin 16) (k : Fin 4352) (x : Fin 96) : EReal :=
  if hk : k.val < 4096 then x1 (ix4 b (⟨k.val, hk⟩ : Fin 4096) h x) else x3 (ix4 b (⟨k.val - 4096, by omega⟩ : Fin 256) h x)

/-- The values of the sequence, then those of the context. -/
def allValues (b : Fin 8) (h : Fin 16) (k : Fin 4352) (e : Fin 64) : EReal :=
  if hk : k.val < 4096 then x2 (ix4 b (⟨k.val, hk⟩ : Fin 4096) h e) else x4 (ix4 b (⟨k.val - 4096, by omega⟩ : Fin 256) h e)

/-- One score. -/
def score (b : Fin 8) (h : Fin 16) (l : Fin 4096) (k : Fin 4352) : EReal :=
  Ideal.div (∑ x : Fin 96, (x0 (ix4 b l h x) : EReal) * allKeys x1 x3 b h k x) (Ideal.sqrt ((96 : ℝ) : EReal))

/-- The largest score of a query. -/
def top (b : Fin 8) (h : Fin 16) (l : Fin 4096) : EReal := Finset.univ.fold max ⊥ fun k => score x0 x1 x3 b h l k

theorem keys_eq (b : Fin 8) (k : Fin 4352) (h : Fin 16) (x : Fin 96) :
    (val_main_v0 (F := Ideal) x1 x3 (ix4 b k h x) : EReal) = allKeys x1 x3 b h k x := by
  unfold val_main_v0 allKeys
  pointwise

theorem values_eq (b : Fin 8) (k : Fin 4352) (h : Fin 16) (e : Fin 64) :
    (val_main_v1 (F := Ideal) x2 x4 (ix4 b k h e) : EReal) = allValues x2 x4 b h k e := by
  unfold val_main_v1 allValues
  pointwise

theorem score_eq (b : Fin 8) (h : Fin 16) (l : Fin 4096) (k : Fin 4352) :
    (val_main_v5 (F := Ideal) x0 x1 x3 (ix4 b h l k) : EReal) = score x0 x1 x3 b h l k := by
  rw [val_main_v5_apply, val_main_v2_apply, val_main_v4_apply, val_main_v3_apply, val_main_cst_apply, Ideal.hostDivf_def,
    Ideal.hostUnary_sqrt_def]
  unfold score
  rw [show (FloatOps.ofBits (F := Ideal) .f32 0x42C00000#32 : EReal) = ((96 : ℝ) : EReal) from ofBits_96_f32]
  congr 1
  refine Finset.sum_congr rfl fun x _ => ?_
  rw [← keys_eq]
  congr 1
  · exact congrArg x0 (funext fun a => Fin.ext (by match a with | ⟨0, _⟩ => rfl | ⟨1, _⟩ => rfl | ⟨2, _⟩ => rfl | ⟨3, _⟩ => rfl))
  · exact congrArg (val_main_v0 (F := Ideal) x1 x3) (funext fun a => Fin.ext (by match a with | ⟨0, _⟩ => rfl | ⟨1, _⟩ => rfl | ⟨2, _⟩ => rfl | ⟨3, _⟩ => rfl))

theorem top_eq (b : Fin 8) (h : Fin 16) (l : Fin 4096) :
    (val_main_v8 (F := Ideal) x0 x1 x3 (ix3 b h l) : EReal) = top x0 x1 x3 b h l := by
  rw [val_main_v8_apply, val_main_v7_apply, val_main_cst_1_apply]
  have e : (val_main_v6 (F := Ideal) x0 x1 x3 (ix3 b h l) : EReal) = top x0 x1 x3 b h l := by
    unfold val_main_v6 top
    simp only [← score_eq]
    generalize val_main_v5 (F := Ideal) x0 x1 x3 = y
    pointwise
    exact congrArg (fun z : EReal => Finset.univ.fold max z fun x : Fin 4352 => (y (ix4 b h l x) : EReal)) ofBits_bot_f32
  rw [e]
  show max (FloatOps.ofBits (F := Ideal) .f32 0xFF800000#32 : EReal) (top x0 x1 x3 b h l) = _
  rw [show (FloatOps.ofBits (F := Ideal) .f32 0xFF800000#32 : EReal) = ⊥ from ofBits_bot_f32, max_eq_right bot_le]

theorem weight_eq (b : Fin 8) (h : Fin 16) (l : Fin 4096) (k : Fin 4352) :
    (val_main_v12 (F := Ideal) x0 x1 x3 (ix4 b h l k) : EReal) = Ideal.exp (score x0 x1 x3 b h l k - top x0 x1 x3 b h l) := by
  rw [val_main_v12_apply, val_main_v11_apply, val_main_v10_apply, val_main_v9_apply, Ideal.hostUnary_exp_def, score_eq, ← top_eq]
  refine congrArg (fun z : EReal => Ideal.exp (score x0 x1 x3 b h l k - z)) ?_
  exact congrArg (val_main_v8 (F := Ideal) x0 x1 x3) (funext fun a => Fin.ext (by match a with | ⟨0, _⟩ => rfl | ⟨1, _⟩ => rfl | ⟨2, _⟩ => rfl))

theorem total_eq (b : Fin 8) (h : Fin 16) (l : Fin 4096) :
    (val_main_v13 (F := Ideal) x0 x1 x3 (ix3 b h l) : EReal) = ∑ k : Fin 4352, Ideal.exp (score x0 x1 x3 b h l k - top x0 x1 x3 b h l) := by
  rw [val_main_v13_apply, val_main_cst_2_apply, show (FloatOps.ofBits (F := Ideal) .f32 0x00000000#32 : EReal) = 0 from Ideal.ofBits_zero .f32, zero_add]
  refine Finset.sum_congr rfl fun k _ => ?_
  rw [← weight_eq]
  exact congrArg (val_main_v12 (F := Ideal) x0 x1 x3) (funext fun a => Fin.ext (by match a with | ⟨0, _⟩ => rfl | ⟨1, _⟩ => rfl | ⟨2, _⟩ => rfl | ⟨3, _⟩ => rfl))

theorem share_eq (b : Fin 8) (h : Fin 16) (l : Fin 4096) (k : Fin 4352) :
    (val_main_v16 (F := Ideal) x0 x1 x3 (ix4 b h l k) : EReal) = Ideal.div (Ideal.exp (score x0 x1 x3 b h l k - top x0 x1 x3 b h l))
      (∑ j : Fin 4352, Ideal.exp (score x0 x1 x3 b h l j - top x0 x1 x3 b h l)) := by
  rw [val_main_v16_apply, val_main_v15_apply, val_main_v14_apply, Ideal.hostDivf_def, weight_eq, ← total_eq]
  congr 1
  exact congrArg (val_main_v13 (F := Ideal) x0 x1 x3) (funext fun a => Fin.ext (by match a with | ⟨0, _⟩ => rfl | ⟨1, _⟩ => rfl | ⟨2, _⟩ => rfl))

theorem reference_at (b : Fin 8) (l : Fin 4096) (d : Fin 1024) :
    (val_main_v20 (F := Ideal) x0 x1 x2 x3 x4 (ix3 b l d) : EReal)
      = ∑ k : Fin 4352, allValues x2 x4 b (⟨d.val / 64, by omega⟩ : Fin 16) k (⟨d.val % 64, by omega⟩ : Fin 64)
          * Ideal.div (Ideal.exp (score x0 x1 x3 b (⟨d.val / 64, by omega⟩ : Fin 16) l k - top x0 x1 x3 b (⟨d.val / 64, by omega⟩ : Fin 16) l))
            (∑ j : Fin 4352, Ideal.exp (score x0 x1 x3 b (⟨d.val / 64, by omega⟩ : Fin 16) l j - top x0 x1 x3 b (⟨d.val / 64, by omega⟩ : Fin 16) l)) := by
  rw [val_main_v20_apply, val_main_v19_apply, val_main_v18_apply]
  show (val_main_v17 (F := Ideal) x0 x1 x2 x3 x4 _ : EReal) = _
  rw [val_main_v17_apply]
  refine Finset.sum_congr rfl fun k _ => ?_
  rw [← share_eq, ← values_eq]
  congr 1
  · refine congrArg (val_main_v1 (F := Ideal) x2 x4) (funext fun a => Fin.ext ?_)
    match a with
    | ⟨0, _⟩ => show ((b.val * 4096 + l.val) * 1024 + d.val) / 4194304 = b.val; omega
    | ⟨1, _⟩ => rfl
    | ⟨2, _⟩ => show ((b.val * 4096 + l.val) * 1024 + d.val) / 64 % 16 = d.val / 64; omega
    | ⟨3, _⟩ => show ((b.val * 4096 + l.val) * 1024 + d.val) % 64 = d.val % 64; omega
  · refine congrArg (val_main_v16 (F := Ideal) x0 x1 x3) (funext fun a => Fin.ext ?_)
    match a with
    | ⟨0, _⟩ => show ((b.val * 4096 + l.val) * 1024 + d.val) / 4194304 = b.val; omega
    | ⟨1, _⟩ => show ((b.val * 4096 + l.val) * 1024 + d.val) / 64 % 16 = d.val / 64; omega
    | ⟨2, _⟩ => show ((b.val * 4096 + l.val) * 1024 + d.val) / 1024 % 4096 = l.val; omega
    | ⟨3, _⟩ => rfl

end Cert.ReferenceIdeal.Attn

end
-- ==== Proof.Attn.Value.lean ====
module

public import proofs.«01_k».proof.Proof.Attn.Entry
public import proofs.«01_k».proof.Proof.Attn.Blocks
public import proofs.«01_k».proof.Proof.Attn.Offset
public import proofs.«01_k».proof.Proof.Attn.Tile
public import proofs.«01_k».proof.Proof.Attn.Scores
public import proofs.«01_k».proof.Proof.Attn.Ref

/-! The kernel's output array is the reference's. -/

@[expose] public section

set_option maxRecDepth 16384

noncomputable section

open Idealize.ShloMosaic Idealize.ShloMosaic.TcCoe

namespace Cert.KernelIdeal.Attn

open Cert.KernelIdeal Cert.KernelIdeal.Gen Cert.Attn
open Cert.ReferenceIdeal.Attn (allKeys allValues score top)

variable (m : (ℓ : Loc nD τ sig) → Buf (Elt Ideal) ℓ) (c : Dev nD)

/-- Tile `n`'s batch, and the head and the query its half `h` and row `r` stand for. -/
abbrev batch (n : Nat) (hn : n ≤ 255) : Fin 8 := ⟨n / 32, by omega⟩
abbrev head (n : Nat) (h : Fin 2) : Fin 16 := ⟨n / 4 % 8 * 2 + h.val, by omega⟩
abbrev query (n : Nat) (r : Fin 1024) : Fin 4096 := ⟨n % 4 * 1024 + r.val, by omega⟩

theorem scores_tile (t : Fin cfg0.N) (ht : t.val ≤ 255) (h : Fin 2) (k : Fin 4096) (r : Fin 1024) :
    scores (iblk m c 0 t) (iblk m c 1 t) (ix2 k (col h r))
      = ∑ x : Fin 128, (if hx : x.val < 96 then argK m c (ix4 (batch t.val ht) k (head t.val h) (⟨x.val, hx⟩ : Fin 96)) * halfScale else 0)
          * (if hx : x.val < 96 then argQ m c (ix4 (batch t.val ht) (query t.val r) (head t.val h) (⟨x.val, hx⟩ : Fin 96)) * halfScale else 0) := by
  rw [scores_at]
  refine Finset.sum_congr rfl fun x _ => ?_
  rw [iblk1_at m c t ht, iblk0_at m c t ht, keys_at, queries_at]
  have hm : (t.val / 4 % 8 * 256 + (128 * h.val + x.val)) % 128 = x.val := by omega
  have hd : (t.val / 4 % 8 * 256 + (128 * h.val + x.val)) / 128 = t.val / 4 % 8 * 2 + h.val := by omega
  by_cases hx : x.val < 96
  · have hx' : (t.val / 4 % 8 * 256 + (128 * h.val + x.val)) % 128 < 96 := by omega
    rw [dif_pos hx', dif_pos hx', dif_pos hx, dif_pos hx]
    simp only [hm, hd]
  · have hx' : ¬ (t.val / 4 % 8 * 256 + (128 * h.val + x.val)) % 128 < 96 := by omega
    rw [dif_neg hx', dif_neg hx', dif_neg hx, dif_neg hx]

theorem scoresCtx_tile (t : Fin cfg0.N) (ht : t.val ≤ 255) (h : Fin 2) (k : Fin 256) (r : Fin 1024) :
    scoresCtx (iblk m c 0 t) (iblk m c 2 t) (ix2 k (col h r))
      = ∑ x : Fin 128, (if hx : x.val < 96 then argKCtx m c (ix4 (batch t.val ht) k (head t.val h) (⟨x.val, hx⟩ : Fin 96)) * halfScale else 0)
          * (if hx : x.val < 96 then argQ m c (ix4 (batch t.val ht) (query t.val r) (head t.val h) (⟨x.val, hx⟩ : Fin 96)) * halfScale else 0) := by
  rw [scoresCtx_at]
  refine Finset.sum_congr rfl fun x _ => ?_
  rw [iblk2_at m c t ht, iblk0_at m c t ht, keysCtx_at, queries_at]
  have hm : (t.val / 4 % 8 * 256 + (128 * h.val + x.val)) % 128 = x.val := by omega
  have hd : (t.val / 4 % 8 * 256 + (128 * h.val + x.val)) / 128 = t.val / 4 % 8 * 2 + h.val := by omega
  by_cases hx : x.val < 96
  · have hx' : (t.val / 4 % 8 * 256 + (128 * h.val + x.val)) % 128 < 96 := by omega
    rw [dif_pos hx', dif_pos hx', dif_pos hx, dif_pos hx]
    simp only [hm, hd]
  · have hx' : ¬ (t.val / 4 % 8 * 256 + (128 * h.val + x.val)) % 128 < 96 := by omega
    rw [dif_neg hx', dif_neg hx', dif_neg hx, dif_neg hx]

theorem value_tile (n : Nat) (hn : n + 1 < cfg0.N) (hn' : n ≤ 255) (h : Fin 2) (e : Fin 64) (k : Fin 4096) :
    iblk m c 3 ⟨n + 1, hn⟩ (ix3 (0 : Fin 1) (chan h e) k) = argV m c (ix4 (batch n hn') k (head n h) e) := by
  rw [iblk3_at m c n hn, values_at]
  have hm : (n / 4 % 8 * 128 + (64 * h.val + e.val)) % 64 = e.val := by omega
  have hd : (n / 4 % 8 * 128 + (64 * h.val + e.val)) / 64 = n / 4 % 8 * 2 + h.val := by omega
  simp only [hm, hd]

theorem valueCtx_tile (n : Nat) (hn : n + 1 < cfg0.N) (hn' : n ≤ 255) (h : Fin 2) (e : Fin 64) (k : Fin 256) :
    iblk m c 4 ⟨n + 1, hn⟩ (ix3 (0 : Fin 1) (chan h e) k) = argVCtx m c (ix4 (batch n hn') k (head n h) e) := by
  rw [iblk4_at m c n hn, valuesCtx_at]
  have hm : (n / 4 % 8 * 128 + (64 * h.val + e.val)) % 64 = e.val := by omega
  have hd : (n / 4 % 8 * 128 + (64 * h.val + e.val)) / 64 = n / 4 % 8 * 2 + h.val := by omega
  simp only [hm, hd]

theorem halfScale_real : halfScale = ((Real.sqrt (1 / (Real.sqrt 96 * Real.log 2)) : ℝ) : EReal) := by
  refine Eq.trans ?_ half_real
  unfold halfScale
  rw [show (FloatOps.ofBits (F := Ideal) .f32 0x42C00000#32 : EReal) = ((96 : ℝ) : EReal) from ofBits_96_f32,
    show (FloatOps.ofBits (F := Ideal) .f32 0x40000000#32 : EReal) = ((2 : ℝ) : EReal) from ofBits_two_f32]

/-- A tile's output at a row and a channel is the reference's sum. -/
theorem tile_value (hq : ∀ i, ∃ r : ℝ, argQ m c i = (r : EReal)) (hk : ∀ i, ∃ r : ℝ, argK m c i = (r : EReal))
    (hkc : ∀ i, ∃ r : ℝ, argKCtx m c i = (r : EReal))
    (n : Nat) (hn : n + 1 < cfg0.N) (hn' : n ≤ 255) (h : Fin 2) (r : Fin 1024) (e : Fin 64) :
    (tile m c n hn (ix3 (0 : Fin 1) r (chan h e)) : EReal)
      = ∑ k : Fin 4352, allValues (argV m c) (argVCtx m c) (batch n hn') (head n h) k e
          * Ideal.div (Ideal.exp (score (argQ m c) (argK m c) (argKCtx m c) (batch n hn') (head n h) (query n r) k
                - top (argQ m c) (argK m c) (argKCtx m c) (batch n hn') (head n h) (query n r)))
            (∑ j : Fin 4352, Ideal.exp (score (argQ m c) (argK m c) (argKCtx m c) (batch n hn') (head n h) (query n r) j
                - top (argQ m c) (argK m c) (argKCtx m c) (batch n hn') (head n h) (query n r))) := by
  choose fq eq using hq
  choose fk ek using hk
  choose fkc ekc using hkc
  set g : ℝ := Real.sqrt (1 / (Real.sqrt 96 * Real.log 2)) with hg
  have hsq : Real.sqrt 96 ≠ 0 := ne_of_gt (Real.sqrt_pos.mpr (by norm_num))
  set b := batch n hn'
  set hd := head n h
  set l := query n r
  -- the scores as real numbers
  let dotA : Fin 4096 → ℝ := fun k => ∑ x : Fin 96, fq (ix4 b l hd x) * fk (ix4 b k hd x)
  let dotC : Fin 256 → ℝ := fun k => ∑ x : Fin 96, fq (ix4 b l hd x) * fkc (ix4 b k hd x)
  let dot : Fin 4352 → ℝ := fun k => if hk : k.val < 4096 then dotA ⟨k.val, hk⟩ else dotC ⟨k.val - 4096, by omega⟩
  have hA : ∀ k, scores (iblk m c 0 ⟨n, Nat.lt_of_succ_lt hn⟩) (iblk m c 1 ⟨n, Nat.lt_of_succ_lt hn⟩) (ix2 k (col h r))
      = ((g * g * dotA k : ℝ) : EReal) := by
    intro k
    rw [scores_tile m c ⟨n, Nat.lt_of_succ_lt hn⟩ hn']
    simp only [ek, eq, halfScale_real]
    exact padded_dot (fun x => fk (ix4 b k hd x)) (fun x => fq (ix4 b l hd x)) g
  have hC : ∀ k, scoresCtx (iblk m c 0 ⟨n, Nat.lt_of_succ_lt hn⟩) (iblk m c 2 ⟨n, Nat.lt_of_succ_lt hn⟩) (ix2 k (col h r))
      = ((g * g * dotC k : ℝ) : EReal) := by
    intro k
    rw [scoresCtx_tile m c ⟨n, Nat.lt_of_succ_lt hn⟩ hn']
    simp only [ekc, eq, halfScale_real]
    exact padded_dot (fun x => fkc (ix4 b k hd x)) (fun x => fq (ix4 b l hd x)) g
  have hS : ∀ k, score (argQ m c) (argK m c) (argKCtx m c) b hd l k = ((dot k / Real.sqrt 96 : ℝ) : EReal) := by
    intro k
    unfold score allKeys
    rw [Ideal.sqrt_coe, if_neg (by norm_num)]
    by_cases hk : k.val < 4096
    · simp only [dif_pos hk, ek, eq, dot]
      exact plain_dot (fun x => fk (ix4 b ⟨k.val, hk⟩ hd x)) (fun x => fq (ix4 b l hd x)) _ hsq
    · simp only [dif_neg hk, ekc, eq, dot]
      exact plain_dot (fun x => fkc (ix4 b ⟨k.val - 4096, by omega⟩ hd x)) (fun x => fq (ix4 b l hd x)) _ hsq
  obtain ⟨oA, hoA⟩ := fold_max_real (n := 4095) fun k => g * g * dotA k
  obtain ⟨oC, hoC⟩ := fold_max_real (n := 255) fun k => g * g * dotC k
  obtain ⟨μ, hμ⟩ := fold_max_real (n := 4351) fun k => dot k / Real.sqrt 96
  have hO : ∀ k : Fin 16, offset (iblk m c 0 ⟨n, Nat.lt_of_succ_lt hn⟩) (iblk m c 1 ⟨n, Nat.lt_of_succ_lt hn⟩)
      (iblk m c 2 ⟨n, Nat.lt_of_succ_lt hn⟩) (ix2 k (col h r)) = ((max oA oC - 8 : ℝ) : EReal) := by
    intro k
    rw [offset_at]
    simp only [hA, hC]
    rw [hoA, hoC, EReal.coe_sub, EReal.coe_strictMono.monotone.map_max]
  have hT : top (argQ m c) (argK m c) (argKCtx m c) b hd l = (μ : EReal) := by
    unfold top
    simp only [hS]
    exact hμ
  refine (tile_at _ _ _ _ _ h r e).trans ?_
  simp only [hA, hC, hO, hS, hT, value_tile m c n hn hn', valueCtx_tile m c n hn hn']
  refine softmax_eq (fun k => g * g * dotA k) (fun k => g * g * dotC k) (fun k => dot k / Real.sqrt 96) _ _ _ _ _ ?_ ?_ ?_ ?_
  · intro k
    simp only [dot, dif_pos k.isLt]
    exact half_sq _
  · intro k
    have : ¬ (4096 + k.val < 4096) := by omega
    simp only [dot, dif_neg this, Nat.add_sub_cancel_left]
    exact half_sq _
  · intro k
    unfold allValues
    rw [dif_pos k.isLt]
  · intro k
    have : ¬ (4096 + k.val < 4096) := by omega
    unfold allValues
    rw [dif_neg this]
    simp only [Nat.add_sub_cancel_left]
    rfl

theorem result_eq (hq : ∀ i, ∃ r : ℝ, argQ m c i = (r : EReal)) (hk : ∀ i, ∃ r : ℝ, argK m c i = (r : EReal))
    (hkc : ∀ i, ∃ r : ℝ, argKCtx m c i = (r : EReal)) :
    result m c = Cert.ReferenceIdeal.Read.val_main_v20 (F := Ideal) (argQ m c) (argK m c) (argV m c) (argKCtx m c) (argVCtx m c) := by
  funext i
  obtain ⟨b, l, d, rfl⟩ : ∃ (b : Fin 8) (l : Fin 4096) (d : Fin 1024), i = ix3 b l d :=
    ⟨i 0, i 1, i 2, funext fun a => by match a with | ⟨0, _⟩ => rfl | ⟨1, _⟩ => rfl | ⟨2, _⟩ => rfl⟩
  refine Eq.trans ?_ (Cert.ReferenceIdeal.Attn.reference_at _ _ _ _ _ b l d).symm
  have hb := b.isLt
  have hl := l.isLt
  have hd := d.isLt
  have hn := tileOf_lt b l d
  have hn' : tileOf b l d ≤ 255 := by unfold tileOf; omega
  have e1 : batch (tileOf b l d) hn' = b := Fin.ext (by show tileOf b l d / 32 = b.val; unfold tileOf; omega)
  have e2 : head (tileOf b l d) (⟨d.val % 128 / 64, by omega⟩ : Fin 2) = (⟨d.val / 64, by omega⟩ : Fin 16) :=
    Fin.ext (by show tileOf b l d / 4 % 8 * 2 + d.val % 128 / 64 = d.val / 64; unfold tileOf; omega)
  have e3 : query (tileOf b l d) (⟨l.val % 1024, by omega⟩ : Fin 1024) = l :=
    Fin.ext (by show tileOf b l d % 4 * 1024 + l.val % 1024 = l.val; unfold tileOf; omega)
  have key := tile_value m c hq hk hkc (tileOf b l d) hn hn' (⟨d.val % 128 / 64, by omega⟩ : Fin 2) (⟨l.val % 1024, by omega⟩ : Fin 1024)
    (⟨d.val % 64, by omega⟩ : Fin 64)
  rw [e1, e2, e3] at key
  refine Eq.trans ?_ key
  have e4 : (⟨d.val % 128, Nat.mod_lt _ (by decide)⟩ : Fin 128) = chan (⟨d.val % 128 / 64, by omega⟩ : Fin 2) (⟨d.val % 64, by omega⟩ : Fin 64) :=
    Fin.ext (by show d.val % 128 = 64 * (d.val % 128 / 64) + d.val % 64; omega)
  rw [← e4]
  rfl

end Cert.KernelIdeal.Attn

end
-- ==== Proof.Attn.Pre.lean ====
module

public import proofs.«01_k».proof.Proof.Gen.Pre_finite
public import Idealize.ShloMosaic.Lib.ReduceAll
public import Idealize.ShloMosaic.Lib.Pointwise
public import Idealize.ShloMosaic.PureOps.Ideal

/-! What the precondition says: every query, key and key of the context is a real number. -/

@[expose] public section

noncomputable section

open Idealize.ShloMosaic

namespace Cert.Attn

open Cert.Pre_finite

theorem real_of_abs_lt {s : Shape} (x y : FVec Ideal s .f32) (i : s.Idx) (hy : y i = (⊤ : EReal)) (h : cmpf .olt (Host.absf x) y i = 1#1) :
    ∃ r : ℝ, (x i : EReal) = (r : EReal) := by
  have h' : BitVec.ofBool (decide (max (x i : EReal) (-(x i : EReal)) < (y i : EReal))) = 1#1 := h
  rw [hy] at h'
  have hlt : max (x i : EReal) (-(x i : EReal)) < ⊤ := by
    by_contra hc
    rw [decide_eq_false hc] at h'
    exact absurd h' (by decide)
  have h1 : (x i : EReal) ≠ ⊤ := fun e => absurd hlt (by rw [e]; simp)
  have h2 : (x i : EReal) ≠ ⊥ := fun e => absurd hlt (by rw [e]; simp)
  exact ⟨_, (EReal.coe_toReal h1 h2).symm⟩

theorem ofBits_inf_f32 : (FloatOps.ofBits (F := Ideal) .f32 0x7F800000#32 : EReal) = ⊤ := by
  show Ideal.ofBits .f32 0x7F800000#32 = ⊤
  simp [Ideal.ofBits, Ideal.ieee]

instance : Subsingleton S_.Idx := ⟨fun a b => funext fun i => i.elim0⟩

theorem finite_args (q k : FVec Ideal S8x4096x16x96 .f32) (v : FVec Ideal S8x4096x16x64 .f32) (kc : FVec Ideal S8x256x16x96 .f32)
    (vc : FVec Ideal S8x256x16x64 .f32) (h : fn (F := Ideal) q k v kc vc = fun _ => 1#1) :
    (∀ i, ∃ r : ℝ, (q i : EReal) = (r : EReal)) ∧ (∀ i, ∃ r : ℝ, (k i : EReal) = (r : EReal)) ∧ ∀ i, ∃ r : ℝ, (kc i : EReal) = (r : EReal) := by
  have h0 := congrFun h (fun a => a.elim0)
  dsimp only [fn] at h0
  obtain ⟨h12, h3⟩ := IntOp.andi_eq_one.mp h0
  obtain ⟨h1, h2⟩ := IntOp.andi_eq_one.mp h12
  refine ⟨fun i => ?_, fun i => ?_, fun i => ?_⟩
  · refine real_of_abs_lt _ _ i ?_ (Host.reduce_andi_all _ _ _ _ _ h1 i)
    exact ofBits_inf_f32
  · refine real_of_abs_lt _ _ i ?_ (Host.reduce_andi_all _ _ _ _ _ h2 i)
    exact ofBits_inf_f32
  · refine real_of_abs_lt _ _ i ?_ (Host.reduce_andi_all _ _ _ _ _ h3 i)
    exact ofBits_inf_f32

end Cert.Attn

end
-- ==== Proof.Ffn.Step.lean ====
module

public import proofs.«01_k».proof.Proof.Gen.FfnIdeal.Value
public import Idealize.ShloMosaic.Lib.Pointwise

/-! What one grid point of the projection-and-ConvFFN kernel leaves in its output block, in four layers: the mixer's rows
with sixteen rows of its neighbours on either side, the normed rows, the gated channels, the output rows. -/

@[expose] public section

set_option maxRecDepth 16384

noncomputable section

open Idealize.ShloMosaic Idealize.ShloMosaic.TcCoe Idealize.SL.Sem
open Idealize.ShloMosaic.Pipeline (Dat)

namespace Cert.FfnIdeal.Rows

open Cert.FfnIdeal Cert.FfnIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {S : Shape} {e : EltTy} {sig : RefSig} {κ : Kind} {sp : Space} (v : View sig κ sp S e)
    (L : List (View.Piece (Elt F) S e)) (r : Rect S) : v.readCov L r.toLoadRect = View.ld (View.canon L) r :=
  View.readCov_eq_canon' v L r

/-- The mixer's output rows: sixteen of the tile before, the tile's, sixteen of the tile after. -/
def yext (x13 : Vec F S1x1024x1024 .bf16) (x14 x15 : Vec F S1x16x1024 .bf16) : Vec F S1056x1024 .bf16 :=
  View.canon (Val := Elt F) (s := S1056x1024) (e := .bf16)
    [⟨Rect.unit (s := S1056x1024) ![1040, 0] S16x1024.size inb_S1056x1024_S16x1024_1040_0, k0_pay4 x15⟩,
     ⟨Rect.unit (s := S1056x1024) ![16, 0] S1024x1024.size inb_S1056x1024_S1024x1024_16_0, k0_pay3 x13⟩,
     ⟨Rect.unit (s := S1056x1024) ![0, 0] S16x1024.size inb_S1056x1024_S16x1024_0_0, k0_pay2 x14⟩]

/-- The modulated norm of the rows, zero before the sequence's first tile and after its last. -/
def hn (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 : Vec F S1x1x1024 .f32) (y : Vec F S1056x1024 .bf16) :
    Vec F S1056x1024 .bf16 :=
  View.canon (Val := Elt F) (s := S1056x1024) (e := .bf16)
    [⟨Rect.unit (s := S1056x1024) ![1040, 0] S16x1024.size inb_S1056x1024_S16x1024_1040_0,
        k0_pay14 (k0_pay13 a (k0_pay7 (k0_pay5 x3 y x4) x2) (k0_pay8 x5) (k0_pay9 x6) (k0_pay10 x7))⟩,
     ⟨Rect.unit (s := S1056x1024) ![16, 0] S1024x1024.size inb_S1056x1024_S1024x1024_16_0,
        k0_pay12 (k0_pay6 x3 y x4 x0) (k0_pay8 x5) (k0_pay9 x6) (k0_pay10 x7)⟩,
     ⟨Rect.unit (s := S1056x1024) ![0, 0] S16x1024.size inb_S1056x1024_S16x1024_0_0,
        k0_pay11 a (k0_pay5 x3 y x4) x1 x5 x6 x7⟩]

/-- 256 gated channels. -/
def chunk (h : Vec F S1056x1024 .bf16) (u v : Vec F S1024x256 .bf16) (w : Vec F S3x256 .f32) (b : Vec F S1x256 .f32) :
    Vec F S1024x256 .bf16 :=
  k0_pay16 (k0_pay15 h u
    (View.ld h (Rect.unit (s := S1056x1024) ![16, 0] S1024x1024.size inb_S1056x1024_S1024x1024_16_0)) v w b)

theorem inbW (o : Nat) (ho : o + 256 ≤ 5632) : ∀ a, (![0, o] : Fin 2 → Nat) a + S1024x256.size a ≤ S1024x5632.size a := by
  intro a; match a with | ⟨0, _⟩ => exact le_refl _ | ⟨1, _⟩ => exact ho
theorem inbC (o : Nat) (ho : o + 256 ≤ 2816) : ∀ a, (![0, o] : Fin 2 → Nat) a + S3x256.size a ≤ S3x2816.size a := by
  intro a; match a with | ⟨0, _⟩ => exact le_refl _ | ⟨1, _⟩ => exact ho
theorem inbB (o : Nat) (ho : o + 256 ≤ 2816) : ∀ a, (![0, o] : Fin 2 → Nat) a + S1x256.size a ≤ S1x2816.size a := by
  intro a; match a with | ⟨0, _⟩ => exact le_refl _ | ⟨1, _⟩ => exact ho
theorem inbA (o : Nat) (ho : o + 256 ≤ 2816) : ∀ a, (![0, o] : Fin 2 → Nat) a + S1024x256.size a ≤ S1024x2816.size a := by
  intro a; match a with | ⟨0, _⟩ => exact le_refl _ | ⟨1, _⟩ => exact ho

/-- The 256 gated channels from channel `o` on. -/
def chunkAt (h : Vec F S1056x1024 .bf16) (x9 : Vec F S1024x5632 .bf16) (x10 : Vec F S3x2816 .f32) (x11 : Vec F S1x2816 .f32)
    (o v : Nat) (ho : o + 256 ≤ 2816) (hv : v + 256 ≤ 5632) : Vec F S1024x256 .bf16 :=
  chunk h
    (View.ld x9 (Rect.unit (s := S1024x5632) ![0, o] S1024x256.size (inbW o (by omega))))
    (View.ld x9 (Rect.unit (s := S1024x5632) ![0, v] S1024x256.size (inbW v hv)))
    (View.ld x10 (Rect.unit (s := S3x2816) ![0, o] S3x256.size (inbC o ho)))
    (View.ld x11 (Rect.unit (s := S1x2816) ![0, o] S1x256.size (inbB o ho)))

def piece (h : Vec F S1056x1024 .bf16) (x9 : Vec F S1024x5632 .bf16) (x10 : Vec F S3x2816 .f32) (x11 : Vec F S1x2816 .f32)
    (o v : Nat) (ho : o + 256 ≤ 2816) (hv : v + 256 ≤ 5632) : View.Piece (Elt F) S1024x2816 .bf16 :=
  ⟨Rect.unit (s := S1024x2816) ![0, o] S1024x256.size (inbA o ho), chunkAt h x9 x10 x11 o v ho hv⟩

/-- The gated channels, all 2816. -/
def act (h : Vec F S1056x1024 .bf16) (x9 : Vec F S1024x5632 .bf16) (x10 : Vec F S3x2816 .f32) (x11 : Vec F S1x2816 .f32) :
    Vec F S1024x2816 .bf16 :=
  View.canon (Val := Elt F) (s := S1024x2816) (e := .bf16)
    [piece h x9 x10 x11 2560 5376 (by decide) (by decide), piece h x9 x10 x11 2304 5120 (by decide) (by decide),
     piece h x9 x10 x11 2048 4864 (by decide) (by decide), piece h x9 x10 x11 1792 4608 (by decide) (by decide),
     piece h x9 x10 x11 1536 4352 (by decide) (by decide), piece h x9 x10 x11 1280 4096 (by decide) (by decide),
     piece h x9 x10 x11 1024 3840 (by decide) (by decide), piece h x9 x10 x11 768 3584 (by decide) (by decide),
     piece h x9 x10 x11 512 3328 (by decide) (by decide), piece h x9 x10 x11 256 3072 (by decide) (by decide),
     piece h x9 x10 x11 0 2816 (by decide) (by decide)]

/-- The output block. -/
def tile (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 x8 : Vec F S1x1x1024 .f32) (x9 : Vec F S1024x5632 .bf16)
    (x10 : Vec F S3x2816 .f32) (x11 : Vec F S1x2816 .f32) (x12 : Vec F S2816x1024 .bf16) (y : Vec F S1056x1024 .bf16) :
    Vec F S1x1024x1024 .f32 :=
  k0_pay1 (k0_pay53 (k0_pay6 x3 y x4 x0) x8 (act (hn a x0 x1 x2 x3 x4 x5 x6 x7 y) x9 x10 x11) x12)

section Chunks

variable (h : Vec F S1056x1024 .bf16) (h' : Vec F S1024x1024 .bf16) (u v : Vec F S1024x256 .bf16) (w : Vec F S3x256 .f32) (b : Vec F S1x256 .f32)

/-! The kernel's text cuts each chunk's computation at a different place; all are the first chunk's. -/
theorem chunk1 : k0_pay18 (k0_pay17 h u h' v w b) = k0_pay16 (k0_pay15 h u h' v w b) := rfl
theorem chunk2 : k0_pay22 (k0_pay19 h' v) (k0_pay20 h u w b) (k0_pay21 h u w b) = k0_pay16 (k0_pay15 h u h' v w b) := rfl
theorem chunk3 (z : F .f32) (hz : z = Scalar.ofBits .f32 0x3F800000#32) :
    k0_pay26 (k0_pay23 h' v) (k0_pay24 h u w b) (k0_pay25 h u w b) z = k0_pay16 (k0_pay15 h u h' v w b) := by subst hz; rfl
theorem chunk4 : k0_pay31 (k0_pay27 h' v) (k0_pay28 h u w b) (k0_pay29 h u w b) k0_pay30 = k0_pay16 (k0_pay15 h u h' v w b) := rfl
theorem chunk5 : k0_pay35 (k0_pay32 h' v) (k0_pay33 h u w b) (k0_pay34 h u w b) = k0_pay16 (k0_pay15 h u h' v w b) := rfl
theorem chunk6 : k0_pay39 (k0_pay36 h' v) (k0_pay37 h u w b) k0_pay38 = k0_pay16 (k0_pay15 h u h' v w b) := rfl
theorem chunk7 : k0_pay42 (k0_pay40 h' v) (k0_pay41 h u w b) = k0_pay16 (k0_pay15 h u h' v w b) := rfl
theorem chunk8 : k0_pay46 (k0_pay43 h' v) (k0_pay44 h u w) (k0_pay45 b) = k0_pay16 (k0_pay15 h u h' v w b) := rfl
theorem chunk9 : k0_pay49 (k0_pay47 h' v) (k0_pay48 h u w) b = k0_pay16 (k0_pay15 h u h' v w b) := rfl
theorem chunk10 : k0_pay52 (k0_pay50 h' v) (k0_pay51 h u w) b = k0_pay16 (k0_pay15 h u h' v w b) := rfl

end Chunks

theorem yext_fold (x13 : Vec F S1x1024x1024 .bf16) (x14 x15 : Vec F S1x16x1024 .bf16) :
    View.canon (Val := Elt F) (s := S1056x1024) (e := .bf16)
      [⟨Rect.unit (s := S1056x1024) ![1040, 0] ![16, 1024] inb_S1056x1024_S16x1024_1040_0, k0_pay4 x15⟩,
       ⟨Rect.unit (s := S1056x1024) ![16, 0] ![1024, 1024] inb_S1056x1024_S1024x1024_16_0, k0_pay3 x13⟩,
       ⟨Rect.unit (s := S1056x1024) ![0, 0] ![16, 1024] inb_S1056x1024_S16x1024_0_0, k0_pay2 x14⟩] = yext x13 x14 x15 := rfl

theorem hn_fold (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 : Vec F S1x1x1024 .f32) (y : Vec F S1056x1024 .bf16) :
    View.canon (Val := Elt F) (s := S1056x1024) (e := .bf16)
    [⟨Rect.unit (s := S1056x1024) ![1040, 0] ![16, 1024] inb_S1056x1024_S16x1024_1040_0,
        k0_pay14 (k0_pay13 a (k0_pay7 (k0_pay5 x3 y x4) x2) (k0_pay8 x5) (k0_pay9 x6) (k0_pay10 x7))⟩,
     ⟨Rect.unit (s := S1056x1024) ![16, 0] ![1024, 1024] inb_S1056x1024_S1024x1024_16_0,
        k0_pay12 (k0_pay6 x3 y x4 x0) (k0_pay8 x5) (k0_pay9 x6) (k0_pay10 x7)⟩,
     ⟨Rect.unit (s := S1056x1024) ![0, 0] ![16, 1024] inb_S1056x1024_S16x1024_0_0,
        k0_pay11 a (k0_pay5 x3 y x4) x1 x5 x6 x7⟩] = hn a x0 x1 x2 x3 x4 x5 x6 x7 y := rfl

variable (c : Dev nD)
  (i : grid0.Coords)
  (arg2 : Memref sig .tc .vmem S1x1024x1024 .f32)
  (harg2 : arg2.IsWhole)
  (arg3 : Memref sig .tc .vmem S1x16x1024 .f32)
  (harg3 : arg3.IsWhole)
  (arg4 : Memref sig .tc .vmem S1x16x1024 .f32)
  (harg4 : arg4.IsWhole)
  (arg5 : Memref sig .tc .vmem S1x1x1024 .f32)
  (harg5 : arg5.IsWhole)
  (arg6 : Memref sig .tc .vmem S1024x1024 .bf16)
  (harg6 : arg6.IsWhole)
  (arg7 : Memref sig .tc .vmem S1x1024 .f32)
  (harg7 : arg7.IsWhole)
  (arg8 : Memref sig .tc .vmem S1x1x1024 .f32)
  (harg8 : arg8.IsWhole)
  (arg9 : Memref sig .tc .vmem S1x1x1024 .f32)
  (harg9 : arg9.IsWhole)
  (arg10 : Memref sig .tc .vmem S1x1x1024 .f32)
  (harg10 : arg10.IsWhole)
  (arg11 : Memref sig .tc .vmem S1024x5632 .bf16)
  (harg11 : arg11.IsWhole)
  (arg12 : Memref sig .tc .vmem S3x2816 .f32)
  (harg12 : arg12.IsWhole)
  (arg13 : Memref sig .tc .vmem S1x2816 .f32)
  (harg13 : arg13.IsWhole)
  (arg14 : Memref sig .tc .vmem S2816x1024 .bf16)
  (harg14 : arg14.IsWhole)
  (arg15 : Memref sig .tc .vmem S1x1024x1024 .bf16)
  (harg15 : arg15.IsWhole)
  (arg16 : Memref sig .tc .vmem S1x16x1024 .bf16)
  (harg16 : arg16.IsWhole)
  (arg17 : Memref sig .tc .vmem S1x16x1024 .bf16)
  (harg17 : arg17.IsWhole)
  (arg18 : Memref sig .tc .vmem S1x1024x1024 .f32)
  (harg18 : arg18.IsWhole)
  (arg19 : Memref sig .tc .vmem S1056x1024 .bf16)
  (harg19 : arg19.IsWhole)
  (arg20 : Memref sig .tc .vmem S1056x1024 .bf16)
  (harg20 : arg20.IsWhole)
  (arg21 : Memref sig .tc .vmem S1024x2816 .bf16)
  (harg21 : arg21.IsWhole)
  (x0 : Vec F S1x1024x1024 .f32)
  (x1 : Vec F S1x16x1024 .f32)
  (x2 : Vec F S1x16x1024 .f32)
  (x3 : Vec F S1x1x1024 .f32)
  (x4 : Vec F S1024x1024 .bf16)
  (x5 : Vec F S1x1024 .f32)
  (x6 : Vec F S1x1x1024 .f32)
  (x7 : Vec F S1x1x1024 .f32)
  (x8 : Vec F S1x1x1024 .f32)
  (x9 : Vec F S1024x5632 .bf16)
  (x10 : Vec F S3x2816 .f32)
  (x11 : Vec F S1x2816 .f32)
  (x12 : Vec F S2816x1024 .bf16)
  (x13 : Vec F S1x1024x1024 .bf16)
  (x14 : Vec F S1x16x1024 .bf16)
  (x15 : Vec F S1x16x1024 .bf16)

set_option maxHeartbeats 1600000 in
theorem out0_A_16_eq : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15
    = tile (BitVec.ofNat 32 (i 1).val) x0 x1 x2 x3 x4 x5 x6 x7 x8 x9 x10 x11 x12 (yext x13 x14 x15) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)]
  unfold kernelRun0_A
  dsimp only
  sl_unfold_words
  first
    | rw [View.canon_unit_zero (S := S1x1024x1024) hz3]
    | rw [View.canon_cons_unit_zero (S := S1x1024x1024) hz3]
  simp only [readCov_ld, View.ld_unit_zero (S := S1056x1024) hz2, View.ld_unit_zero (S := S1024x2816) hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread,
    View.ld_unit_zero (S := S1x1024x1024) hz3, View.ld_unit_zero (S := S1x16x1024) hz3, View.ld_unit_zero (S := S1x1x1024) hz3,
    View.ld_unit_zero (S := S1x1024) hz2, View.ld_unit_zero (S := S1024x1024) hz2, View.ld_unit_zero (S := S2816x1024) hz2,
    chunk1, chunk2, chunk3 _ _ _ _ _ _ _ rfl, chunk4, chunk5, chunk6, chunk7, chunk8, chunk9, chunk10, yext_fold, hn_fold]
  rfl

end Cert.FfnIdeal.Rows

end
-- ==== Proof.Ffn.Spec.lean ====
module

public import Idealize.ShloMosaic.Lib.Pointwise

/-! One row of the layer's second half as a function of rows: the mixer's output projected and added to the residual, its
modulated norm, the gated ConvFFN of the normed rows. -/

@[expose] public section

noncomputable section

open Idealize.ShloMosaic

namespace Cert.Block

/-- The residual rows after the mixer's projection. -/
def mixed (X O : Fin 4096 → Fin 1024 → EReal) (wo : Fin 1024 → Fin 1024 → EReal) (g1 : Fin 1024 → EReal) (l : Fin 4096)
    (d : Fin 1024) : EReal :=
  X l d + g1 d * ∑ k, O l k * wo k d

/-- The modulated norm of a row. -/
def normed (r g sh sc : Fin 1024 → EReal) (d : Fin 1024) : EReal :=
  r d * Ideal.rsqrt (Ideal.div (∑ x, r x * r x) (Ideal.ofBits .f32 0x44800000#32) + Ideal.ofBits .f32 0x358637BD#32) * g d
    * (1 + sc d) + sh d

/-- The rows with a row of zeros before the first and after the last: row `n` of these is row `n - 1`. -/
def around (H : Fin 4096 → Fin 1024 → EReal) (n : Nat) (d : Fin 1024) : EReal :=
  if h : 1 ≤ n ∧ n ≤ 4096 then H ⟨n - 1, by omega⟩ d else 0

/-- The gate channel's three-tap convolution. -/
def conv (p q r u : Fin 1024 → EReal) (w0 w1 w2 b : EReal) : EReal :=
  (∑ x, p x * u x) * w0 + (∑ x, q x * u x) * w1 + (∑ x, r x * u x) * w2 + b

/-- One gated channel of one row. -/
def gated (p q r u v : Fin 1024 → EReal) (w0 w1 w2 b : EReal) : EReal :=
  conv p q r u w0 w1 w2 b * Ideal.div 1 (1 + Ideal.exp (0 - conv p q r u w0 w1 w2 b)) * ∑ x, q x * v x

/-- The gated channels of row `l` of the rows `H`. -/
def channel (H : Fin 4096 → Fin 1024 → EReal) (wu : Fin 1024 → Fin 5632 → EReal) (cw : Fin 3 → Fin 2816 → EReal)
    (cb : Fin 2816 → EReal) (l : Nat) (f : Fin 2816) : EReal :=
  gated (around H l) (around H (l + 1)) (around H (l + 2)) (fun x => wu x ⟨f.val, by omega⟩) (fun x => wu x ⟨2816 + f.val, by omega⟩)
    (cw 0 f) (cw 1 f) (cw 2 f) (cb f)

/-- The second half of the layer at a row and a channel. -/
def block (X O : Fin 4096 → Fin 1024 → EReal) (wo : Fin 1024 → Fin 1024 → EReal) (g1 g sh sc g2 : Fin 1024 → EReal)
    (wu : Fin 1024 → Fin 5632 → EReal) (cw : Fin 3 → Fin 2816 → EReal) (cb : Fin 2816 → EReal)
    (wd : Fin 2816 → Fin 1024 → EReal) (l : Fin 4096) (d : Fin 1024) : EReal :=
  mixed X O wo g1 l d
    + g2 d * ∑ f, channel (fun n => normed (mixed X O wo g1 n) g sh sc) wu cw cb l.val f * wd f d

theorem around_of (H : Fin 4096 → Fin 1024 → EReal) (n : Nat) (l : Fin 4096) (h : n = l.val + 1) : around H n = H l := by
  funext d
  unfold around
  rw [dif_pos (by omega)]
  congr 1
  exact Fin.ext (by show n - 1 = l.val; omega)

theorem around_zero (H : Fin 4096 → Fin 1024 → EReal) (n : Nat) (h : ¬ (1 ≤ n ∧ n ≤ 4096)) (d : Fin 1024) : around H n d = 0 := by
  unfold around
  rw [dif_neg h]

theorem block_congr {X X' O O' : Fin 4096 → Fin 1024 → EReal} {wo wo' : Fin 1024 → Fin 1024 → EReal}
    {g1 g1' g g' sh sh' sc sc' g2 g2' : Fin 1024 → EReal} {wu wu' : Fin 1024 → Fin 5632 → EReal} {cw cw' : Fin 3 → Fin 2816 → EReal}
    {cb cb' : Fin 2816 → EReal} {wd wd' : Fin 2816 → Fin 1024 → EReal} {l l' : Fin 4096} {d d' : Fin 1024}
    (hX : ∀ l d, X l d = X' l d) (hO : ∀ l d, O l d = O' l d)
    (hwo : ∀ k d, wo k d = wo' k d) (hg1 : ∀ d, g1 d = g1' d) (hg : ∀ d, g d = g' d) (hsh : ∀ d, sh d = sh' d) (hsc : ∀ d, sc d = sc' d)
    (hg2 : ∀ d, g2 d = g2' d) (hwu : ∀ k f, wu k f = wu' k f) (hcw : ∀ t f, cw t f = cw' t f) (hcb : ∀ f, cb f = cb' f)
    (hwd : ∀ f d, wd f d = wd' f d) (hl : l = l') (hd : d = d') :
    block X O wo g1 g sh sc g2 wu cw cb wd l d = block X' O' wo' g1' g' sh' sc' g2' wu' cw' cb' wd' l' d' := by
  obtain rfl : X = X' := funext₂ hX
  obtain rfl : O = O' := funext₂ hO
  obtain rfl : wo = wo' := funext₂ hwo
  obtain rfl : g1 = g1' := funext hg1
  obtain rfl : g = g' := funext hg
  obtain rfl : sh = sh' := funext hsh
  obtain rfl : sc = sc' := funext hsc
  obtain rfl : g2 = g2' := funext hg2
  obtain rfl : wu = wu' := funext₂ hwu
  obtain rfl : cw = cw' := funext₂ hcw
  obtain rfl : cb = cb' := funext hcb
  obtain rfl : wd = wd' := funext₂ hwd
  subst hl hd
  rfl

/-- The gate of a row outside the sequence is zero. -/
theorem gate_zero (H : Fin 4096 → Fin 1024 → EReal) (n : Nat) (h : ¬ (1 ≤ n ∧ n ≤ 4096)) (u : Fin 1024 → EReal) :
    ∑ x, around H n x * u x = 0 := by
  refine Finset.sum_eq_zero fun x _ => ?_
  rw [around_zero H n h, zero_mul]

end Cert.Block

end
-- ==== Proof.Ffn.Tile.lean ====
module

public import proofs.«01_k».proof.Proof.Ffn.Step
public import proofs.«01_k».proof.Proof.Ffn.Spec

/-! The four layers of an output block, read at an index. -/

@[expose] public section

set_option maxRecDepth 16384

noncomputable section

open Idealize.ShloMosaic Idealize.ShloMosaic.TcCoe

namespace Cert.FfnIdeal.Rows

open Cert.FfnIdeal Cert.FfnIdeal.Gen Cert.Block

section Parts

variable (a : BitVec 32) (x0 : Vec Ideal S1x1024x1024 .f32) (x1 x2 : Vec Ideal S1x16x1024 .f32) (x3 : Vec Ideal S1x1x1024 .f32)
    (x4 : Vec Ideal S1024x1024 .bf16) (x5 : Vec Ideal S1x1024 .f32) (x6 x7 x8 : Vec Ideal S1x1x1024 .f32) (x9 : Vec Ideal S1024x5632 .bf16)
    (x10 : Vec Ideal S3x2816 .f32) (x11 : Vec Ideal S1x2816 .f32) (x12 : Vec Ideal S2816x1024 .bf16) (y h : Vec Ideal S1056x1024 .bf16)
    (g : Vec Ideal S1024x2816 .bf16) (z : Vec Ideal S1024x1024 .f32)

theorem proj_at (n : Fin 1056) (d : Fin 1024) :
    @Eq EReal (k0_pay5 x3 y x4 (ix2 n d)) ((x3 (ix3 0 0 d) : EReal) * ∑ k, (y (ix2 n k) : EReal) * x4 (ix2 k d)) := by
  unfold_payloads
  pointwise

theorem cur_at (n d : Fin 1024) :
    @Eq EReal (k0_pay6 x3 y x4 x0 (ix2 n d))
      ((x0 (ix3 0 n d) : EReal) + (x3 (ix3 0 0 d) : EReal) * ∑ k, (y (ix2 (⟨16 + n.val, by omega⟩ : Fin 1056) k) : EReal) * x4 (ix2 k d)) := by
  unfold_payloads
  pointwise

theorem next_at (n : Fin 16) (d : Fin 1024) :
    @Eq EReal (k0_pay7 (k0_pay5 x3 y x4) x2 (ix2 n d))
      ((x2 (ix3 0 n d) : EReal) + (x3 (ix3 0 0 d) : EReal) * ∑ k, (y (ix2 (⟨1040 + n.val, by omega⟩ : Fin 1056) k) : EReal) * x4 (ix2 k d)) := by
  unfold_payloads
  pointwise

theorem normCur_at (n d : Fin 1024) :
    @Eq EReal (k0_pay12 z (k0_pay8 x5) (k0_pay9 x6) (k0_pay10 x7) (ix2 n d))
      (normed (fun x => z (ix2 n x)) (fun x => x5 (ix2 0 x)) (fun x => x6 (ix3 0 0 x)) (fun x => x7 (ix3 0 0 x)) d) := by
  unfold_payloads
  unfold normed
  pointwise

theorem normPrev_at (p : Vec Ideal S1056x1024 .f32) (n : Fin 16) (d : Fin 1024) :
    @Eq EReal (k0_pay11 a p x1 x5 x6 x7 (ix2 n d))
      (Scalar.select (Scalar.cmpi .sgt a 0#32)
        (normed (fun x => (x1 (ix3 0 n x) : EReal) + p (ix2 (⟨n.val, by omega⟩ : Fin 1056) x))
          (fun x => x5 (ix2 0 x)) (fun x => x6 (ix3 0 0 x)) (fun x => x7 (ix3 0 0 x)) d) (0 : EReal)) := by
  unfold_payloads
  unfold normed
  pointwise

theorem normNext_at (z : Vec Ideal S16x1024 .f32) (n : Fin 16) (d : Fin 1024) :
    @Eq EReal (k0_pay14 (k0_pay13 a z (k0_pay8 x5) (k0_pay9 x6) (k0_pay10 x7)) (ix2 n d))
      (Scalar.select (Scalar.cmpi .slt a 3#32)
        (normed (fun x => z (ix2 n x)) (fun x => x5 (ix2 0 x)) (fun x => x6 (ix3 0 0 x)) (fun x => x7 (ix3 0 0 x)) d) (0 : EReal)) := by
  unfold_payloads
  unfold normed
  pointwise

theorem chunkAt_at (o v : Nat) (ho : o + 256 ≤ 2816) (hv : v + 256 ≤ 5632) (n : Fin 1024) (d : Fin 256) :
    @Eq EReal (chunkAt h x9 x10 x11 o v ho hv (ix2 n d))
      (gated (fun x => h (ix2 (⟨15 + n.val, by omega⟩ : Fin 1056) x)) (fun x => h (ix2 (⟨16 + n.val, by omega⟩ : Fin 1056) x))
        (fun x => h (ix2 (⟨17 + n.val, by omega⟩ : Fin 1056) x))
        (fun x => x9 (ix2 x (⟨o + d.val, by omega⟩ : Fin 5632))) (fun x => x9 (ix2 x (⟨v + d.val, by omega⟩ : Fin 5632)))
        (x10 (ix2 0 (⟨o + d.val, by omega⟩ : Fin 2816))) (x10 (ix2 1 (⟨o + d.val, by omega⟩ : Fin 2816)))
        (x10 (ix2 2 (⟨o + d.val, by omega⟩ : Fin 2816))) (x11 (ix2 0 (⟨o + d.val, by omega⟩ : Fin 2816)))) := by
  unfold chunkAt chunk
  unfold_payloads
  unfold gated conv
  pointwise
  have e1 : (16 + n.val + 1056 - 1) % 1056 = 15 + n.val := by omega
  have e2 : (16 + n.val + 1056 - 1055) % 1056 = 17 + n.val := by omega
  simp only [e1, e2]

theorem out_at (n d : Fin 1024) :
    @Eq EReal (k0_pay1 (k0_pay53 z x8 g x12) (ix3 0 n d))
      ((z (ix2 n d) : EReal) + (x8 (ix3 0 0 d) : EReal) * ∑ f, (g (ix2 n f) : EReal) * x12 (ix2 f d)) := by
  unfold_payloads
  pointwise

end Parts

/-- A buffer of rows filled in three pieces, at an index. -/
theorem rows3_at (A C : Vec Ideal S16x1024 .bf16) (B : Vec Ideal S1024x1024 .bf16) (n : Fin 1056) (d : Fin 1024) :
    @Eq EReal (View.canon (Val := Elt Ideal) (s := S1056x1024) (e := .bf16)
      [⟨Rect.unit (s := S1056x1024) ![1040, 0] S16x1024.size inb_S1056x1024_S16x1024_1040_0, C⟩,
       ⟨Rect.unit (s := S1056x1024) ![16, 0] S1024x1024.size inb_S1056x1024_S1024x1024_16_0, B⟩,
       ⟨Rect.unit (s := S1056x1024) ![0, 0] S16x1024.size inb_S1056x1024_S16x1024_0_0, A⟩] (ix2 n d))
      (if h : n.val < 16 then A (ix2 (⟨n.val, h⟩ : Fin 16) d)
        else if h' : n.val < 1040 then B (ix2 (⟨n.val - 16, by omega⟩ : Fin 1024) d)
        else C (ix2 (⟨n.val - 1040, by omega⟩ : Fin 16) d)) := by
  let G : S1056x1024.Idx → EReal := fun y =>
    if h : (y 0).val < 16 then A (ix2 (⟨(y 0).val, h⟩ : Fin 16) (y 1))
        else if h' : (y 0).val < 1040 then B (ix2 (⟨(y 0).val - 16, by omega⟩ : Fin 1024) (y 1))
        else C (ix2 (⟨(y 0).val - 1040, by have : (y 0).val < 1056 := (y 0).isLt; omega⟩ : Fin 16) (y 1))
  have gA : ∀ x : S16x1024.Idx, A x = G ((Rect.unit (s := S1056x1024) ![0, 0] S16x1024.size inb_S1056x1024_S16x1024_0_0).emb x) := by
    intro x
    have hx : (x 0).val < 16 := (x 0).isLt
    have e0 : ((Rect.unit (s := S1056x1024) ![0, 0] S16x1024.size inb_S1056x1024_S16x1024_0_0).emb x 0).val = (x 0).val := by
      show 0 + 1 * (x 0).val = _; omega
    have e1 : (Rect.unit (s := S1056x1024) ![0, 0] S16x1024.size inb_S1056x1024_S16x1024_0_0).emb x 1 = (x 1) := Fin.ext (by
      show 0 + 1 * (x 1).val = _; omega)
    simp only [G, e0, e1]
    rw [dif_pos hx]
    exact congrArg A (funext fun a => by match a with | ⟨0, _⟩ => rfl | ⟨1, _⟩ => rfl)
  have gB : ∀ x : S1024x1024.Idx, B x = G ((Rect.unit (s := S1056x1024) ![16, 0] S1024x1024.size inb_S1056x1024_S1024x1024_16_0).emb x) := by
    intro x
    have hx : (x 0).val < 1024 := (x 0).isLt
    have e0 : ((Rect.unit (s := S1056x1024) ![16, 0] S1024x1024.size inb_S1056x1024_S1024x1024_16_0).emb x 0).val = 16 + (x 0).val := by
      show 16 + 1 * (x 0).val = _; omega
    have e1 : (Rect.unit (s := S1056x1024) ![16, 0] S1024x1024.size inb_S1056x1024_S1024x1024_16_0).emb x 1 = (x 1) := Fin.ext (by
      show 0 + 1 * (x 1).val = _; omega)
    simp only [G, e0, e1]
    rw [dif_neg (by omega), dif_pos (by omega)]
    exact congrArg B (funext fun a => Fin.ext (by
      match a with
      | ⟨0, _⟩ => show (x 0).val = 16 + (x 0).val - 16; omega
      | ⟨1, _⟩ => rfl))
  have gC : ∀ x : S16x1024.Idx, C x = G ((Rect.unit (s := S1056x1024) ![1040, 0] S16x1024.size inb_S1056x1024_S16x1024_1040_0).emb x) := by
    intro x
    have hx : (x 0).val < 16 := (x 0).isLt
    have e0 : ((Rect.unit (s := S1056x1024) ![1040, 0] S16x1024.size inb_S1056x1024_S16x1024_1040_0).emb x 0).val = 1040 + (x 0).val := by
      show 1040 + 1 * (x 0).val = _; omega
    have e1 : (Rect.unit (s := S1056x1024) ![1040, 0] S16x1024.size inb_S1056x1024_S16x1024_1040_0).emb x 1 = (x 1) := Fin.ext (by
      show 0 + 1 * (x 1).val = _; omega)
    simp only [G, e0, e1]
    rw [dif_neg (by omega), dif_neg (by omega)]
    exact congrArg C (funext fun a => Fin.ext (by
      match a with
      | ⟨0, _⟩ => show (x 0).val = 1040 + (x 0).val - 1040; omega
      | ⟨1, _⟩ => rfl))
  have mem : ∀ (o k : Nat) (inb : ∀ a, (![o, 0] : Fin 2 → Nat) a + (![k, 1024] : Fin 2 → Nat) a ≤ S1056x1024.size a), o ≤ n.val → n.val < o + k →
      (ix2 n d : S1056x1024.Idx) ∈ (Rect.unit (s := S1056x1024) ![o, 0] ![k, 1024] inb).set := by
    intro o k inb h1 h2
    rw [Rect.mem_set_unit]
    intro a
    match a with
    | ⟨0, _⟩ => exact ⟨h1, h2⟩
    | ⟨1, _⟩ => exact ⟨Nat.zero_le _, by show d.val < 0 + 1024; omega⟩
  refine View.canon_apply_of_pieces (Val := Elt Ideal) (e := .bf16) G _ ?_ (ix2 n d) ?_
  · intro p hp
    simp only [List.mem_cons, List.not_mem_nil, or_false] at hp
    rcases hp with rfl | rfl | rfl
    · exact gC
    · exact gB
    · exact gA
  · by_cases h : n.val < 16
    · exact ⟨_, .tail _ (.tail _ (.head _)), mem 0 16 inb_S1056x1024_S16x1024_0_0 (by omega) (by omega)⟩
    · by_cases h' : n.val < 1040
      · exact ⟨_, .tail _ (.head _), mem 16 1024 inb_S1056x1024_S1024x1024_16_0 (by omega) (by omega)⟩
      · exact ⟨_, .head _, mem 1040 16 inb_S1056x1024_S16x1024_1040_0 (by omega) (by omega)⟩

/-- Whether the tile has a tile before it, and one after it. -/
theorem after_first (i : Nat) (hi : i < 4) (x : EReal) :
    Scalar.select (Scalar.cmpi .sgt (BitVec.ofNat 32 i) 0#32) x (0 : EReal) = if 0 < i then x else 0 := by
  have : i = 0 ∨ i = 1 ∨ i = 2 ∨ i = 3 := by omega
  rcases this with h | h | h | h <;> subst h <;> simp <;> rfl

theorem before_last (i : Nat) (hi : i < 4) (x : EReal) :
    Scalar.select (Scalar.cmpi .slt (BitVec.ofNat 32 i) 3#32) x (0 : EReal) = if i < 3 then x else 0 := by
  have : i = 0 ∨ i = 1 ∨ i = 2 ∨ i = 3 := by omega
  rcases this with h | h | h | h <;> subst h <;> simp <;> rfl

theorem act_at (h : Vec Ideal S1056x1024 .bf16) (x9 : Vec Ideal S1024x5632 .bf16) (x10 : Vec Ideal S3x2816 .f32)
    (x11 : Vec Ideal S1x2816 .f32) (n : Fin 1024) (f : Fin 2816) :
    @Eq EReal (act h x9 x10 x11 (ix2 n f))
      (gated (fun x => h (ix2 (⟨15 + n.val, by omega⟩ : Fin 1056) x)) (fun x => h (ix2 (⟨16 + n.val, by omega⟩ : Fin 1056) x))
        (fun x => h (ix2 (⟨17 + n.val, by omega⟩ : Fin 1056) x))
        (fun x => x9 (ix2 x (⟨f.val, by omega⟩ : Fin 5632))) (fun x => x9 (ix2 x (⟨2816 + f.val, by omega⟩ : Fin 5632)))
        (x10 (ix2 0 f)) (x10 (ix2 1 f)) (x10 (ix2 2 f)) (x11 (ix2 0 f))) := by
  unfold act
  have key : ∀ p ∈ [piece h x9 x10 x11 2560 5376 (by decide) (by decide), piece h x9 x10 x11 2304 5120 (by decide) (by decide),
     piece h x9 x10 x11 2048 4864 (by decide) (by decide), piece h x9 x10 x11 1792 4608 (by decide) (by decide),
     piece h x9 x10 x11 1536 4352 (by decide) (by decide), piece h x9 x10 x11 1280 4096 (by decide) (by decide),
     piece h x9 x10 x11 1024 3840 (by decide) (by decide), piece h x9 x10 x11 768 3584 (by decide) (by decide),
     piece h x9 x10 x11 512 3328 (by decide) (by decide), piece h x9 x10 x11 256 3072 (by decide) (by decide),
     piece h x9 x10 x11 0 2816 (by decide) (by decide)],
     ∃ (o : Nat) (ho : o + 256 ≤ 2816), p = piece h x9 x10 x11 o (2816 + o) ho (by omega) := by
    intro p hp
    simp only [List.mem_cons, List.not_mem_nil, or_false] at hp
    rcases hp with hp | hp | hp | hp | hp | hp | hp | hp | hp | hp | hp <;> exact ⟨_, _, hp⟩
  let G : S1024x2816.Idx → EReal := fun y =>
      (gated (fun x => h (ix2 (⟨15 + (y 0).val, by have : (y 0).val < 1024 := (y 0).isLt; omega⟩ : Fin 1056) x))
        (fun x => h (ix2 (⟨16 + (y 0).val, by have : (y 0).val < 1024 := (y 0).isLt; omega⟩ : Fin 1056) x))
        (fun x => h (ix2 (⟨17 + (y 0).val, by have : (y 0).val < 1024 := (y 0).isLt; omega⟩ : Fin 1056) x))
        (fun x => x9 (ix2 x (⟨(y 1).val, by have : (y 1).val < 2816 := (y 1).isLt; omega⟩ : Fin 5632)))
        (fun x => x9 (ix2 x (⟨2816 + (y 1).val, by have : (y 1).val < 2816 := (y 1).isLt; omega⟩ : Fin 5632)))
        (x10 (ix2 0 (y 1))) (x10 (ix2 1 (y 1))) (x10 (ix2 2 (y 1))) (x11 (ix2 0 (y 1))))
  have at_ : ∀ (o : Nat) (ho : o + 256 ≤ 2816) (x : S1024x256.Idx), chunkAt h x9 x10 x11 o (2816 + o) ho (by omega) x
      = G ((Rect.unit (s := S1024x2816) ![0, o] S1024x256.size (inbA o ho)).emb x) := by
    intro o ho x
    have hx1 : (x 1).val < 256 := (x 1).isLt
    have e0 : ((Rect.unit (s := S1024x2816) ![0, o] S1024x256.size (inbA o ho)).emb x 0).val = (x 0).val := by
      show 0 + 1 * (x 0).val = _; omega
    have e1 : (Rect.unit (s := S1024x2816) ![0, o] S1024x256.size (inbA o ho)).emb x 1 = (⟨o + (x 1).val, by omega⟩ : Fin 2816) :=
      Fin.ext (by show o + 1 * (x 1).val = o + (x 1).val; omega)
    have hx : x = ix2 (x 0) (x 1) := by
      funext a; match a with | ⟨0, _⟩ => rfl | ⟨1, _⟩ => rfl
    refine (congrArg (chunkAt h x9 x10 x11 o (2816 + o) ho (by omega)) hx).trans ?_
    refine (chunkAt_at x9 x10 x11 h o (2816 + o) ho (by omega) (x 0) (x 1)).trans ?_
    simp only [G, e0, e1, Nat.add_assoc]
  have mem : ∀ (o : Nat) (ho : o + 256 ≤ 2816), o ≤ f.val → f.val < o + 256 →
      (ix2 n f : S1024x2816.Idx) ∈ (Rect.unit (s := S1024x2816) ![0, o] S1024x256.size (inbA o ho)).set := by
    intro o ho h1 h2
    rw [Rect.mem_set_unit]
    intro a
    match a with
    | ⟨0, _⟩ => exact ⟨Nat.zero_le _, by show n.val < 0 + 1024; omega⟩
    | ⟨1, _⟩ => exact ⟨h1, h2⟩
  refine View.canon_apply_of_pieces (Val := Elt Ideal) (e := .bf16) G _ ?_ (ix2 n f) ?_
  · intro p hp x
    obtain ⟨o, ho, rfl⟩ := key p hp
    exact at_ o ho x
  · have hf : f.val / 256 = 0 ∨ f.val / 256 = 1 ∨ f.val / 256 = 2 ∨ f.val / 256 = 3 ∨ f.val / 256 = 4 ∨ f.val / 256 = 5 ∨ f.val / 256 = 6 ∨ f.val / 256 = 7 ∨ f.val / 256 = 8 ∨ f.val / 256 = 9 ∨ f.val / 256 = 10 := by omega
    rcases hf with hf | hf | hf | hf | hf | hf | hf | hf | hf | hf | hf
    · exact ⟨_, .tail _ (.tail _ (.tail _ (.tail _ (.tail _ (.tail _ (.tail _ (.tail _ (.tail _ (.tail _ (.head _)))))))))), mem 0 (by decide) (by omega) (by omega)⟩
    · exact ⟨_, .tail _ (.tail _ (.tail _ (.tail _ (.tail _ (.tail _ (.tail _ (.tail _ (.tail _ (.head _))))))))), mem 256 (by decide) (by omega) (by omega)⟩
    · exact ⟨_, .tail _ (.tail _ (.tail _ (.tail _ (.tail _ (.tail _ (.tail _ (.tail _ (.head _)))))))), mem 512 (by decide) (by omega) (by omega)⟩
    · exact ⟨_, .tail _ (.tail _ (.tail _ (.tail _ (.tail _ (.tail _ (.tail _ (.head _))))))), mem 768 (by decide) (by omega) (by omega)⟩
    · exact ⟨_, .tail _ (.tail _ (.tail _ (.tail _ (.tail _ (.tail _ (.head _)))))), mem 1024 (by decide) (by omega) (by omega)⟩
    · exact ⟨_, .tail _ (.tail _ (.tail _ (.tail _ (.tail _ (.head _))))), mem 1280 (by decide) (by omega) (by omega)⟩
    · exact ⟨_, .tail _ (.tail _ (.tail _ (.tail _ (.head _)))), mem 1536 (by decide) (by omega) (by omega)⟩
    · exact ⟨_, .tail _ (.tail _ (.tail _ (.head _))), mem 1792 (by decide) (by omega) (by omega)⟩
    · exact ⟨_, .tail _ (.tail _ (.head _)), mem 2048 (by decide) (by omega) (by omega)⟩
    · exact ⟨_, .tail _ (.head _), mem 2304 (by decide) (by omega) (by omega)⟩
    · exact ⟨_, .head _, mem 2560 (by decide) (by omega) (by omega)⟩

/-- The buffer of the mixer's rows, at an index. -/
theorem yext_at (x13 : Vec Ideal S1x1024x1024 .bf16) (x14 x15 : Vec Ideal S1x16x1024 .bf16) (n : Fin 1056) (k : Fin 1024) :
    @Eq EReal (yext x13 x14 x15 (ix2 n k))
      (if h : n.val < 16 then x14 (ix3 0 (⟨n.val, h⟩ : Fin 16) k)
        else if h' : n.val < 1040 then x13 (ix3 0 (⟨n.val - 16, by omega⟩ : Fin 1024) k)
        else x15 (ix3 0 (⟨n.val - 1040, by omega⟩ : Fin 16) k)) := by
  unfold yext
  rw [rows3_at]
  have e2 : ∀ n : Fin 16, @Eq EReal (k0_pay2 x14 (ix2 n k)) (x14 (ix3 0 n k)) := by intro n; unfold_payloads; pointwise
  have e3 : ∀ n : Fin 1024, @Eq EReal (k0_pay3 x13 (ix2 n k)) (x13 (ix3 0 n k)) := by intro n; unfold_payloads; pointwise
  have e4 : ∀ n : Fin 16, @Eq EReal (k0_pay4 x15 (ix2 n k)) (x15 (ix3 0 n k)) := by intro n; unfold_payloads; pointwise
  simp only [e2, e3, e4]

section Block

variable (i : Nat) (hi : i < 4)
    (x0 : Vec Ideal S1x1024x1024 .f32) (x1 x2 : Vec Ideal S1x16x1024 .f32) (x3 : Vec Ideal S1x1x1024 .f32)
    (x4 : Vec Ideal S1024x1024 .bf16) (x5 : Vec Ideal S1x1024 .f32) (x6 x7 x8 : Vec Ideal S1x1x1024 .f32) (x9 : Vec Ideal S1024x5632 .bf16)
    (x10 : Vec Ideal S3x2816 .f32) (x11 : Vec Ideal S1x2816 .f32) (x12 : Vec Ideal S2816x1024 .bf16) (y : Vec Ideal S1056x1024 .bf16)
    (X O : Fin 4096 → Fin 1024 → EReal)
    (h0 : ∀ (r d : Fin 1024) (l : Fin 4096), l.val = 1024 * i + r.val → x0 (ix3 0 r d) = X l d)
    (h1 : ∀ (r : Fin 16) (d : Fin 1024) (l : Fin 4096), l.val + 16 = 1024 * i + r.val → x1 (ix3 0 r d) = X l d)
    (h2 : ∀ (r : Fin 16) (d : Fin 1024) (l : Fin 4096), l.val = 1024 * i + 1024 + r.val → x2 (ix3 0 r d) = X l d)
    (hy : ∀ (n : Fin 1056) (k : Fin 1024) (l : Fin 4096), l.val + 16 = 1024 * i + n.val → y (ix2 n k) = O l k)

/-- The normed rows of the call these blocks are read from. -/
abbrev rowsOf (l : Fin 4096) : Fin 1024 → EReal :=
  normed (mixed X O (fun k d => x4 (ix2 k d)) (fun d => x3 (ix3 0 0 d)) l)
    (fun x => x5 (ix2 0 x)) (fun x => x6 (ix3 0 0 x)) (fun x => x7 (ix3 0 0 x))

include hi h0 h1 h2 hy in
theorem hn_at (n : Fin 1056) (d : Fin 1024) :
    @Eq EReal (hn (BitVec.ofNat 32 i) x0 x1 x2 x3 x4 x5 x6 x7 y (ix2 n d)) (around (rowsOf x3 x4 x5 x6 x7 X O) (1024 * i + n.val - 15) d) := by
  unfold hn
  rw [rows3_at]
  split
  · rename_i hn
    rw [normPrev_at, after_first i hi]
    split
    · rename_i h
      rw [around_of _ _ (⟨1024 * i + n.val - 16, by omega⟩ : Fin 4096) (by dsimp only; omega)]
      refine congrArg (fun r => normed r _ _ _ d) (funext fun x => ?_)
      rw [proj_at, h1 _ _ (⟨1024 * i + n.val - 16, by omega⟩ : Fin 4096) (by dsimp only; omega)]
      unfold mixed
      refine congrArg (fun s : EReal => _ + _ * s) (Finset.sum_congr rfl fun k _ => ?_)
      rw [hy _ _ (⟨1024 * i + n.val - 16, by omega⟩ : Fin 4096) (by dsimp only; omega)]
    · rw [around_zero]; omega
  · split
    · rename_i hn hn'
      rw [normCur_at]
      rw [around_of _ _ (⟨1024 * i + n.val - 16, by omega⟩ : Fin 4096) (by dsimp only; omega)]
      refine congrArg (fun r => normed r _ _ _ d) (funext fun x => ?_)
      rw [cur_at, h0 _ _ (⟨1024 * i + n.val - 16, by omega⟩ : Fin 4096) (by dsimp only; omega)]
      unfold mixed
      refine congrArg (fun s : EReal => _ + _ * s) (Finset.sum_congr rfl fun k _ => ?_)
      rw [hy _ _ (⟨1024 * i + n.val - 16, by omega⟩ : Fin 4096) (by dsimp only; omega)]
    · rename_i hn hn'
      rw [normNext_at, before_last i hi]
      split
      · rename_i h
        rw [around_of _ _ (⟨1024 * i + n.val - 16, by omega⟩ : Fin 4096) (by dsimp only; omega)]
        refine congrArg (fun r => normed r _ _ _ d) (funext fun x => ?_)
        rw [next_at, h2 _ _ (⟨1024 * i + n.val - 16, by omega⟩ : Fin 4096) (by dsimp only; omega)]
        unfold mixed
        refine congrArg (fun s : EReal => _ + _ * s) (Finset.sum_congr rfl fun k _ => ?_)
        rw [hy _ _ (⟨1024 * i + n.val - 16, by omega⟩ : Fin 4096) (by dsimp only; omega)]
      · rw [around_zero]; omega

include hi h0 h1 h2 hy in
/-- The output block at an index. -/
theorem tile_at (r d : Fin 1024) (l : Fin 4096) (hl : l.val = 1024 * i + r.val) :
    @Eq EReal (tile (BitVec.ofNat 32 i) x0 x1 x2 x3 x4 x5 x6 x7 x8 x9 x10 x11 x12 y (ix3 0 r d))
      (block X O (fun k d => x4 (ix2 k d)) (fun d => x3 (ix3 0 0 d)) (fun x => x5 (ix2 0 x)) (fun x => x6 (ix3 0 0 x))
        (fun x => x7 (ix3 0 0 x)) (fun x => x8 (ix3 0 0 x)) (fun k f => x9 (ix2 k f)) (fun t f => x10 (ix2 t f))
        (fun f => x11 (ix2 0 f)) (fun f d => x12 (ix2 f d)) l d) := by
  unfold tile
  rw [out_at, cur_at, h0 r d l hl]
  unfold block
  have e : ∀ k, y (ix2 (⟨16 + r.val, by omega⟩ : Fin 1056) k) = O l k := fun k => hy _ _ _ (by dsimp only; omega)
  simp only [e]
  refine congrArg (fun s : EReal => _ + _ * s) (Finset.sum_congr rfl fun f _ => ?_)
  rw [act_at]
  simp only [hn_at i hi x0 x1 x2 x3 x4 x5 x6 x7 y X O h0 h1 h2 hy]
  have e1 : 1024 * i + (15 + r.val) - 15 = l.val := by omega
  have e2 : 1024 * i + (16 + r.val) - 15 = l.val + 1 := by omega
  have e3 : 1024 * i + (17 + r.val) - 15 = l.val + 2 := by omega
  rw [e1, e2, e3]
  rfl

end Block

end Cert.FfnIdeal.Rows

end
-- ==== Proof.Ffn.Array.lean ====
module

public import proofs.«01_k».proof.Proof.Ffn.Tile
public import Idealize.ShloMosaic.Lib.StableHlo.ReadAt

/-! The array the kernel leaves, from its blocks, and those from the call's arguments. -/

@[expose] public section

set_option maxRecDepth 16384

noncomputable section

open Idealize.ShloMosaic Idealize.ShloMosaic.TcCoe Idealize.SL.Sem
open Idealize.ShloMosaic.Pipeline (Dat)

namespace Cert.FfnIdeal.Rows

open Cert.FfnIdeal Cert.FfnIdeal.Gen Cert.FfnIdeal.Value Cert.Block

/-- Where each window's block lies at a step: four steps a sequence, 1024 rows a step. -/
theorem coords1 : ∀ t : Fin cfg0.N, (grid0.coords t 1).val = t.val % 4 := by decide +kernel
theorem index0 : ∀ t : Fin cfg0.N, win0_0.index t = ![t.val / 4, t.val % 4, 0] := by decide +kernel
theorem index1 : ∀ t : Fin cfg0.N, win0_1.index t = ![t.val / 4, 64 * (t.val % 4) - 1, 0] := by decide +kernel
theorem index2 : ∀ t : Fin cfg0.N, win0_2.index t = ![t.val / 4, min (64 * (t.val % 4) + 64) 255, 0] := by decide +kernel
theorem index3 : ∀ t : Fin cfg0.N, win0_3.index t = ![t.val / 4, 0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val / 4, 0, 0] := by decide +kernel
theorem index7 : ∀ t : Fin cfg0.N, win0_7.index t = ![t.val / 4, 0, 0] := by decide +kernel
theorem index8 : ∀ t : Fin cfg0.N, win0_8.index t = ![t.val / 4, 0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![0, 0] := by decide +kernel
theorem index13 : ∀ t : Fin cfg0.N, win0_13.index t = ![t.val / 4, t.val % 4, 0] := by decide +kernel
theorem index14 : ∀ t : Fin cfg0.N, win0_14.index t = ![t.val / 4, 64 * (t.val % 4) - 1, 0] := by decide +kernel
theorem index15 : ∀ t : Fin cfg0.N, win0_15.index t = ![t.val / 4, min (64 * (t.val % 4) + 64) 255, 0] := by decide +kernel
theorem index16 : ∀ t : Fin cfg0.N, win0_16.index t = ![t.val / 4, t.val % 4, 0] := by decide +kernel
theorem flush16' : ∀ t : Fin cfg0.N, (cfg0.win 16).flush t = true := by decide +kernel

variable (m : (ℓ : Loc nD τ sig) → Buf (Elt Ideal) ℓ) (c : Dev nD)

/-- The arguments. -/
abbrev argX : S8x4096x1024.Idx → EReal := m (c, Proc.tc.devRef main_arg0)
abbrev argO : S8x4096x1024.Idx → EReal := m (c, Proc.tc.devRef main_arg1)
abbrev argWo : S1024x1024.Idx → EReal := m (c, Proc.tc.devRef main_arg2)
abbrev argGate1 : S8x1x1024.Idx → EReal := m (c, Proc.tc.devRef main_arg3)
abbrev argNorm : S1024.Idx → EReal := m (c, Proc.tc.devRef main_arg4)
abbrev argShift : S8x1x1024.Idx → EReal := m (c, Proc.tc.devRef main_arg5)
abbrev argScale : S8x1x1024.Idx → EReal := m (c, Proc.tc.devRef main_arg6)
abbrev argGate2 : S8x1x1024.Idx → EReal := m (c, Proc.tc.devRef main_arg7)
abbrev argUp : S1024x5632.Idx → EReal := m (c, Proc.tc.devRef main_arg8)
abbrev argConv : S3x2816.Idx → EReal := m (c, Proc.tc.devRef main_arg9)
abbrev argBias : S2816.Idx → EReal := m (c, Proc.tc.devRef main_arg10)
abbrev argDown : S2816x1024.Idx → EReal := m (c, Proc.tc.devRef main_arg11)

theorem wo_at (k d : Fin 1024) : @Eq EReal (V m c main_v0 (ix2 k d)) (argWo m c (ix2 k d)) := by
  unfold V
  after_reads_at

theorem up_at (k : Fin 1024) (f : Fin 5632) : @Eq EReal (V m c main_v1 (ix2 k f)) (argUp m c (ix2 k f)) := by
  unfold V
  after_reads_at

theorem down_at (f : Fin 2816) (d : Fin 1024) : @Eq EReal (V m c main_v2 (ix2 f d)) (argDown m c (ix2 f d)) := by
  unfold V
  after_reads_at

theorem norm_at (d : Fin 1024) : @Eq EReal (V m c main_v3 (ix2 0 d)) (argNorm m c (ix1 d)) := by
  unfold V
  after_reads_at

theorem bias_at (f : Fin 2816) : @Eq EReal (V m c main_v4 (ix2 0 f)) (argBias m c (ix1 f)) := by
  unfold V
  after_reads_at

theorem read0 (X : Buf (Elt Ideal) ((c : Thread nD τ).loc main_arg0)) (t : Fin cfg0.N) (y : S1x1024x1024.Idx) (i : S8x4096x1024.Idx)
    (h0 : (i 0).val = win0_0.index t 0 * 1 + 1 * (y 0).val) (h1 : (i 1).val = win0_0.index t 1 * 1024 + 1 * (y 1).val) (h2 : (i 2).val = win0_0.index t 2 * 1024 + 1 * (y 2).val) :
    ((cfg0.win 0).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read1 (X : Buf (Elt Ideal) ((c : Thread nD τ).loc main_arg0)) (t : Fin cfg0.N) (y : S1x16x1024.Idx) (i : S8x4096x1024.Idx)
    (h0 : (i 0).val = win0_1.index t 0 * 1 + 1 * (y 0).val) (h1 : (i 1).val = win0_1.index t 1 * 16 + 1 * (y 1).val) (h2 : (i 2).val = win0_1.index t 2 * 1024 + 1 * (y 2).val) :
    ((cfg0.win 1).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read2 (X : Buf (Elt Ideal) ((c : Thread nD τ).loc main_arg0)) (t : Fin cfg0.N) (y : S1x16x1024.Idx) (i : S8x4096x1024.Idx)
    (h0 : (i 0).val = win0_2.index t 0 * 1 + 1 * (y 0).val) (h1 : (i 1).val = win0_2.index t 1 * 16 + 1 * (y 1).val) (h2 : (i 2).val = win0_2.index t 2 * 1024 + 1 * (y 2).val) :
    ((cfg0.win 2).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read3 (X : Buf (Elt Ideal) ((c : Thread nD τ).loc main_arg3)) (t : Fin cfg0.N) (y : S1x1x1024.Idx) (i : S8x1x1024.Idx)
    (h0 : (i 0).val = win0_3.index t 0 * 1 + 1 * (y 0).val) (h1 : (i 1).val = win0_3.index t 1 * 1 + 1 * (y 1).val) (h2 : (i 2).val = win0_3.index t 2 * 1024 + 1 * (y 2).val) :
    ((cfg0.win 3).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read4 (X : Buf (Elt Ideal) ((c : Thread nD τ).loc main_v0)) (t : Fin cfg0.N) (y : S1024x1024.Idx) (i : S1024x1024.Idx)
    (h0 : (i 0).val = win0_4.index t 0 * 1024 + 1 * (y 0).val) (h1 : (i 1).val = win0_4.index t 1 * 1024 + 1 * (y 1).val) :
    ((cfg0.win 4).blk t).view.read (Elt Ideal) X y = X i := by
  rw [View.read_apply]
  refine congrArg X (funext fun a => Fin.ext ?_)
  match a with
  | ⟨0, _⟩ => exact h0.symm
  | ⟨1, _⟩ => exact h1.symm

theorem read5 (X : Buf (Elt Ideal) ((c : Thread nD τ).loc main_v3)) (t : Fin cfg0.N) (y : S1x1024.Idx) (i : S1x1024.Idx)
    (h0 : (i 0).val = win0_5.index t 0 * 1 + 1 * (y 0).val) (h1 : (i 1).val = win0_5.index t 1 * 1024 + 1 * (y 1).val) :
    ((cfg0.win 5).blk t).view.read (Elt Ideal) X y = X i := by
  rw [View.read_apply]
  refine congrArg X (funext fun a => Fin.ext ?_)
  match a with
  | ⟨0, _⟩ => exact h0.symm
  | ⟨1, _⟩ => exact h1.symm

theorem read6 (X : Buf (Elt Ideal) ((c : Thread nD τ).loc main_arg5)) (t : Fin cfg0.N) (y : S1x1x1024.Idx) (i : S8x1x1024.Idx)
    (h0 : (i 0).val = win0_6.index t 0 * 1 + 1 * (y 0).val) (h1 : (i 1).val = win0_6.index t 1 * 1 + 1 * (y 1).val) (h2 : (i 2).val = win0_6.index t 2 * 1024 + 1 * (y 2).val) :
    ((cfg0.win 6).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read7 (X : Buf (Elt Ideal) ((c : Thread nD τ).loc main_arg6)) (t : Fin cfg0.N) (y : S1x1x1024.Idx) (i : S8x1x1024.Idx)
    (h0 : (i 0).val = win0_7.index t 0 * 1 + 1 * (y 0).val) (h1 : (i 1).val = win0_7.index t 1 * 1 + 1 * (y 1).val) (h2 : (i 2).val = win0_7.index t 2 * 1024 + 1 * (y 2).val) :
    ((cfg0.win 7).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read8 (X : Buf (Elt Ideal) ((c : Thread nD τ).loc main_arg7)) (t : Fin cfg0.N) (y : S1x1x1024.Idx) (i : S8x1x1024.Idx)
    (h0 : (i 0).val = win0_8.index t 0 * 1 + 1 * (y 0).val) (h1 : (i 1).val = win0_8.index t 1 * 1 + 1 * (y 1).val) (h2 : (i 2).val = win0_8.index t 2 * 1024 + 1 * (y 2).val) :
    ((cfg0.win 8).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read9 (X : Buf (Elt Ideal) ((c : Thread nD τ).loc main_v1)) (t : Fin cfg0.N) (y : S1024x5632.Idx) (i : S1024x5632.Idx)
    (h0 : (i 0).val = win0_9.index t 0 * 1024 + 1 * (y 0).val) (h1 : (i 1).val = win0_9.index t 1 * 5632 + 1 * (y 1).val) :
    ((cfg0.win 9).blk t).view.read (Elt Ideal) X y = X i := by
  rw [View.read_apply]
  refine congrArg X (funext fun a => Fin.ext ?_)
  match a with
  | ⟨0, _⟩ => exact h0.symm
  | ⟨1, _⟩ => exact h1.symm

theorem read10 (X : Buf (Elt Ideal) ((c : Thread nD τ).loc main_arg9)) (t : Fin cfg0.N) (y : S3x2816.Idx) (i : S3x2816.Idx)
    (h0 : (i 0).val = win0_10.index t 0 * 3 + 1 * (y 0).val) (h1 : (i 1).val = win0_10.index t 1 * 2816 + 1 * (y 1).val) :
    ((cfg0.win 10).blk t).view.read (Elt Ideal) X y = X i := by
  rw [View.read_apply]
  refine congrArg X (funext fun a => Fin.ext ?_)
  match a with
  | ⟨0, _⟩ => exact h0.symm
  | ⟨1, _⟩ => exact h1.symm

theorem read11 (X : Buf (Elt Ideal) ((c : Thread nD τ).loc main_v4)) (t : Fin cfg0.N) (y : S1x2816.Idx) (i : S1x2816.Idx)
    (h0 : (i 0).val = win0_11.index t 0 * 1 + 1 * (y 0).val) (h1 : (i 1).val = win0_11.index t 1 * 2816 + 1 * (y 1).val) :
    ((cfg0.win 11).blk t).view.read (Elt Ideal) X y = X i := by
  rw [View.read_apply]
  refine congrArg X (funext fun a => Fin.ext ?_)
  match a with
  | ⟨0, _⟩ => exact h0.symm
  | ⟨1, _⟩ => exact h1.symm

theorem read12 (X : Buf (Elt Ideal) ((c : Thread nD τ).loc main_v2)) (t : Fin cfg0.N) (y : S2816x1024.Idx) (i : S2816x1024.Idx)
    (h0 : (i 0).val = win0_12.index t 0 * 2816 + 1 * (y 0).val) (h1 : (i 1).val = win0_12.index t 1 * 1024 + 1 * (y 1).val) :
    ((cfg0.win 12).blk t).view.read (Elt Ideal) X y = X i := by
  rw [View.read_apply]
  refine congrArg X (funext fun a => Fin.ext ?_)
  match a with
  | ⟨0, _⟩ => exact h0.symm
  | ⟨1, _⟩ => exact h1.symm

theorem read13 (X : Buf (Elt Ideal) ((c : Thread nD τ).loc main_arg1)) (t : Fin cfg0.N) (y : S1x1024x1024.Idx) (i : S8x4096x1024.Idx)
    (h0 : (i 0).val = win0_13.index t 0 * 1 + 1 * (y 0).val) (h1 : (i 1).val = win0_13.index t 1 * 1024 + 1 * (y 1).val) (h2 : (i 2).val = win0_13.index t 2 * 1024 + 1 * (y 2).val) :
    ((cfg0.win 13).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read14 (X : Buf (Elt Ideal) ((c : Thread nD τ).loc main_arg1)) (t : Fin cfg0.N) (y : S1x16x1024.Idx) (i : S8x4096x1024.Idx)
    (h0 : (i 0).val = win0_14.index t 0 * 1 + 1 * (y 0).val) (h1 : (i 1).val = win0_14.index t 1 * 16 + 1 * (y 1).val) (h2 : (i 2).val = win0_14.index t 2 * 1024 + 1 * (y 2).val) :
    ((cfg0.win 14).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read15 (X : Buf (Elt Ideal) ((c : Thread nD τ).loc main_arg1)) (t : Fin cfg0.N) (y : S1x16x1024.Idx) (i : S8x4096x1024.Idx)
    (h0 : (i 0).val = win0_15.index t 0 * 1 + 1 * (y 0).val) (h1 : (i 1).val = win0_15.index t 1 * 16 + 1 * (y 1).val) (h2 : (i 2).val = win0_15.index t 2 * 1024 + 1 * (y 2).val) :
    ((cfg0.win 15).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem blk0 (t : Fin cfg0.N) (b : Fin 8) (hb : b.val = t.val / 4) (r : Fin 1024) (d : Fin 1024) (l : Fin 4096) (hl : l.val = 1024 * (t.val % 4) + r.val) :
    @Eq EReal (iblk m c 0 t (ix3 0 r d)) (argX m c (ix3 b l d)) := by
  refine (read0 c (V m c main_arg0) t (ix3 0 r d) (ix3 b l d) ?_ ?_ ?_).trans (congrFun (V_main_arg0 m c) _)
  · rw [index0]; show b.val = t.val / 4 * 1 + 1 * 0; omega
  · rw [index0]; show l.val = t.val % 4 * 1024 + 1 * r.val; omega
  · rw [index0]; show d.val = 0 * 1024 + 1 * d.val; omega

theorem blk1 (t : Fin cfg0.N) (b : Fin 8) (hb : b.val = t.val / 4) (r : Fin 16) (d : Fin 1024) (l : Fin 4096) (hl : l.val + 16 = 1024 * (t.val % 4) + r.val) :
    @Eq EReal (iblk m c 1 t (ix3 0 r d)) (argX m c (ix3 b l d)) := by
  refine (read1 c (V m c main_arg0) t (ix3 0 r d) (ix3 b l d) ?_ ?_ ?_).trans (congrFun (V_main_arg0 m c) _)
  · rw [index1]; show b.val = t.val / 4 * 1 + 1 * 0; omega
  · rw [index1]; show l.val = (64 * (t.val % 4) - 1) * 16 + 1 * r.val; omega
  · rw [index1]; show d.val = 0 * 1024 + 1 * d.val; omega

theorem blk2 (t : Fin cfg0.N) (b : Fin 8) (hb : b.val = t.val / 4) (r : Fin 16) (d : Fin 1024) (l : Fin 4096) (hl : l.val = 1024 * (t.val % 4) + 1024 + r.val) :
    @Eq EReal (iblk m c 2 t (ix3 0 r d)) (argX m c (ix3 b l d)) := by
  refine (read2 c (V m c main_arg0) t (ix3 0 r d) (ix3 b l d) ?_ ?_ ?_).trans (congrFun (V_main_arg0 m c) _)
  · rw [index2]; show b.val = t.val / 4 * 1 + 1 * 0; omega
  · rw [index2]; show l.val = (min (64 * (t.val % 4) + 64) 255) * 16 + 1 * r.val; omega
  · rw [index2]; show d.val = 0 * 1024 + 1 * d.val; omega

theorem blk3 (t : Fin cfg0.N) (b : Fin 8) (hb : b.val = t.val / 4) (d : Fin 1024) :
    @Eq EReal (iblk m c 3 t (ix3 0 0 d)) (argGate1 m c (ix3 b 0 d)) := by
  refine (read3 c (V m c main_arg3) t (ix3 0 0 d) (ix3 b 0 d) ?_ ?_ ?_).trans (congrFun (V_main_arg3 m c) _)
  · rw [index3]; show b.val = t.val / 4 * 1 + 1 * 0; omega
  · rw [index3]; rfl
  · rw [index3]; show d.val = 0 * 1024 + 1 * d.val; omega

theorem blk4 (t : Fin cfg0.N) (k : Fin 1024) (d : Fin 1024) : @Eq EReal (iblk m c 4 t (ix2 k d)) (argWo m c (ix2 k d)) := by
  refine (read4 c (V m c main_v0) t (ix2 k d) (ix2 k d) ?_ ?_).trans (wo_at m c k d)
  · rw [index4]; show k.val = 0 * 1024 + 1 * k.val; omega
  · rw [index4]; show d.val = 0 * 1024 + 1 * d.val; omega

theorem blk5 (t : Fin cfg0.N) (d : Fin 1024) : @Eq EReal (iblk m c 5 t (ix2 0 d)) (argNorm m c (ix1 d)) := by
  refine (read5 c (V m c main_v3) t (ix2 0 d) (ix2 0 d) ?_ ?_).trans (norm_at m c d)
  · rw [index5]; rfl
  · rw [index5]; show d.val = 0 * 1024 + 1 * d.val; omega

theorem blk6 (t : Fin cfg0.N) (b : Fin 8) (hb : b.val = t.val / 4) (d : Fin 1024) :
    @Eq EReal (iblk m c 6 t (ix3 0 0 d)) (argShift m c (ix3 b 0 d)) := by
  refine (read6 c (V m c main_arg5) t (ix3 0 0 d) (ix3 b 0 d) ?_ ?_ ?_).trans (congrFun (V_main_arg5 m c) _)
  · rw [index6]; show b.val = t.val / 4 * 1 + 1 * 0; omega
  · rw [index6]; rfl
  · rw [index6]; show d.val = 0 * 1024 + 1 * d.val; omega

theorem blk7 (t : Fin cfg0.N) (b : Fin 8) (hb : b.val = t.val / 4) (d : Fin 1024) :
    @Eq EReal (iblk m c 7 t (ix3 0 0 d)) (argScale m c (ix3 b 0 d)) := by
  refine (read7 c (V m c main_arg6) t (ix3 0 0 d) (ix3 b 0 d) ?_ ?_ ?_).trans (congrFun (V_main_arg6 m c) _)
  · rw [index7]; show b.val = t.val / 4 * 1 + 1 * 0; omega
  · rw [index7]; rfl
  · rw [index7]; show d.val = 0 * 1024 + 1 * d.val; omega

theorem blk8 (t : Fin cfg0.N) (b : Fin 8) (hb : b.val = t.val / 4) (d : Fin 1024) :
    @Eq EReal (iblk m c 8 t (ix3 0 0 d)) (argGate2 m c (ix3 b 0 d)) := by
  refine (read8 c (V m c main_arg7) t (ix3 0 0 d) (ix3 b 0 d) ?_ ?_ ?_).trans (congrFun (V_main_arg7 m c) _)
  · rw [index8]; show b.val = t.val / 4 * 1 + 1 * 0; omega
  · rw [index8]; rfl
  · rw [index8]; show d.val = 0 * 1024 + 1 * d.val; omega

theorem blk9 (t : Fin cfg0.N) (k : Fin 1024) (d : Fin 5632) : @Eq EReal (iblk m c 9 t (ix2 k d)) (argUp m c (ix2 k d)) := by
  refine (read9 c (V m c main_v1) t (ix2 k d) (ix2 k d) ?_ ?_).trans (up_at m c k d)
  · rw [index9]; show k.val = 0 * 1024 + 1 * k.val; omega
  · rw [index9]; show d.val = 0 * 5632 + 1 * d.val; omega

theorem blk10 (t : Fin cfg0.N) (k : Fin 3) (d : Fin 2816) : @Eq EReal (iblk m c 10 t (ix2 k d)) (argConv m c (ix2 k d)) := by
  refine (read10 c (V m c main_arg9) t (ix2 k d) (ix2 k d) ?_ ?_).trans (congrFun (V_main_arg9 m c) _)
  · rw [index10]; show k.val = 0 * 3 + 1 * k.val; omega
  · rw [index10]; show d.val = 0 * 2816 + 1 * d.val; omega

theorem blk11 (t : Fin cfg0.N) (d : Fin 2816) : @Eq EReal (iblk m c 11 t (ix2 0 d)) (argBias m c (ix1 d)) := by
  refine (read11 c (V m c main_v4) t (ix2 0 d) (ix2 0 d) ?_ ?_).trans (bias_at m c d)
  · rw [index11]; rfl
  · rw [index11]; show d.val = 0 * 2816 + 1 * d.val; omega

theorem blk12 (t : Fin cfg0.N) (k : Fin 2816) (d : Fin 1024) : @Eq EReal (iblk m c 12 t (ix2 k d)) (argDown m c (ix2 k d)) := by
  refine (read12 c (V m c main_v2) t (ix2 k d) (ix2 k d) ?_ ?_).trans (down_at m c k d)
  · rw [index12]; show k.val = 0 * 2816 + 1 * k.val; omega
  · rw [index12]; show d.val = 0 * 1024 + 1 * d.val; omega

theorem blk13 (t : Fin cfg0.N) (b : Fin 8) (hb : b.val = t.val / 4) (r : Fin 1024) (d : Fin 1024) (l : Fin 4096) (hl : l.val = 1024 * (t.val % 4) + r.val) :
    @Eq EReal (iblk m c 13 t (ix3 0 r d)) (argO m c (ix3 b l d)) := by
  refine (read13 c (V m c main_arg1) t (ix3 0 r d) (ix3 b l d) ?_ ?_ ?_).trans (congrFun (V_main_arg1 m c) _)
  · rw [index13]; show b.val = t.val / 4 * 1 + 1 * 0; omega
  · rw [index13]; show l.val = t.val % 4 * 1024 + 1 * r.val; omega
  · rw [index13]; show d.val = 0 * 1024 + 1 * d.val; omega

theorem blk14 (t : Fin cfg0.N) (b : Fin 8) (hb : b.val = t.val / 4) (r : Fin 16) (d : Fin 1024) (l : Fin 4096) (hl : l.val + 16 = 1024 * (t.val % 4) + r.val) :
    @Eq EReal (iblk m c 14 t (ix3 0 r d)) (argO m c (ix3 b l d)) := by
  refine (read14 c (V m c main_arg1) t (ix3 0 r d) (ix3 b l d) ?_ ?_ ?_).trans (congrFun (V_main_arg1 m c) _)
  · rw [index14]; show b.val = t.val / 4 * 1 + 1 * 0; omega
  · rw [index14]; show l.val = (64 * (t.val % 4) - 1) * 16 + 1 * r.val; omega
  · rw [index14]; show d.val = 0 * 1024 + 1 * d.val; omega

theorem blk15 (t : Fin cfg0.N) (b : Fin 8) (hb : b.val = t.val / 4) (r : Fin 16) (d : Fin 1024) (l : Fin 4096) (hl : l.val = 1024 * (t.val % 4) + 1024 + r.val) :
    @Eq EReal (iblk m c 15 t (ix3 0 r d)) (argO m c (ix3 b l d)) := by
  refine (read15 c (V m c main_arg1) t (ix3 0 r d) (ix3 b l d) ?_ ?_ ?_).trans (congrFun (V_main_arg1 m c) _)
  · rw [index15]; show b.val = t.val / 4 * 1 + 1 * 0; omega
  · rw [index15]; show l.val = (min (64 * (t.val % 4) + 64) 255) * 16 + 1 * r.val; omega
  · rw [index15]; show d.val = 0 * 1024 + 1 * d.val; omega

/-- The mixer's output rows of a sequence. -/
def mixer (b : Fin 8) (l : Fin 4096) (k : Fin 1024) : EReal :=
  argO m c (ix3 b l k)

/-- The output of a sequence at a row and a channel. -/
def outAt (b : Fin 8) (l : Fin 4096) (d : Fin 1024) : EReal :=
  block (fun l d => argX m c (ix3 b l d)) (mixer m c b) (fun k d => argWo m c (ix2 k d)) (fun d => argGate1 m c (ix3 b 0 d))
    (fun d => argNorm m c (ix1 d)) (fun d => argShift m c (ix3 b 0 d)) (fun d => argScale m c (ix3 b 0 d)) (fun d => argGate2 m c (ix3 b 0 d))
    (fun k f => argUp m c (ix2 k f)) (fun t f => argConv m c (ix2 t f)) (fun f => argBias m c (ix1 f)) (fun f d => argDown m c (ix2 f d)) l d

/-- The output array. -/
def result : Buf (Elt Ideal) ((c : Thread nD τ).loc main_v5) := fun i => outAt m c (i 0) (i 1) (i 2)

theorem rows_at (t : Fin cfg0.N) (b : Fin 8) (hb : b.val = t.val / 4) (n : Fin 1056) (k : Fin 1024) (l : Fin 4096)
    (hl : l.val + 16 = 1024 * (t.val % 4) + n.val) :
    @Eq EReal (yext (iblk m c 13 t) (iblk m c 14 t) (iblk m c 15 t) (ix2 n k)) (mixer m c b l k) := by
  refine (yext_at (iblk m c 13 t) (iblk m c 14 t) (iblk m c 15 t) n k).trans ?_
  unfold mixer
  split
  · exact blk14 m c t b hb _ k l (by dsimp only; omega)
  · split
    · exact blk13 m c t b hb _ k l (by dsimp only; omega)
    · exact blk15 m c t b hb _ k l (by dsimp only; omega)

theorem tile_value (t : Fin cfg0.N) (b : Fin 8) (hb : b.val = t.val / 4) (r d : Fin 1024) (l : Fin 4096) (hl : l.val = 1024 * (t.val % 4) + r.val) :
    @Eq EReal (tile (BitVec.ofNat 32 (grid0.coords t 1).val) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (yext (iblk m c 13 t) (iblk m c 14 t) (iblk m c 15 t)) (ix3 0 r d)) (outAt m c b l d) := by
  rw [coords1]
  refine (tile_at (t.val % 4) (by omega) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (yext (iblk m c 13 t) (iblk m c 14 t) (iblk m c 15 t))
      (fun l d => argX m c (ix3 b l d)) (mixer m c b) (blk0 m c t b hb) (blk1 m c t b hb) (blk2 m c t b hb) (rows_at m c t b hb) r d l hl).trans ?_
  exact block_congr (fun _ _ => rfl) (fun _ _ => rfl) (blk4 m c t) (blk3 m c t b hb) (blk5 m c t) (blk6 m c t b hb) (blk7 m c t b hb)
    (blk8 m c t b hb) (blk9 m c t) (blk10 m c t) (blk11 m c t) (blk12 m c t) rfl rfl

theorem flushed_eq (t : Fin cfg0.N) : (dats m 0 c).flushed 16 t = ((cfg0.win 16).blk t).view.read (Elt Ideal) (result m c) := by
  have hN : t.val < 32 := lt_of_lt_of_eq t.isLt N_0
  rw [flushed16_A, out0_A_16_eq]
  funext y
  rw [View.read_apply]
  have hy0 : (y 0).val < 1 := (y 0).isLt
  have hy1 : (y 1).val < 1024 := (y 1).isLt
  have hy2 : (y 2).val < 1024 := (y 2).isLt
  have e0 : (((cfg0.win 16).blk t).view.emb y 0 : Fin 8) = (⟨t.val / 4, by omega⟩ : Fin 8) := Fin.ext (by
    show win0_16.index t 0 * 1 + 1 * (y 0).val = t.val / 4
    rw [index16]; show t.val / 4 * 1 + 1 * (y 0).val = t.val / 4; omega)
  have e1 : (((cfg0.win 16).blk t).view.emb y 1 : Fin 4096) = (⟨1024 * (t.val % 4) + (y 1).val, by omega⟩ : Fin 4096) := Fin.ext (by
    show win0_16.index t 1 * 1024 + 1 * (y 1).val = 1024 * (t.val % 4) + (y 1).val
    rw [index16]; show t.val % 4 * 1024 + 1 * (y 1).val = _; omega)
  have e2 : (((cfg0.win 16).blk t).view.emb y 2 : Fin 1024) = (y 2 : Fin 1024) := Fin.ext (by
    show win0_16.index t 2 * 1024 + 1 * (y 2).val = (y 2).val
    rw [index16]; show 0 * 1024 + 1 * (y 2).val = _; omega)
  refine Eq.trans ?_ ((tile_value m c t (⟨t.val / 4, by omega⟩ : Fin 8) rfl (y 1) (y 2) (⟨1024 * (t.val % 4) + (y 1).val, by omega⟩ : Fin 4096) rfl).trans ?_)
  · refine congrArg _ (funext fun a => Fin.ext ?_)
    match a with
    | ⟨0, _⟩ => show (y 0).val = 0; omega
    | ⟨1, _⟩ => rfl
    | ⟨2, _⟩ => rfl
  · show outAt m c _ _ _ = outAt m c (((cfg0.win 16).blk t).view.emb y 0) (((cfg0.win 16).blk t).view.emb y 1) (((cfg0.win 16).blk t).view.emb y 2)
    rw [e0, e1, e2]

theorem final : (dats m 0 c).arrAt 16 cfg0.N = result m c :=
  (dats m 0 c).arrAt_eq_of_cover 16 (result m c) (fun t _ => flushed_eq m c t) fun i => by
    have h0 : (i 0 : Nat) < 8 := (i 0).isLt
    have h1 : (i 1 : Nat) < 4096 := (i 1).isLt
    have h2 : (i 2 : Nat) < 1024 := (i 2).isLt
    have hn : (i 0 : Nat) * 4 + (i 1 : Nat) / 1024 < cfg0.N := by rw [show cfg0.N = 32 from N_0]; omega
    refine ⟨⟨(i 0 : Nat) * 4 + (i 1 : Nat) / 1024, hn⟩, flush16' _, ?_⟩
    show i ∈ ((View.whole main_v5).slice (win0_16.rect ⟨(i 0 : Nat) * 4 + (i 1 : Nat) / 1024, hn⟩)).set
    rw [View.set_slice_whole, Rect.mem_set_unit]
    intro a
    match a with
    | ⟨0, _⟩ =>
      show win0_16.index _ 0 * 1 ≤ (i 0 : Nat) ∧ (i 0 : Nat) < win0_16.index _ 0 * 1 + 1
      rw [index16]; simp; omega
    | ⟨1, _⟩ =>
      show win0_16.index _ 1 * 1024 ≤ (i 1 : Nat) ∧ (i 1 : Nat) < win0_16.index _ 1 * 1024 + 1024
      rw [index16]; simp; omega
    | ⟨2, _⟩ =>
      show win0_16.index _ 2 * 1024 ≤ (i 2 : Nat) ∧ (i 2 : Nat) < win0_16.index _ 2 * 1024 + 1024
      rw [index16]; simp; omega

end Cert.FfnIdeal.Rows

end
-- ==== Proof.Ffn.Ref.lean ====
module

public import proofs.«01_k».proof.Proof.Gen.FfnRefIdeal.Read
public import proofs.«01_k».proof.Proof.Ffn.Spec
public import Idealize.ShloMosaic.Lib.Pointwise

/-! The reference, read at an index. -/

@[expose] public section

set_option maxRecDepth 16384

noncomputable section

open Idealize.ShloMosaic

namespace Cert.FfnRefIdeal.Rows

open Cert.FfnRefIdeal Cert.FfnRefIdeal.Gen Cert.FfnRefIdeal.Read Cert.Block

variable (x0 : FVec Ideal S8x4096x1024 .f32) (x1 : FVec Ideal S8x4096x1024 .bf16) (x2 : FVec Ideal S1024x1024 .f32)
  (x3 : FVec Ideal S8x1x1024 .f32) (x4 : FVec Ideal S1024 .f32) (x5 x6 x7 : FVec Ideal S8x1x1024 .f32) (x8 : FVec Ideal S1024x5632 .f32)
  (x9 : FVec Ideal S3x2816 .f32) (x10 : FVec Ideal S2816 .f32) (x11 : FVec Ideal S2816x1024 .f32)

/-- The mixer's output rows of a sequence. -/
def mixer (b : Fin 8) (l : Fin 4096) (k : Fin 1024) : EReal := x1 (ix3 b l k)

theorem mixed_eq (b : Fin 8) (l : Fin 4096) (d : Fin 1024) :
    @Eq EReal (val_main_v4 (F := Ideal) x0 x1 x2 x3 (ix3 b l d))
      (mixed (fun l d => x0 (ix3 b l d)) (mixer x1 b) (fun k d => x2 (ix2 k d)) (fun d => x3 (ix3 b 0 d)) l d) := by
  unfold val_main_v4 val_main_v3 val_main_v2 val_main_v1 val_main_v0 mixed mixer
  pointwise

/-- The normed rows of a sequence. -/
abbrev rowsOf (b : Fin 8) (l : Fin 4096) : Fin 1024 → EReal :=
  normed (mixed (fun l d => x0 (ix3 b l d)) (mixer x1 b) (fun k d => x2 (ix2 k d)) (fun d => x3 (ix3 b 0 d)) l)
    (fun d => x4 (ix1 d)) (fun d => x5 (ix3 b 0 d)) (fun d => x6 (ix3 b 0 d))

theorem normed_eq (b : Fin 8) (l : Fin 4096) (d : Fin 1024) :
    @Eq EReal (val_main_v23 (F := Ideal) x0 x1 x2 x3 x4 x5 x6 (ix3 b l d)) (rowsOf x0 x1 x2 x3 x4 x5 x6 b l d) := by
  unfold rowsOf normed
  simp only [← mixed_eq]
  unfold val_main_v23 val_main_v22 val_main_v21 val_main_v20 val_main_v19 val_main_v18 val_main_cst_2 val_main_v17 val_main_v16 val_main_v15
    val_main_v14 val_main_v13 val_main_v12 val_main_v11 val_main_v10 val_main_cst_1 val_main_v9 val_main_v8 val_main_cst_0 val_main_v7
    val_main_v6 val_main_cst val_main_v5
  generalize val_main_v4 (F := Ideal) x0 x1 x2 x3 = z
  pointwise

/-- The gate of a sequence's rows with a row of zeros before and after, -/
theorem gate_eq (b : Fin 8) (n : Fin 4098) (f : Fin 2816) :
    @Eq EReal (val_main_v27 (F := Ideal) x0 x1 x2 x3 x4 x5 x6 x8 (ix3 b n f))
      (∑ x, around (rowsOf x0 x1 x2 x3 x4 x5 x6 b) n.val x * x8 (ix2 x (⟨f.val, by omega⟩ : Fin 5632))) := by
  by_cases h : 1 ≤ n.val ∧ n.val ≤ 4096
  · rw [around_of _ _ (⟨n.val - 1, by omega⟩ : Fin 4096) (by dsimp only; omega)]
    simp only [← normed_eq]
    unfold val_main_v27 val_main_v25 val_main_v24 val_main_call0_v0 val_main_c
    generalize val_main_v23 (F := Ideal) x0 x1 x2 x3 x4 x5 x6 = z
    pointwise
    rw [dif_pos (by omega)]
  · rw [gate_zero _ _ h]
    unfold val_main_v27 val_main_v25 val_main_v24 val_main_call0_v0 val_main_c
    generalize val_main_v23 (F := Ideal) x0 x1 x2 x3 x4 x5 x6 = z
    pointwise
    rw [dif_neg (by omega)]
    show (((0#32 : BitVec 32).toInt : ℝ) : EReal) = 0
    simp

theorem value_eq (b : Fin 8) (l : Fin 4096) (f : Fin 2816) :
    @Eq EReal (val_main_v26 (F := Ideal) x0 x1 x2 x3 x4 x5 x6 x8 (ix3 b l f))
      (∑ x, rowsOf x0 x1 x2 x3 x4 x5 x6 b l x * x8 (ix2 x (⟨2816 + f.val, by omega⟩ : Fin 5632))) := by
  simp only [← normed_eq]
  unfold val_main_v26 val_main_v24
  generalize val_main_v23 (F := Ideal) x0 x1 x2 x3 x4 x5 x6 = z
  pointwise

theorem channel_eq (b : Fin 8) (l : Fin 4096) (f : Fin 2816) :
    @Eq EReal (val_main_v52 (F := Ideal) x0 x1 x2 x3 x4 x5 x6 x8 x9 x10 (ix3 b l f))
      (channel (rowsOf x0 x1 x2 x3 x4 x5 x6 b) (fun k f => x8 (ix2 k f)) (fun t f => x9 (ix2 t f)) (fun f => x10 (ix1 f)) l.val f) := by
  unfold channel gated conv
  rw [around_of _ (l.val + 1) l rfl, ← value_eq]
  have g0 := gate_eq x0 x1 x2 x3 x4 x5 x6 x8 b (⟨l.val, by omega⟩ : Fin 4098) f
  have g1 := gate_eq x0 x1 x2 x3 x4 x5 x6 x8 b (⟨l.val + 1, by omega⟩ : Fin 4098) f
  have g2 := gate_eq x0 x1 x2 x3 x4 x5 x6 x8 b (⟨l.val + 2, by omega⟩ : Fin 4098) f
  dsimp only at g0 g1 g2
  rw [around_of _ (l.val + 1) l rfl] at g1
  rw [← g0, ← g1, ← g2]
  unfold val_main_v52 val_main_v51 val_main_call1_v5 val_main_call1_v4 val_main_call1_cst_0 val_main_call1_v3 val_main_call1_v2
    val_main_call1_cst val_main_call1_v1 val_main_call1_v0 val_main_v50 val_main_v49 val_main_v48 val_main_v47 val_main_v46 val_main_v45
    val_main_v44 val_main_v43 val_main_v42 val_main_v41 val_main_v40 val_main_v39 val_main_v38 val_main_v37 val_main_v36 val_main_v35
    val_main_v34 val_main_v33 val_main_v32 val_main_v31 val_main_v30 val_main_v29 val_main_v28
  generalize val_main_v27 (F := Ideal) x0 x1 x2 x3 x4 x5 x6 x8 = z
  generalize val_main_v26 (F := Ideal) x0 x1 x2 x3 x4 x5 x6 x8 = u
  pointwise
  rw [zero_sub]
  simp only [Nat.add_comm 1, Nat.add_comm 2]

theorem reference_at (b : Fin 8) (l : Fin 4096) (d : Fin 1024) :
    @Eq EReal (val_main_v56 (F := Ideal) x0 x1 x2 x3 x4 x5 x6 x7 x8 x9 x10 x11 (ix3 b l d))
      (block (fun l d => x0 (ix3 b l d)) (mixer x1 b) (fun k d => x2 (ix2 k d)) (fun d => x3 (ix3 b 0 d))
        (fun d => x4 (ix1 d)) (fun d => x5 (ix3 b 0 d)) (fun d => x6 (ix3 b 0 d)) (fun d => x7 (ix3 b 0 d))
        (fun k f => x8 (ix2 k f)) (fun t f => x9 (ix2 t f)) (fun f => x10 (ix1 f)) (fun f d => x11 (ix2 f d)) l d) := by
  unfold block
  simp only [← mixed_eq, ← channel_eq]
  unfold val_main_v56 val_main_v55 val_main_v54 val_main_v53
  generalize val_main_v52 (F := Ideal) x0 x1 x2 x3 x4 x5 x6 x8 x9 x10 = u
  generalize val_main_v4 (F := Ideal) x0 x1 x2 x3 = z
  pointwise

end Cert.FfnRefIdeal.Rows

end
-- ==== Proof.Ffn.Value.lean ====
module

public import proofs.«01_k».proof.Defs
public import proofs.«01_k».proof.Proof.Ffn.Array
public import proofs.«01_k».proof.Proof.Ffn.Ref
public import proofs.«01_k».proof.Proof.Gen.FfnRefIdeal.Run
public import Idealize.ShloMosaic.Adequacy
public import Idealize.ShloMosaic.Init
public import Idealize.ShloMosaic.Lib.Claim

/-! The kernel's array is the reference's. -/

@[expose] public section

set_option maxRecDepth 16384

noncomputable section

open Idealize.ShloMosaic Idealize.ShloMosaic.TcCoe Idealize.SL.Sem

namespace Cert.FfnIdeal.Rows

open Cert.FfnIdeal Cert.FfnIdeal.Gen

variable (m : (ℓ : Loc nD τ sig) → Buf (Elt Ideal) ℓ) (c : Dev nD)

theorem result_eq : result m c = Cert.FfnRefIdeal.Read.val_main_v56 (F := Ideal) (argX m c) (argO m c) (argWo m c) (argGate1 m c) (argNorm m c) (argShift m c) (argScale m c) (argGate2 m c) (argUp m c) (argConv m c) (argBias m c) (argDown m c) := by
  funext i
  obtain ⟨b, l, d, rfl⟩ : ∃ (b : Fin 8) (l : Fin 4096) (d : Fin 1024), i = ix3 b l d :=
    ⟨i 0, i 1, i 2, funext fun a => by match a with | ⟨0, _⟩ => rfl | ⟨1, _⟩ => rfl | ⟨2, _⟩ => rfl⟩
  exact (Cert.FfnRefIdeal.Rows.reference_at _ _ _ _ _ _ _ _ _ _ _ _ b l d).symm

end Cert.FfnIdeal.Rows

namespace Cert.Proof

/-- The reference runs, and leaves its arguments as they were. -/
theorem ffn_reference_frame : Cert.quiescent_FfnRefIdeal := by
  intro m g _
  exact (θ_run Cert.FfnRefIdeal.defs _ _).mono (fun r h => ⟨fun c => (h c).2, Idealize.ShloMosaic.sem_eq_zero_of_no_sems (by decide) r.2⟩)
    (Cert.FfnRefIdeal.Value.run m g)

/-- The kernel computes what its reference computes. -/
theorem ffn_value : Cert.algebraic_FfnIdeal_FfnRefIdeal := by
  intro m g m' g' _ hagree
  refine ⟨fun c => Cert.FfnIdeal.Rows.result m c, ?_, ?_⟩
  · exact (θ_run _ _ _).mono (fun r h c => ⟨(h c).1.trans (Cert.FfnIdeal.Rows.final m c), (h c).2⟩)
      (Cert.FfnIdeal.Value.run_blocks m g)
  · refine (θ_run _ _ _).mono (fun r h c => ⟨?_, (h c).2⟩) (Cert.FfnRefIdeal.Value.run m' g')
    obtain ⟨a0, a1, a2, a3, a4, a5, a6, a7, a8, a9, a10, a11⟩ := hagree c
    refine ((h c).1.trans (Cert.FfnRefIdeal.Read.val_main_v56_eq m' c)).trans ?_
    rw [a0, a1, a2, a3, a4, a5, a6, a7, a8, a9, a10, a11]
    exact (Cert.FfnIdeal.Rows.result_eq m c).symm

end Cert.Proof

end
-- ==== Proof.Mix.Step.lean ====
module

public import proofs.«01_k».proof.Proof.Gen.MixIdeal.Value
public import Idealize.ShloMosaic.Lib.Pointwise

/-! What one grid point of the projection-and-ConvFFN kernel leaves in its output block, in four layers: the mixer's rows
with sixteen rows of its neighbours on either side, the normed rows, the gated channels, the output rows. -/

@[expose] public section

set_option maxRecDepth 16384

noncomputable section

open Idealize.ShloMosaic Idealize.ShloMosaic.TcCoe Idealize.SL.Sem
open Idealize.ShloMosaic.Pipeline (Dat)

namespace Cert.MixIdeal.Rows

open Cert.MixIdeal Cert.MixIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {S : Shape} {e : EltTy} {sig : RefSig} {κ : Kind} {sp : Space} (v : View sig κ sp S e)
    (L : List (View.Piece (Elt F) S e)) (r : Rect S) : v.readCov L r.toLoadRect = View.ld (View.canon L) r :=
  View.readCov_eq_canon' v L r

/-- The two mixers' output rows side by side: sixteen of the tile before, the tile's, sixteen of the tile after. -/
def yext (x13 : Vec F S1x1024x512 .bf16) (x14 x15 : Vec F S1x16x512 .bf16)
    (x16 : Vec F S1x1024x512 .bf16) (x17 x18 : Vec F S1x16x512 .bf16) : Vec F S1056x1024 .bf16 :=
  View.canon (Val := Elt F) (s := S1056x1024) (e := .bf16)
    [⟨Rect.unit (s := S1056x1024) ![1040, 512] S16x512.size inb_S1056x1024_S16x512_1040_512, k0_pay7 x18⟩,
     ⟨Rect.unit (s := S1056x1024) ![16, 512] S1024x512.size inb_S1056x1024_S1024x512_16_512, k0_pay6 x16⟩,
     ⟨Rect.unit (s := S1056x1024) ![0, 512] S16x512.size inb_S1056x1024_S16x512_0_512, k0_pay5 x17⟩,
     ⟨Rect.unit (s := S1056x1024) ![1040, 0] S16x512.size inb_S1056x1024_S16x512_1040_0, k0_pay4 x15⟩,
     ⟨Rect.unit (s := S1056x1024) ![16, 0] S1024x512.size inb_S1056x1024_S1024x512_16_0, k0_pay3 x13⟩,
     ⟨Rect.unit (s := S1056x1024) ![0, 0] S16x512.size inb_S1056x1024_S16x512_0_0, k0_pay2 x14⟩]

/-- The modulated norm of the rows, zero before the sequence's first tile and after its last. -/
def hn (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 : Vec F S1x1x1024 .f32) (y : Vec F S1056x1024 .bf16) :
    Vec F S1056x1024 .bf16 :=
  View.canon (Val := Elt F) (s := S1056x1024) (e := .bf16)
    [⟨Rect.unit (s := S1056x1024) ![1040, 0] S16x1024.size inb_S1056x1024_S16x1024_1040_0,
        k0_pay19 a (k0_pay11 x3 y x4 x2) (k0_pay12 x5) (k0_pay13 x6) (k0_pay14 x7)⟩,
     ⟨Rect.unit (s := S1056x1024) ![16, 0] S1024x1024.size inb_S1056x1024_S1024x1024_16_0,
        k0_pay18 (k0_pay17 (k0_pay9 x3 y x4 x0) (k0_pay12 x5) (k0_pay13 x6) (k0_pay14 x7))⟩,
     ⟨Rect.unit (s := S1056x1024) ![0, 0] S16x1024.size inb_S1056x1024_S16x1024_0_0,
        k0_pay16 a (k0_pay10 x3 y x4 x1) (k0_pay12 x5) (k0_pay13 x6) (k0_pay14 x7) (k0_pay15 x3 y x4 x1)⟩]

/-- 256 gated channels. -/
def chunk (h : Vec F S1056x1024 .bf16) (u v : Vec F S1024x256 .bf16) (w : Vec F S3x256 .f32) (b : Vec F S1x256 .f32) :
    Vec F S1024x256 .bf16 :=
  k0_pay45 h u
    (View.ld h (Rect.unit (s := S1056x1024) ![16, 0] S1024x1024.size inb_S1056x1024_S1024x1024_16_0)) v w b

theorem inbW (o : Nat) (ho : o + 256 ≤ 5632) : ∀ a, (![0, o] : Fin 2 → Nat) a + S1024x256.size a ≤ S1024x5632.size a := by
  intro a; match a with | ⟨0, _⟩ => exact le_refl _ | ⟨1, _⟩ => exact ho
theorem inbC (o : Nat) (ho : o + 256 ≤ 2816) : ∀ a, (![0, o] : Fin 2 → Nat) a + S3x256.size a ≤ S3x2816.size a := by
  intro a; match a with | ⟨0, _⟩ => exact le_refl _ | ⟨1, _⟩ => exact ho
theorem inbB (o : Nat) (ho : o + 256 ≤ 2816) : ∀ a, (![0, o] : Fin 2 → Nat) a + S1x256.size a ≤ S1x2816.size a := by
  intro a; match a with | ⟨0, _⟩ => exact le_refl _ | ⟨1, _⟩ => exact ho
theorem inbA (o : Nat) (ho : o + 256 ≤ 2816) : ∀ a, (![0, o] : Fin 2 → Nat) a + S1024x256.size a ≤ S1024x2816.size a := by
  intro a; match a with | ⟨0, _⟩ => exact le_refl _ | ⟨1, _⟩ => exact ho

/-- The 256 gated channels from channel `o` on. -/
def chunkAt (h : Vec F S1056x1024 .bf16) (x9 : Vec F S1024x5632 .bf16) (x10 : Vec F S3x2816 .f32) (x11 : Vec F S1x2816 .f32)
    (o v : Nat) (ho : o + 256 ≤ 2816) (hv : v + 256 ≤ 5632) : Vec F S1024x256 .bf16 :=
  chunk h
    (View.ld x9 (Rect.unit (s := S1024x5632) ![0, o] S1024x256.size (inbW o (by omega))))
    (View.ld x9 (Rect.unit (s := S1024x5632) ![0, v] S1024x256.size (inbW v hv)))
    (View.ld x10 (Rect.unit (s := S3x2816) ![0, o] S3x256.size (inbC o ho)))
    (View.ld x11 (Rect.unit (s := S1x2816) ![0, o] S1x256.size (inbB o ho)))

def piece (h : Vec F S1056x1024 .bf16) (x9 : Vec F S1024x5632 .bf16) (x10 : Vec F S3x2816 .f32) (x11 : Vec F S1x2816 .f32)
    (o v : Nat) (ho : o + 256 ≤ 2816) (hv : v + 256 ≤ 5632) : View.Piece (Elt F) S1024x2816 .bf16 :=
  ⟨Rect.unit (s := S1024x2816) ![0, o] S1024x256.size (inbA o ho), chunkAt h x9 x10 x11 o v ho hv⟩

/-- The gated channels, all 2816. -/
def act (h : Vec F S1056x1024 .bf16) (x9 : Vec F S1024x5632 .bf16) (x10 : Vec F S3x2816 .f32) (x11 : Vec F S1x2816 .f32) :
    Vec F S1024x2816 .bf16 :=
  View.canon (Val := Elt F) (s := S1024x2816) (e := .bf16)
    [piece h x9 x10 x11 2560 5376 (by decide) (by decide), piece h x9 x10 x11 2304 5120 (by decide) (by decide),
     piece h x9 x10 x11 2048 4864 (by decide) (by decide), piece h x9 x10 x11 1792 4608 (by decide) (by decide),
     piece h x9 x10 x11 1536 4352 (by decide) (by decide), piece h x9 x10 x11 1280 4096 (by decide) (by decide),
     piece h x9 x10 x11 1024 3840 (by decide) (by decide), piece h x9 x10 x11 768 3584 (by decide) (by decide),
     piece h x9 x10 x11 512 3328 (by decide) (by decide), piece h x9 x10 x11 256 3072 (by decide) (by decide),
     piece h x9 x10 x11 0 2816 (by decide) (by decide)]

/-- The output block. -/
def tile (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 x8 : Vec F S1x1x1024 .f32) (x9 : Vec F S1024x5632 .bf16)
    (x10 : Vec F S3x2816 .f32) (x11 : Vec F S1x2816 .f32) (x12 : Vec F S2816x1024 .bf16) (y : Vec F S1056x1024 .bf16) :
    Vec F S1x1024x1024 .f32 :=
  k0_pay1 (k0_pay9 x3 y x4 x0) x8 (act (hn a x0 x1 x2 x3 x4 x5 x6 x7 y) x9 x10 x11) x12

section Chunks

variable (h : Vec F S1056x1024 .bf16) (h' : Vec F S1024x1024 .bf16) (u v : Vec F S1024x256 .bf16) (w : Vec F S3x256 .f32) (b : Vec F S1x256 .f32)

/-! The kernel's text cuts each chunk's computation at a different place; all are the last chunk's. -/
theorem chunk0 : k0_pay23 (k0_pay20 h u) (k0_pay21 h' v) w (k0_pay22 h u) 1055#32 b = k0_pay45 h u h' v w b := rfl
theorem chunk1 : k0_pay26 (k0_pay24 h u) (k0_pay25 h' v) w 1#32 b = k0_pay45 h u h' v w b := rfl
theorem chunk2 : k0_pay29 (k0_pay27 h u) (k0_pay28 h' v) w b = k0_pay45 h u h' v w b := rfl
theorem chunk3 : k0_pay32 (k0_pay30 h u) (k0_pay31 h' v) w b = k0_pay45 h u h' v w b := rfl
theorem chunk4 : k0_pay35 (k0_pay33 h u) h' (k0_pay34 v) w b = k0_pay45 h u h' v w b := rfl
theorem chunk5 : k0_pay37 (k0_pay36 h u) h' v w b = k0_pay45 h u h' v w b := rfl
theorem chunk6 : k0_pay39 (k0_pay38 h u) h' v w b = k0_pay45 h u h' v w b := rfl
theorem chunk7 : k0_pay41 (k0_pay40 h u) h' v w b = k0_pay45 h u h' v w b := rfl
theorem chunk8 (z : FVec F S1056x256 .f32) (hz : z = constant S1056x256 .f32 0x00000000#32) :
    k0_pay43 h (k0_pay42 u) z h' v w b = k0_pay45 h u h' v w b := by subst hz; rfl
theorem chunk9 : k0_pay44 h u h' v w b = k0_pay45 h u h' v w b := rfl

end Chunks

theorem yext_fold (x13 : Vec F S1x1024x512 .bf16) (x14 x15 : Vec F S1x16x512 .bf16)
    (x16 : Vec F S1x1024x512 .bf16) (x17 x18 : Vec F S1x16x512 .bf16) :
    View.canon (Val := Elt F) (s := S1056x1024) (e := .bf16)
      [⟨Rect.unit (s := S1056x1024) ![1040, 512] ![16, 512] inb_S1056x1024_S16x512_1040_512, k0_pay7 x18⟩,
     ⟨Rect.unit (s := S1056x1024) ![16, 512] ![1024, 512] inb_S1056x1024_S1024x512_16_512, k0_pay6 x16⟩,
     ⟨Rect.unit (s := S1056x1024) ![0, 512] ![16, 512] inb_S1056x1024_S16x512_0_512, k0_pay5 x17⟩,
     ⟨Rect.unit (s := S1056x1024) ![1040, 0] ![16, 512] inb_S1056x1024_S16x512_1040_0, k0_pay4 x15⟩,
     ⟨Rect.unit (s := S1056x1024) ![16, 0] ![1024, 512] inb_S1056x1024_S1024x512_16_0, k0_pay3 x13⟩,
     ⟨Rect.unit (s := S1056x1024) ![0, 0] ![16, 512] inb_S1056x1024_S16x512_0_0, k0_pay2 x14⟩] = yext x13 x14 x15 x16 x17 x18 := rfl

theorem hn_fold (a : BitVec 32) (x0 : Vec F S1x1024x1024 .f32) (x1 x2 : Vec F S1x16x1024 .f32) (x3 : Vec F S1x1x1024 .f32)
    (x4 : Vec F S1024x1024 .bf16) (x5 : Vec F S1x1024 .f32) (x6 x7 : Vec F S1x1x1024 .f32) (y : Vec F S1056x1024 .bf16) :
    View.canon (Val := Elt F) (s := S1056x1024) (e := .bf16)
    [⟨Rect.unit (s := S1056x1024) ![1040, 0] ![16, 1024] inb_S1056x1024_S16x1024_1040_0,
        k0_pay19 a (k0_pay11 x3 y x4 x2) (k0_pay12 x5) (k0_pay13 x6) (k0_pay14 x7)⟩,
     ⟨Rect.unit (s := S1056x1024) ![16, 0] ![1024, 1024] inb_S1056x1024_S1024x1024_16_0,
        k0_pay18 (k0_pay17 (k0_pay9 x3 y x4 x0) (k0_pay12 x5) (k0_pay13 x6) (k0_pay14 x7))⟩,
     ⟨Rect.unit (s := S1056x1024) ![0, 0] ![16, 1024] inb_S1056x1024_S16x1024_0_0,
        k0_pay16 a (k0_pay10 x3 y x4 x1) (k0_pay12 x5) (k0_pay13 x6) (k0_pay14 x7) (k0_pay15 x3 y x4 x1)⟩] = hn a x0 x1 x2 x3 x4 x5 x6 x7 y := rfl

variable (c : Dev nD)
  (i : grid0.Coords)
  (arg2 : Memref sig .tc .vmem S1x1024x1024 .f32)
  (harg2 : arg2.IsWhole)
  (arg3 : Memref sig .tc .vmem S1x16x1024 .f32)
  (harg3 : arg3.IsWhole)
  (arg4 : Memref sig .tc .vmem S1x16x1024 .f32)
  (harg4 : arg4.IsWhole)
  (arg5 : Memref sig .tc .vmem S1x1x1024 .f32)
  (harg5 : arg5.IsWhole)
  (arg6 : Memref sig .tc .vmem S1024x1024 .bf16)
  (harg6 : arg6.IsWhole)
  (arg7 : Memref sig .tc .vmem S1x1024 .f32)
  (harg7 : arg7.IsWhole)
  (arg8 : Memref sig .tc .vmem S1x1x1024 .f32)
  (harg8 : arg8.IsWhole)
  (arg9 : Memref sig .tc .vmem S1x1x1024 .f32)
  (harg9 : arg9.IsWhole)
  (arg10 : Memref sig .tc .vmem S1x1x1024 .f32)
  (harg10 : arg10.IsWhole)
  (arg11 : Memref sig .tc .vmem S1024x5632 .bf16)
  (harg11 : arg11.IsWhole)
  (arg12 : Memref sig .tc .vmem S3x2816 .f32)
  (harg12 : arg12.IsWhole)
  (arg13 : Memref sig .tc .vmem S1x2816 .f32)
  (harg13 : arg13.IsWhole)
  (arg14 : Memref sig .tc .vmem S2816x1024 .bf16)
  (harg14 : arg14.IsWhole)
  (arg15 : Memref sig .tc .vmem S1x1024x512 .bf16)
  (harg15 : arg15.IsWhole)
  (arg16 : Memref sig .tc .vmem S1x16x512 .bf16)
  (harg16 : arg16.IsWhole)
  (arg17 : Memref sig .tc .vmem S1x16x512 .bf16)
  (harg17 : arg17.IsWhole)
  (arg18 : Memref sig .tc .vmem S1x1024x512 .bf16)
  (harg18 : arg18.IsWhole)
  (arg19 : Memref sig .tc .vmem S1x16x512 .bf16)
  (harg19 : arg19.IsWhole)
  (arg20 : Memref sig .tc .vmem S1x16x512 .bf16)
  (harg20 : arg20.IsWhole)
  (arg21 : Memref sig .tc .vmem S1x1024x1024 .f32)
  (harg21 : arg21.IsWhole)
  (arg22 : Memref sig .tc .vmem S1056x1024 .bf16)
  (harg22 : arg22.IsWhole)
  (arg23 : Memref sig .tc .vmem S1056x1024 .bf16)
  (harg23 : arg23.IsWhole)
  (arg24 : Memref sig .tc .vmem S1024x2816 .bf16)
  (harg24 : arg24.IsWhole)
  (x0 : Vec F S1x1024x1024 .f32)
  (x1 : Vec F S1x16x1024 .f32)
  (x2 : Vec F S1x16x1024 .f32)
  (x3 : Vec F S1x1x1024 .f32)
  (x4 : Vec F S1024x1024 .bf16)
  (x5 : Vec F S1x1024 .f32)
  (x6 : Vec F S1x1x1024 .f32)
  (x7 : Vec F S1x1x1024 .f32)
  (x8 : Vec F S1x1x1024 .f32)
  (x9 : Vec F S1024x5632 .bf16)
  (x10 : Vec F S3x2816 .f32)
  (x11 : Vec F S1x2816 .f32)
  (x12 : Vec F S2816x1024 .bf16)
  (x13 : Vec F S1x1024x512 .bf16)
  (x14 : Vec F S1x16x512 .bf16)
  (x15 : Vec F S1x16x512 .bf16)
  (x16 : Vec F S1x1024x512 .bf16)
  (x17 : Vec F S1x16x512 .bf16)
  (x18 : Vec F S1x16x512 .bf16)

set_option maxHeartbeats 1600000 in
theorem out0_A_19_eq : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18
    = tile (BitVec.ofNat 32 (i 1).val) x0 x1 x2 x3 x4 x5 x6 x7 x8 x9 x10 x11 x12 (yext x13 x14 x15 x16 x17 x18) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18)]
  unfold kernelRun0_A
  dsimp only
  sl_unfold_words
  first
    | rw [View.canon_unit_zero (S := S1x1024x1024) hz3]
    | rw [View.canon_cons_unit_zero (S := S1x1024x1024) hz3]
  simp only [readCov_ld, View.ld_unit_zero (S := S1056x1024) hz2, View.ld_unit_zero (S := S1024x2816) hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread,
    View.ld_unit_zero (S := S1x1024x1024) hz3, View.ld_unit_zero (S := S1x16x1024) hz3, View.ld_unit_zero (S := S1x1x1024) hz3,
    View.ld_unit_zero (S := S1x1024) hz2, View.ld_unit_zero (S := S1024x1024) hz2, View.ld_unit_zero (S := S2816x1024) hz2,
    chunk0, chunk1, chunk2, chunk3, chunk4, chunk5, chunk6, chunk7, chunk8 _ _ _ _ _ _ _ rfl, chunk9,
    View.ld_unit_zero (S := S1x1024x512) hz3, View.ld_unit_zero (S := S1x16x512) hz3, yext_fold, hn_fold]
  rfl

end Cert.MixIdeal.Rows

end
-- ==== Proof.Mix.Tile.lean ====
module

public import proofs.«01_k».proof.Proof.Mix.Step
public import proofs.«01_k».proof.Proof.Ffn.Spec

/-! The four layers of an output block, read at an index. -/

@[expose] public section

set_option maxRecDepth 16384

noncomputable section

open Idealize.ShloMosaic Idealize.ShloMosaic.TcCoe

namespace Cert.MixIdeal.Rows

open Cert.MixIdeal Cert.MixIdeal.Gen Cert.Block

section Parts

variable (a : BitVec 32) (x0 : Vec Ideal S1x1024x1024 .f32) (x1 x2 : Vec Ideal S1x16x1024 .f32) (x3 : Vec Ideal S1x1x1024 .f32)
    (x4 : Vec Ideal S1024x1024 .bf16) (x5 : Vec Ideal S1x1024 .f32) (x6 x7 x8 : Vec Ideal S1x1x1024 .f32) (x9 : Vec Ideal S1024x5632 .bf16)
    (x10 : Vec Ideal S3x2816 .f32) (x11 : Vec Ideal S1x2816 .f32) (x12 : Vec Ideal S2816x1024 .bf16) (y h : Vec Ideal S1056x1024 .bf16)
    (g : Vec Ideal S1024x2816 .bf16) (z : Vec Ideal S1024x1024 .f32)

theorem prev_at (n : Fin 16) (d : Fin 1024) :
    @Eq EReal (k0_pay10 x3 y x4 x1 (ix2 n d))
      ((x1 (ix3 0 n d) : EReal) + (x3 (ix3 0 0 d) : EReal) * ∑ k, (y (ix2 (⟨n.val, by omega⟩ : Fin 1056) k) : EReal) * x4 (ix2 k d)) := by
  unfold_payloads
  pointwise

theorem cur_at (n d : Fin 1024) :
    @Eq EReal (k0_pay9 x3 y x4 x0 (ix2 n d))
      ((x0 (ix3 0 n d) : EReal) + (x3 (ix3 0 0 d) : EReal) * ∑ k, (y (ix2 (⟨16 + n.val, by omega⟩ : Fin 1056) k) : EReal) * x4 (ix2 k d)) := by
  unfold_payloads
  pointwise

theorem next_at (n : Fin 16) (d : Fin 1024) :
    @Eq EReal (k0_pay11 x3 y x4 x2 (ix2 n d))
      ((x2 (ix3 0 n d) : EReal) + (x3 (ix3 0 0 d) : EReal) * ∑ k, (y (ix2 (⟨1040 + n.val, by omega⟩ : Fin 1056) k) : EReal) * x4 (ix2 k d)) := by
  unfold_payloads
  pointwise

theorem normCur_at (n d : Fin 1024) :
    @Eq EReal (k0_pay18 (k0_pay17 z (k0_pay12 x5) (k0_pay13 x6) (k0_pay14 x7)) (ix2 n d))
      (normed (fun x => z (ix2 n x)) (fun x => x5 (ix2 0 x)) (fun x => x6 (ix3 0 0 x)) (fun x => x7 (ix3 0 0 x)) d) := by
  unfold_payloads
  unfold normed
  pointwise

theorem normPrev_at (z q : FVec Ideal S16x1024 .f32) (hq : q = mulf z z) (n : Fin 16) (d : Fin 1024) :
    @Eq EReal (k0_pay16 a z (k0_pay12 x5) (k0_pay13 x6) (k0_pay14 x7) q (ix2 n d))
      (Scalar.select (Scalar.cmpi .sgt a 0#32)
        (normed (fun x => z (ix2 n x)) (fun x => x5 (ix2 0 x)) (fun x => x6 (ix3 0 0 x)) (fun x => x7 (ix3 0 0 x)) d) (0 : EReal)) := by
  subst hq
  unfold_payloads
  unfold normed
  pointwise

theorem normNext_at (z : Vec Ideal S16x1024 .f32) (n : Fin 16) (d : Fin 1024) :
    @Eq EReal (k0_pay19 a z (k0_pay12 x5) (k0_pay13 x6) (k0_pay14 x7) (ix2 n d))
      (Scalar.select (Scalar.cmpi .slt a 3#32)
        (normed (fun x => z (ix2 n x)) (fun x => x5 (ix2 0 x)) (fun x => x6 (ix3 0 0 x)) (fun x => x7 (ix3 0 0 x)) d) (0 : EReal)) := by
  unfold_payloads
  unfold normed
  pointwise

theorem chunkAt_at (o v : Nat) (ho : o + 256 ≤ 2816) (hv : v + 256 ≤ 5632) (n : Fin 1024) (d : Fin 256) :
    @Eq EReal (chunkAt h x9 x10 x11 o v ho hv (ix2 n d))
      (gated (fun x => h (ix2 (⟨15 + n.val, by omega⟩ : Fin 1056) x)) (fun x => h (ix2 (⟨16 + n.val, by omega⟩ : Fin 1056) x))
        (fun x => h (ix2 (⟨17 + n.val, by omega⟩ : Fin 1056) x))
        (fun x => x9 (ix2 x (⟨o + d.val, by omega⟩ : Fin 5632))) (fun x => x9 (ix2 x (⟨v + d.val, by omega⟩ : Fin 5632)))
        (x10 (ix2 0 (⟨o + d.val, by omega⟩ : Fin 2816))) (x10 (ix2 1 (⟨o + d.val, by omega⟩ : Fin 2816)))
        (x10 (ix2 2 (⟨o + d.val, by omega⟩ : Fin 2816))) (x11 (ix2 0 (⟨o + d.val, by omega⟩ : Fin 2816)))) := by
  unfold chunkAt chunk
  unfold_payloads
  unfold gated conv
  pointwise
  have e1 : (16 + n.val + 1056 - 1) % 1056 = 15 + n.val := by omega
  have e2 : (16 + n.val + 1056 - 1055) % 1056 = 17 + n.val := by omega
  simp only [e1, e2]

theorem out_at (n d : Fin 1024) :
    @Eq EReal (k0_pay1 z x8 g x12 (ix3 0 n d))
      ((z (ix2 n d) : EReal) + (x8 (ix3 0 0 d) : EReal) * ∑ f, (g (ix2 n f) : EReal) * x12 (ix2 f d)) := by
  unfold_payloads
  pointwise

end Parts

/-- A buffer of rows filled in three pieces, at an index. -/
theorem rows3_at (A C : Vec Ideal S16x1024 .bf16) (B : Vec Ideal S1024x1024 .bf16) (n : Fin 1056) (d : Fin 1024) :
    @Eq EReal (View.canon (Val := Elt Ideal) (s := S1056x1024) (e := .bf16)
      [⟨Rect.unit (s := S1056x1024) ![1040, 0] S16x1024.size inb_S1056x1024_S16x1024_1040_0, C⟩,
       ⟨Rect.unit (s := S1056x1024) ![16, 0] S1024x1024.size inb_S1056x1024_S1024x1024_16_0, B⟩,
       ⟨Rect.unit (s := S1056x1024) ![0, 0] S16x1024.size inb_S1056x1024_S16x1024_0_0, A⟩] (ix2 n d))
      (if h : n.val < 16 then A (ix2 (⟨n.val, h⟩ : Fin 16) d)
        else if h' : n.val < 1040 then B (ix2 (⟨n.val - 16, by omega⟩ : Fin 1024) d)
        else C (ix2 (⟨n.val - 1040, by omega⟩ : Fin 16) d)) := by
  let G : S1056x1024.Idx → EReal := fun y =>
    if h : (y 0).val < 16 then A (ix2 (⟨(y 0).val, h⟩ : Fin 16) (y 1))
        else if h' : (y 0).val < 1040 then B (ix2 (⟨(y 0).val - 16, by omega⟩ : Fin 1024) (y 1))
        else C (ix2 (⟨(y 0).val - 1040, by have : (y 0).val < 1056 := (y 0).isLt; omega⟩ : Fin 16) (y 1))
  have gA : ∀ x : S16x1024.Idx, A x = G ((Rect.unit (s := S1056x1024) ![0, 0] S16x1024.size inb_S1056x1024_S16x1024_0_0).emb x) := by
    intro x
    have hx : (x 0).val < 16 := (x 0).isLt
    have e0 : ((Rect.unit (s := S1056x1024) ![0, 0] S16x1024.size inb_S1056x1024_S16x1024_0_0).emb x 0).val = (x 0).val := by
      show 0 + 1 * (x 0).val = _; omega
    have e1 : (Rect.unit (s := S1056x1024) ![0, 0] S16x1024.size inb_S1056x1024_S16x1024_0_0).emb x 1 = (x 1) := Fin.ext (by
      show 0 + 1 * (x 1).val = _; omega)
    simp only [G, e0, e1]
    rw [dif_pos hx]
    exact congrArg A (funext fun a => by match a with | ⟨0, _⟩ => rfl | ⟨1, _⟩ => rfl)
  have gB : ∀ x : S1024x1024.Idx, B x = G ((Rect.unit (s := S1056x1024) ![16, 0] S1024x1024.size inb_S1056x1024_S1024x1024_16_0).emb x) := by
    intro x
    have hx : (x 0).val < 1024 := (x 0).isLt
    have e0 : ((Rect.unit (s := S1056x1024) ![16, 0] S1024x1024.size inb_S1056x1024_S1024x1024_16_0).emb x 0).val = 16 + (x 0).val := by
      show 16 + 1 * (x 0).val = _; omega
    have e1 : (Rect.unit (s := S1056x1024) ![16, 0] S1024x1024.size inb_S1056x1024_S1024x1024_16_0).emb x 1 = (x 1) := Fin.ext (by
      show 0 + 1 * (x 1).val = _; omega)
    simp only [G, e0, e1]
    rw [dif_neg (by omega), dif_pos (by omega)]
    exact congrArg B (funext fun a => Fin.ext (by
      match a with
      | ⟨0, _⟩ => show (x 0).val = 16 + (x 0).val - 16; omega
      | ⟨1, _⟩ => rfl))
  have gC : ∀ x : S16x1024.Idx, C x = G ((Rect.unit (s := S1056x1024) ![1040, 0] S16x1024.size inb_S1056x1024_S16x1024_1040_0).emb x) := by
    intro x
    have hx : (x 0).val < 16 := (x 0).isLt
    have e0 : ((Rect.unit (s := S1056x1024) ![1040, 0] S16x1024.size inb_S1056x1024_S16x1024_1040_0).emb x 0).val = 1040 + (x 0).val := by
      show 1040 + 1 * (x 0).val = _; omega
    have e1 : (Rect.unit (s := S1056x1024) ![1040, 0] S16x1024.size inb_S1056x1024_S16x1024_1040_0).emb x 1 = (x 1) := Fin.ext (by
      show 0 + 1 * (x 1).val = _; omega)
    simp only [G, e0, e1]
    rw [dif_neg (by omega), dif_neg (by omega)]
    exact congrArg C (funext fun a => Fin.ext (by
      match a with
      | ⟨0, _⟩ => show (x 0).val = 1040 + (x 0).val - 1040; omega
      | ⟨1, _⟩ => rfl))
  have mem : ∀ (o k : Nat) (inb : ∀ a, (![o, 0] : Fin 2 → Nat) a + (![k, 1024] : Fin 2 → Nat) a ≤ S1056x1024.size a), o ≤ n.val → n.val < o + k →
      (ix2 n d : S1056x1024.Idx) ∈ (Rect.unit (s := S1056x1024) ![o, 0] ![k, 1024] inb).set := by
    intro o k inb h1 h2
    rw [Rect.mem_set_unit]
    intro a
    match a with
    | ⟨0, _⟩ => exact ⟨h1, h2⟩
    | ⟨1, _⟩ => exact ⟨Nat.zero_le _, by show d.val < 0 + 1024; omega⟩
  refine View.canon_apply_of_pieces (Val := Elt Ideal) (e := .bf16) G _ ?_ (ix2 n d) ?_
  · intro p hp
    simp only [List.mem_cons, List.not_mem_nil, or_false] at hp
    rcases hp with rfl | rfl | rfl
    · exact gC
    · exact gB
    · exact gA
  · by_cases h : n.val < 16
    · exact ⟨_, .tail _ (.tail _ (.head _)), mem 0 16 inb_S1056x1024_S16x1024_0_0 (by omega) (by omega)⟩
    · by_cases h' : n.val < 1040
      · exact ⟨_, .tail _ (.head _), mem 16 1024 inb_S1056x1024_S1024x1024_16_0 (by omega) (by omega)⟩
      · exact ⟨_, .head _, mem 1040 16 inb_S1056x1024_S16x1024_1040_0 (by omega) (by omega)⟩

/-- Whether the tile has a tile before it, and one after it. -/
theorem after_first (i : Nat) (hi : i < 4) (x : EReal) :
    Scalar.select (Scalar.cmpi .sgt (BitVec.ofNat 32 i) 0#32) x (0 : EReal) = if 0 < i then x else 0 := by
  have : i = 0 ∨ i = 1 ∨ i = 2 ∨ i = 3 := by omega
  rcases this with h | h | h | h <;> subst h <;> simp <;> rfl

theorem before_last (i : Nat) (hi : i < 4) (x : EReal) :
    Scalar.select (Scalar.cmpi .slt (BitVec.ofNat 32 i) 3#32) x (0 : EReal) = if i < 3 then x else 0 := by
  have : i = 0 ∨ i = 1 ∨ i = 2 ∨ i = 3 := by omega
  rcases this with h | h | h | h <;> subst h <;> simp <;> rfl

theorem act_at (h : Vec Ideal S1056x1024 .bf16) (x9 : Vec Ideal S1024x5632 .bf16) (x10 : Vec Ideal S3x2816 .f32)
    (x11 : Vec Ideal S1x2816 .f32) (n : Fin 1024) (f : Fin 2816) :
    @Eq EReal (act h x9 x10 x11 (ix2 n f))
      (gated (fun x => h (ix2 (⟨15 + n.val, by omega⟩ : Fin 1056) x)) (fun x => h (ix2 (⟨16 + n.val, by omega⟩ : Fin 1056) x))
        (fun x => h (ix2 (⟨17 + n.val, by omega⟩ : Fin 1056) x))
        (fun x => x9 (ix2 x (⟨f.val, by omega⟩ : Fin 5632))) (fun x => x9 (ix2 x (⟨2816 + f.val, by omega⟩ : Fin 5632)))
        (x10 (ix2 0 f)) (x10 (ix2 1 f)) (x10 (ix2 2 f)) (x11 (ix2 0 f))) := by
  unfold act
  have key : ∀ p ∈ [piece h x9 x10 x11 2560 5376 (by decide) (by decide), piece h x9 x10 x11 2304 5120 (by decide) (by decide),
     piece h x9 x10 x11 2048 4864 (by decide) (by decide), piece h x9 x10 x11 1792 4608 (by decide) (by decide),
     piece h x9 x10 x11 1536 4352 (by decide) (by decide), piece h x9 x10 x11 1280 4096 (by decide) (by decide),
     piece h x9 x10 x11 1024 3840 (by decide) (by decide), piece h x9 x10 x11 768 3584 (by decide) (by decide),
     piece h x9 x10 x11 512 3328 (by decide) (by decide), piece h x9 x10 x11 256 3072 (by decide) (by decide),
     piece h x9 x10 x11 0 2816 (by decide) (by decide)],
     ∃ (o : Nat) (ho : o + 256 ≤ 2816), p = piece h x9 x10 x11 o (2816 + o) ho (by omega) := by
    intro p hp
    simp only [List.mem_cons, List.not_mem_nil, or_false] at hp
    rcases hp with hp | hp | hp | hp | hp | hp | hp | hp | hp | hp | hp <;> exact ⟨_, _, hp⟩
  let G : S1024x2816.Idx → EReal := fun y =>
      (gated (fun x => h (ix2 (⟨15 + (y 0).val, by have : (y 0).val < 1024 := (y 0).isLt; omega⟩ : Fin 1056) x))
        (fun x => h (ix2 (⟨16 + (y 0).val, by have : (y 0).val < 1024 := (y 0).isLt; omega⟩ : Fin 1056) x))
        (fun x => h (ix2 (⟨17 + (y 0).val, by have : (y 0).val < 1024 := (y 0).isLt; omega⟩ : Fin 1056) x))
        (fun x => x9 (ix2 x (⟨(y 1).val, by have : (y 1).val < 2816 := (y 1).isLt; omega⟩ : Fin 5632)))
        (fun x => x9 (ix2 x (⟨2816 + (y 1).val, by have : (y 1).val < 2816 := (y 1).isLt; omega⟩ : Fin 5632)))
        (x10 (ix2 0 (y 1))) (x10 (ix2 1 (y 1))) (x10 (ix2 2 (y 1))) (x11 (ix2 0 (y 1))))
  have at_ : ∀ (o : Nat) (ho : o + 256 ≤ 2816) (x : S1024x256.Idx), chunkAt h x9 x10 x11 o (2816 + o) ho (by omega) x
      = G ((Rect.unit (s := S1024x2816) ![0, o] S1024x256.size (inbA o ho)).emb x) := by
    intro o ho x
    have hx1 : (x 1).val < 256 := (x 1).isLt
    have e0 : ((Rect.unit (s := S1024x2816) ![0, o] S1024x256.size (inbA o ho)).emb x 0).val = (x 0).val := by
      show 0 + 1 * (x 0).val = _; omega
    have e1 : (Rect.unit (s := S1024x2816) ![0, o] S1024x256.size (inbA o ho)).emb x 1 = (⟨o + (x 1).val, by omega⟩ : Fin 2816) :=
      Fin.ext (by show o + 1 * (x 1).val = o + (x 1).val; omega)
    have hx : x = ix2 (x 0) (x 1) := by
      funext a; match a with | ⟨0, _⟩ => rfl | ⟨1, _⟩ => rfl
    refine (congrArg (chunkAt h x9 x10 x11 o (2816 + o) ho (by omega)) hx).trans ?_
    refine (chunkAt_at x9 x10 x11 h o (2816 + o) ho (by omega) (x 0) (x 1)).trans ?_
    simp only [G, e0, e1, Nat.add_assoc]
  have mem : ∀ (o : Nat) (ho : o + 256 ≤ 2816), o ≤ f.val → f.val < o + 256 →
      (ix2 n f : S1024x2816.Idx) ∈ (Rect.unit (s := S1024x2816) ![0, o] S1024x256.size (inbA o ho)).set := by
    intro o ho h1 h2
    rw [Rect.mem_set_unit]
    intro a
    match a with
    | ⟨0, _⟩ => exact ⟨Nat.zero_le _, by show n.val < 0 + 1024; omega⟩
    | ⟨1, _⟩ => exact ⟨h1, h2⟩
  refine View.canon_apply_of_pieces (Val := Elt Ideal) (e := .bf16) G _ ?_ (ix2 n f) ?_
  · intro p hp x
    obtain ⟨o, ho, rfl⟩ := key p hp
    exact at_ o ho x
  · have hf : f.val / 256 = 0 ∨ f.val / 256 = 1 ∨ f.val / 256 = 2 ∨ f.val / 256 = 3 ∨ f.val / 256 = 4 ∨ f.val / 256 = 5 ∨ f.val / 256 = 6 ∨ f.val / 256 = 7 ∨ f.val / 256 = 8 ∨ f.val / 256 = 9 ∨ f.val / 256 = 10 := by omega
    rcases hf with hf | hf | hf | hf | hf | hf | hf | hf | hf | hf | hf
    · exact ⟨_, .tail _ (.tail _ (.tail _ (.tail _ (.tail _ (.tail _ (.tail _ (.tail _ (.tail _ (.tail _ (.head _)))))))))), mem 0 (by decide) (by omega) (by omega)⟩
    · exact ⟨_, .tail _ (.tail _ (.tail _ (.tail _ (.tail _ (.tail _ (.tail _ (.tail _ (.tail _ (.head _))))))))), mem 256 (by decide) (by omega) (by omega)⟩
    · exact ⟨_, .tail _ (.tail _ (.tail _ (.tail _ (.tail _ (.tail _ (.tail _ (.tail _ (.head _)))))))), mem 512 (by decide) (by omega) (by omega)⟩
    · exact ⟨_, .tail _ (.tail _ (.tail _ (.tail _ (.tail _ (.tail _ (.tail _ (.head _))))))), mem 768 (by decide) (by omega) (by omega)⟩
    · exact ⟨_, .tail _ (.tail _ (.tail _ (.tail _ (.tail _ (.tail _ (.head _)))))), mem 1024 (by decide) (by omega) (by omega)⟩
    · exact ⟨_, .tail _ (.tail _ (.tail _ (.tail _ (.tail _ (.head _))))), mem 1280 (by decide) (by omega) (by omega)⟩
    · exact ⟨_, .tail _ (.tail _ (.tail _ (.tail _ (.head _)))), mem 1536 (by decide) (by omega) (by omega)⟩
    · exact ⟨_, .tail _ (.tail _ (.tail _ (.head _))), mem 1792 (by decide) (by omega) (by omega)⟩
    · exact ⟨_, .tail _ (.tail _ (.head _)), mem 2048 (by decide) (by omega) (by omega)⟩
    · exact ⟨_, .tail _ (.head _), mem 2304 (by decide) (by omega) (by omega)⟩
    · exact ⟨_, .head _, mem 2560 (by decide) (by omega) (by omega)⟩

/-- The buffer of the mixers' rows, at an index. -/
theorem yext_at (x13 : Vec Ideal S1x1024x512 .bf16) (x14 x15 : Vec Ideal S1x16x512 .bf16)
    (x16 : Vec Ideal S1x1024x512 .bf16) (x17 x18 : Vec Ideal S1x16x512 .bf16) (n : Fin 1056) (k : Fin 1024) :
    @Eq EReal (yext x13 x14 x15 x16 x17 x18 (ix2 n k))
      (if h : n.val < 16 then (if hk : k.val < 512 then x14 (ix3 0 (⟨n.val, h⟩ : Fin 16) (⟨k.val, hk⟩ : Fin 512))
          else x17 (ix3 0 (⟨n.val, h⟩ : Fin 16) (⟨k.val - 512, by omega⟩ : Fin 512)))
        else if h' : n.val < 1040 then (if hk : k.val < 512 then x13 (ix3 0 (⟨n.val - 16, by omega⟩ : Fin 1024) (⟨k.val, hk⟩ : Fin 512))
          else x16 (ix3 0 (⟨n.val - 16, by omega⟩ : Fin 1024) (⟨k.val - 512, by omega⟩ : Fin 512)))
        else (if hk : k.val < 512 then x15 (ix3 0 (⟨n.val - 1040, by omega⟩ : Fin 16) (⟨k.val, hk⟩ : Fin 512))
          else x18 (ix3 0 (⟨n.val - 1040, by omega⟩ : Fin 16) (⟨k.val - 512, by omega⟩ : Fin 512)))) := by
  unfold yext
  let G : S1056x1024.Idx → EReal := fun y =>
    have y0 : (y 0).val < 1056 := (y 0).isLt
    have y1 : (y 1).val < 1024 := (y 1).isLt
    if h : (y 0).val < 16 then (if hk : (y 1).val < 512 then x14 (ix3 0 (⟨(y 0).val, h⟩ : Fin 16) (⟨(y 1).val, hk⟩ : Fin 512))
          else x17 (ix3 0 (⟨(y 0).val, h⟩ : Fin 16) (⟨(y 1).val - 512, by omega⟩ : Fin 512)))
        else if h' : (y 0).val < 1040 then (if hk : (y 1).val < 512 then x13 (ix3 0 (⟨(y 0).val - 16, by omega⟩ : Fin 1024) (⟨(y 1).val, hk⟩ : Fin 512))
          else x16 (ix3 0 (⟨(y 0).val - 16, by omega⟩ : Fin 1024) (⟨(y 1).val - 512, by omega⟩ : Fin 512)))
        else (if hk : (y 1).val < 512 then x15 (ix3 0 (⟨(y 0).val - 1040, by omega⟩ : Fin 16) (⟨(y 1).val, hk⟩ : Fin 512))
          else x18 (ix3 0 (⟨(y 0).val - 1040, by omega⟩ : Fin 16) (⟨(y 1).val - 512, by omega⟩ : Fin 512)))
  have p2 : ∀ x : S16x512.Idx, k0_pay2 x14 x = G ((Rect.unit (s := S1056x1024) ![0, 0] S16x512.size inb_S1056x1024_S16x512_0_0).emb x) := by
    intro x
    have h0 : (x 0).val < 16 := (x 0).isLt
    have h1 : (x 1).val < 512 := (x 1).isLt
    have e0 : ((Rect.unit (s := S1056x1024) ![0, 0] S16x512.size inb_S1056x1024_S16x512_0_0).emb x 0).val = (x 0).val := by
      show 0 + 1 * (x 0).val = _; omega
    have e1 : ((Rect.unit (s := S1056x1024) ![0, 0] S16x512.size inb_S1056x1024_S16x512_0_0).emb x 1).val = (x 1).val := by
      show 0 + 1 * (x 1).val = _; omega
    have hx : x = ix2 (x 0) (x 1) := funext fun a => by match a with | ⟨0, _⟩ => rfl | ⟨1, _⟩ => rfl
    have hp : ∀ (r : Fin 16) (q : Fin 512), @Eq EReal (k0_pay2 x14 (ix2 r q)) (x14 (ix3 0 r q)) := by
      intro r q; unfold_payloads; pointwise
    refine (congrArg (k0_pay2 x14) hx).trans ((hp (x 0) (x 1)).trans ?_)
    simp only [G, e0, e1]
    rw [dif_pos (by omega), dif_pos (by omega)]
    exact congrArg x14 (funext fun a => Fin.ext (by
      match a with
      | ⟨0, _⟩ => rfl
      | ⟨1, _⟩ => show (x 0).val = _; rfl
      | ⟨2, _⟩ => show (x 1).val = _; rfl))
  have p3 : ∀ x : S1024x512.Idx, k0_pay3 x13 x = G ((Rect.unit (s := S1056x1024) ![16, 0] S1024x512.size inb_S1056x1024_S1024x512_16_0).emb x) := by
    intro x
    have h0 : (x 0).val < 1024 := (x 0).isLt
    have h1 : (x 1).val < 512 := (x 1).isLt
    have e0 : ((Rect.unit (s := S1056x1024) ![16, 0] S1024x512.size inb_S1056x1024_S1024x512_16_0).emb x 0).val = 16 + (x 0).val := by
      show 16 + 1 * (x 0).val = _; omega
    have e1 : ((Rect.unit (s := S1056x1024) ![16, 0] S1024x512.size inb_S1056x1024_S1024x512_16_0).emb x 1).val = (x 1).val := by
      show 0 + 1 * (x 1).val = _; omega
    have hx : x = ix2 (x 0) (x 1) := funext fun a => by match a with | ⟨0, _⟩ => rfl | ⟨1, _⟩ => rfl
    have hp : ∀ (r : Fin 1024) (q : Fin 512), @Eq EReal (k0_pay3 x13 (ix2 r q)) (x13 (ix3 0 r q)) := by
      intro r q; unfold_payloads; pointwise
    refine (congrArg (k0_pay3 x13) hx).trans ((hp (x 0) (x 1)).trans ?_)
    simp only [G, e0, e1]
    rw [dif_neg (by omega), dif_pos (by omega), dif_pos (by omega)]
    exact congrArg x13 (funext fun a => Fin.ext (by
      match a with
      | ⟨0, _⟩ => rfl
      | ⟨1, _⟩ => show (x 0).val = _; show (x 0).val = 16 + (x 0).val - 16; omega
      | ⟨2, _⟩ => show (x 1).val = _; rfl))
  have p4 : ∀ x : S16x512.Idx, k0_pay4 x15 x = G ((Rect.unit (s := S1056x1024) ![1040, 0] S16x512.size inb_S1056x1024_S16x512_1040_0).emb x) := by
    intro x
    have h0 : (x 0).val < 16 := (x 0).isLt
    have h1 : (x 1).val < 512 := (x 1).isLt
    have e0 : ((Rect.unit (s := S1056x1024) ![1040, 0] S16x512.size inb_S1056x1024_S16x512_1040_0).emb x 0).val = 1040 + (x 0).val := by
      show 1040 + 1 * (x 0).val = _; omega
    have e1 : ((Rect.unit (s := S1056x1024) ![1040, 0] S16x512.size inb_S1056x1024_S16x512_1040_0).emb x 1).val = (x 1).val := by
      show 0 + 1 * (x 1).val = _; omega
    have hx : x = ix2 (x 0) (x 1) := funext fun a => by match a with | ⟨0, _⟩ => rfl | ⟨1, _⟩ => rfl
    have hp : ∀ (r : Fin 16) (q : Fin 512), @Eq EReal (k0_pay4 x15 (ix2 r q)) (x15 (ix3 0 r q)) := by
      intro r q; unfold_payloads; pointwise
    refine (congrArg (k0_pay4 x15) hx).trans ((hp (x 0) (x 1)).trans ?_)
    simp only [G, e0, e1]
    rw [dif_neg (by omega), dif_neg (by omega), dif_pos (by omega)]
    exact congrArg x15 (funext fun a => Fin.ext (by
      match a with
      | ⟨0, _⟩ => rfl
      | ⟨1, _⟩ => show (x 0).val = _; show (x 0).val = 1040 + (x 0).val - 1040; omega
      | ⟨2, _⟩ => show (x 1).val = _; rfl))
  have p5 : ∀ x : S16x512.Idx, k0_pay5 x17 x = G ((Rect.unit (s := S1056x1024) ![0, 512] S16x512.size inb_S1056x1024_S16x512_0_512).emb x) := by
    intro x
    have h0 : (x 0).val < 16 := (x 0).isLt
    have h1 : (x 1).val < 512 := (x 1).isLt
    have e0 : ((Rect.unit (s := S1056x1024) ![0, 512] S16x512.size inb_S1056x1024_S16x512_0_512).emb x 0).val = (x 0).val := by
      show 0 + 1 * (x 0).val = _; omega
    have e1 : ((Rect.unit (s := S1056x1024) ![0, 512] S16x512.size inb_S1056x1024_S16x512_0_512).emb x 1).val = 512 + (x 1).val := by
      show 512 + 1 * (x 1).val = _; omega
    have hx : x = ix2 (x 0) (x 1) := funext fun a => by match a with | ⟨0, _⟩ => rfl | ⟨1, _⟩ => rfl
    have hp : ∀ (r : Fin 16) (q : Fin 512), @Eq EReal (k0_pay5 x17 (ix2 r q)) (x17 (ix3 0 r q)) := by
      intro r q; unfold_payloads; pointwise
    refine (congrArg (k0_pay5 x17) hx).trans ((hp (x 0) (x 1)).trans ?_)
    simp only [G, e0, e1]
    rw [dif_pos (by omega), dif_neg (by omega)]
    exact congrArg x17 (funext fun a => Fin.ext (by
      match a with
      | ⟨0, _⟩ => rfl
      | ⟨1, _⟩ => show (x 0).val = _; rfl
      | ⟨2, _⟩ => show (x 1).val = _; show (x 1).val = 512 + (x 1).val - 512; omega))
  have p6 : ∀ x : S1024x512.Idx, k0_pay6 x16 x = G ((Rect.unit (s := S1056x1024) ![16, 512] S1024x512.size inb_S1056x1024_S1024x512_16_512).emb x) := by
    intro x
    have h0 : (x 0).val < 1024 := (x 0).isLt
    have h1 : (x 1).val < 512 := (x 1).isLt
    have e0 : ((Rect.unit (s := S1056x1024) ![16, 512] S1024x512.size inb_S1056x1024_S1024x512_16_512).emb x 0).val = 16 + (x 0).val := by
      show 16 + 1 * (x 0).val = _; omega
    have e1 : ((Rect.unit (s := S1056x1024) ![16, 512] S1024x512.size inb_S1056x1024_S1024x512_16_512).emb x 1).val = 512 + (x 1).val := by
      show 512 + 1 * (x 1).val = _; omega
    have hx : x = ix2 (x 0) (x 1) := funext fun a => by match a with | ⟨0, _⟩ => rfl | ⟨1, _⟩ => rfl
    have hp : ∀ (r : Fin 1024) (q : Fin 512), @Eq EReal (k0_pay6 x16 (ix2 r q)) (x16 (ix3 0 r q)) := by
      intro r q; unfold_payloads; pointwise
    refine (congrArg (k0_pay6 x16) hx).trans ((hp (x 0) (x 1)).trans ?_)
    simp only [G, e0, e1]
    rw [dif_neg (by omega), dif_pos (by omega), dif_neg (by omega)]
    exact congrArg x16 (funext fun a => Fin.ext (by
      match a with
      | ⟨0, _⟩ => rfl
      | ⟨1, _⟩ => show (x 0).val = _; show (x 0).val = 16 + (x 0).val - 16; omega
      | ⟨2, _⟩ => show (x 1).val = _; show (x 1).val = 512 + (x 1).val - 512; omega))
  have p7 : ∀ x : S16x512.Idx, k0_pay7 x18 x = G ((Rect.unit (s := S1056x1024) ![1040, 512] S16x512.size inb_S1056x1024_S16x512_1040_512).emb x) := by
    intro x
    have h0 : (x 0).val < 16 := (x 0).isLt
    have h1 : (x 1).val < 512 := (x 1).isLt
    have e0 : ((Rect.unit (s := S1056x1024) ![1040, 512] S16x512.size inb_S1056x1024_S16x512_1040_512).emb x 0).val = 1040 + (x 0).val := by
      show 1040 + 1 * (x 0).val = _; omega
    have e1 : ((Rect.unit (s := S1056x1024) ![1040, 512] S16x512.size inb_S1056x1024_S16x512_1040_512).emb x 1).val = 512 + (x 1).val := by
      show 512 + 1 * (x 1).val = _; omega
    have hx : x = ix2 (x 0) (x 1) := funext fun a => by match a with | ⟨0, _⟩ => rfl | ⟨1, _⟩ => rfl
    have hp : ∀ (r : Fin 16) (q : Fin 512), @Eq EReal (k0_pay7 x18 (ix2 r q)) (x18 (ix3 0 r q)) := by
      intro r q; unfold_payloads; pointwise
    refine (congrArg (k0_pay7 x18) hx).trans ((hp (x 0) (x 1)).trans ?_)
    simp only [G, e0, e1]
    rw [dif_neg (by omega), dif_neg (by omega), dif_neg (by omega)]
    exact congrArg x18 (funext fun a => Fin.ext (by
      match a with
      | ⟨0, _⟩ => rfl
      | ⟨1, _⟩ => show (x 0).val = _; show (x 0).val = 1040 + (x 0).val - 1040; omega
      | ⟨2, _⟩ => show (x 1).val = _; show (x 1).val = 512 + (x 1).val - 512; omega))
  have mem : ∀ (o r c : Nat) (inb : ∀ a, (![o, c] : Fin 2 → Nat) a + (![r, 512] : Fin 2 → Nat) a ≤ S1056x1024.size a), o ≤ n.val → n.val < o + r →
      c ≤ k.val → k.val < c + 512 → (ix2 n k : S1056x1024.Idx) ∈ (Rect.unit (s := S1056x1024) ![o, c] ![r, 512] inb).set := by
    intro o r c inb h1 h2 h3 h4
    rw [Rect.mem_set_unit]
    intro a
    match a with
    | ⟨0, _⟩ => exact ⟨h1, h2⟩
    | ⟨1, _⟩ => exact ⟨h3, h4⟩
  refine View.canon_apply_of_pieces (Val := Elt Ideal) (e := .bf16) G _ ?_ (ix2 n k) ?_
  · intro p hp
    simp only [List.mem_cons, List.not_mem_nil, or_false] at hp
    rcases hp with rfl | rfl | rfl | rfl | rfl | rfl
    · exact p7
    · exact p6
    · exact p5
    · exact p4
    · exact p3
    · exact p2
  · by_cases hk : k.val < 512
    · by_cases h : n.val < 16
      · exact ⟨_, .tail _ (.tail _ (.tail _ (.tail _ (.tail _ (.head _))))), mem 0 16 0 inb_S1056x1024_S16x512_0_0 (by omega) (by omega) (by omega) (by omega)⟩
      · by_cases h' : n.val < 1040
        · exact ⟨_, .tail _ (.tail _ (.tail _ (.tail _ (.head _)))), mem 16 1024 0 inb_S1056x1024_S1024x512_16_0 (by omega) (by omega) (by omega) (by omega)⟩
        · exact ⟨_, .tail _ (.tail _ (.tail _ (.head _))), mem 1040 16 0 inb_S1056x1024_S16x512_1040_0 (by omega) (by omega) (by omega) (by omega)⟩
    · by_cases h : n.val < 16
      · exact ⟨_, .tail _ (.tail _ (.head _)), mem 0 16 512 inb_S1056x1024_S16x512_0_512 (by omega) (by omega) (by omega) (by omega)⟩
      · by_cases h' : n.val < 1040
        · exact ⟨_, .tail _ (.head _), mem 16 1024 512 inb_S1056x1024_S1024x512_16_512 (by omega) (by omega) (by omega) (by omega)⟩
        · exact ⟨_, .head _, mem 1040 16 512 inb_S1056x1024_S16x512_1040_512 (by omega) (by omega) (by omega) (by omega)⟩

section Block

variable (i : Nat) (hi : i < 4)
    (x0 : Vec Ideal S1x1024x1024 .f32) (x1 x2 : Vec Ideal S1x16x1024 .f32) (x3 : Vec Ideal S1x1x1024 .f32)
    (x4 : Vec Ideal S1024x1024 .bf16) (x5 : Vec Ideal S1x1024 .f32) (x6 x7 x8 : Vec Ideal S1x1x1024 .f32) (x9 : Vec Ideal S1024x5632 .bf16)
    (x10 : Vec Ideal S3x2816 .f32) (x11 : Vec Ideal S1x2816 .f32) (x12 : Vec Ideal S2816x1024 .bf16) (y : Vec Ideal S1056x1024 .bf16)
    (X O : Fin 4096 → Fin 1024 → EReal)
    (h0 : ∀ (r d : Fin 1024) (l : Fin 4096), l.val = 1024 * i + r.val → x0 (ix3 0 r d) = X l d)
    (h1 : ∀ (r : Fin 16) (d : Fin 1024) (l : Fin 4096), l.val + 16 = 1024 * i + r.val → x1 (ix3 0 r d) = X l d)
    (h2 : ∀ (r : Fin 16) (d : Fin 1024) (l : Fin 4096), l.val = 1024 * i + 1024 + r.val → x2 (ix3 0 r d) = X l d)
    (hy : ∀ (n : Fin 1056) (k : Fin 1024) (l : Fin 4096), l.val + 16 = 1024 * i + n.val → y (ix2 n k) = O l k)

/-- The normed rows of the call these blocks are read from. -/
abbrev rowsOf (l : Fin 4096) : Fin 1024 → EReal :=
  normed (mixed X O (fun k d => x4 (ix2 k d)) (fun d => x3 (ix3 0 0 d)) l)
    (fun x => x5 (ix2 0 x)) (fun x => x6 (ix3 0 0 x)) (fun x => x7 (ix3 0 0 x))

include hi h0 h1 h2 hy in
theorem hn_at (n : Fin 1056) (d : Fin 1024) :
    @Eq EReal (hn (BitVec.ofNat 32 i) x0 x1 x2 x3 x4 x5 x6 x7 y (ix2 n d)) (around (rowsOf x3 x4 x5 x6 x7 X O) (1024 * i + n.val - 15) d) := by
  unfold hn
  rw [rows3_at]
  split
  · rename_i hn
    rw [normPrev_at _ _ _ _ _ (k0_pay15 x3 y x4 x1) rfl, after_first i hi]
    split
    · rename_i h
      rw [around_of _ _ (⟨1024 * i + n.val - 16, by omega⟩ : Fin 4096) (by dsimp only; omega)]
      refine congrArg (fun r => normed r _ _ _ d) (funext fun x => ?_)
      rw [prev_at, h1 _ _ (⟨1024 * i + n.val - 16, by omega⟩ : Fin 4096) (by dsimp only; omega)]
      unfold mixed
      refine congrArg (fun s : EReal => _ + _ * s) (Finset.sum_congr rfl fun k _ => ?_)
      rw [hy _ _ (⟨1024 * i + n.val - 16, by omega⟩ : Fin 4096) (by dsimp only; omega)]
    · rw [around_zero]; omega
  · split
    · rename_i hn hn'
      rw [normCur_at]
      rw [around_of _ _ (⟨1024 * i + n.val - 16, by omega⟩ : Fin 4096) (by dsimp only; omega)]
      refine congrArg (fun r => normed r _ _ _ d) (funext fun x => ?_)
      rw [cur_at, h0 _ _ (⟨1024 * i + n.val - 16, by omega⟩ : Fin 4096) (by dsimp only; omega)]
      unfold mixed
      refine congrArg (fun s : EReal => _ + _ * s) (Finset.sum_congr rfl fun k _ => ?_)
      rw [hy _ _ (⟨1024 * i + n.val - 16, by omega⟩ : Fin 4096) (by dsimp only; omega)]
    · rename_i hn hn'
      rw [normNext_at, before_last i hi]
      split
      · rename_i h
        rw [around_of _ _ (⟨1024 * i + n.val - 16, by omega⟩ : Fin 4096) (by dsimp only; omega)]
        refine congrArg (fun r => normed r _ _ _ d) (funext fun x => ?_)
        rw [next_at, h2 _ _ (⟨1024 * i + n.val - 16, by omega⟩ : Fin 4096) (by dsimp only; omega)]
        unfold mixed
        refine congrArg (fun s : EReal => _ + _ * s) (Finset.sum_congr rfl fun k _ => ?_)
        rw [hy _ _ (⟨1024 * i + n.val - 16, by omega⟩ : Fin 4096) (by dsimp only; omega)]
      · rw [around_zero]; omega

include hi h0 h1 h2 hy in
/-- The output block at an index. -/
theorem tile_at (r d : Fin 1024) (l : Fin 4096) (hl : l.val = 1024 * i + r.val) :
    @Eq EReal (tile (BitVec.ofNat 32 i) x0 x1 x2 x3 x4 x5 x6 x7 x8 x9 x10 x11 x12 y (ix3 0 r d))
      (block X O (fun k d => x4 (ix2 k d)) (fun d => x3 (ix3 0 0 d)) (fun x => x5 (ix2 0 x)) (fun x => x6 (ix3 0 0 x))
        (fun x => x7 (ix3 0 0 x)) (fun x => x8 (ix3 0 0 x)) (fun k f => x9 (ix2 k f)) (fun t f => x10 (ix2 t f))
        (fun f => x11 (ix2 0 f)) (fun f d => x12 (ix2 f d)) l d) := by
  unfold tile
  rw [out_at, cur_at, h0 r d l hl]
  unfold block
  have e : ∀ k, y (ix2 (⟨16 + r.val, by omega⟩ : Fin 1056) k) = O l k := fun k => hy _ _ _ (by dsimp only; omega)
  simp only [e]
  refine congrArg (fun s : EReal => _ + _ * s) (Finset.sum_congr rfl fun f _ => ?_)
  rw [act_at]
  simp only [hn_at i hi x0 x1 x2 x3 x4 x5 x6 x7 y X O h0 h1 h2 hy]
  have e1 : 1024 * i + (15 + r.val) - 15 = l.val := by omega
  have e2 : 1024 * i + (16 + r.val) - 15 = l.val + 1 := by omega
  have e3 : 1024 * i + (17 + r.val) - 15 = l.val + 2 := by omega
  rw [e1, e2, e3]
  rfl

end Block

end Cert.MixIdeal.Rows

end
-- ==== Proof.Mix.Array.lean ====
module

public import proofs.«01_k».proof.Proof.Mix.Tile
public import Idealize.ShloMosaic.Lib.StableHlo.ReadAt

/-! The array the kernel leaves, from its blocks, and those from the call's arguments. -/

@[expose] public section

set_option maxRecDepth 16384

noncomputable section

open Idealize.ShloMosaic Idealize.ShloMosaic.TcCoe Idealize.SL.Sem
open Idealize.ShloMosaic.Pipeline (Dat)

namespace Cert.MixIdeal.Rows

open Cert.MixIdeal Cert.MixIdeal.Gen Cert.MixIdeal.Value Cert.Block

/-- Where each window's block lies at a step: four steps a sequence, 1024 rows a step. -/
theorem coords1 : ∀ t : Fin cfg0.N, (grid0.coords t 1).val = t.val % 4 := by decide +kernel
theorem index0 : ∀ t : Fin cfg0.N, win0_0.index t = ![t.val / 4, t.val % 4, 0] := by decide +kernel
theorem index1 : ∀ t : Fin cfg0.N, win0_1.index t = ![t.val / 4, 64 * (t.val % 4) - 1, 0] := by decide +kernel
theorem index2 : ∀ t : Fin cfg0.N, win0_2.index t = ![t.val / 4, min (64 * (t.val % 4) + 64) 255, 0] := by decide +kernel
theorem index3 : ∀ t : Fin cfg0.N, win0_3.index t = ![t.val / 4, 0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val / 4, 0, 0] := by decide +kernel
theorem index7 : ∀ t : Fin cfg0.N, win0_7.index t = ![t.val / 4, 0, 0] := by decide +kernel
theorem index8 : ∀ t : Fin cfg0.N, win0_8.index t = ![t.val / 4, 0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![0, 0] := by decide +kernel
theorem index12 : ∀ t : Fin cfg0.N, win0_12.index t = ![0, 0] := by decide +kernel
theorem index13 : ∀ t : Fin cfg0.N, win0_13.index t = ![t.val / 4, t.val % 4, 0] := by decide +kernel
theorem index14 : ∀ t : Fin cfg0.N, win0_14.index t = ![t.val / 4, 64 * (t.val % 4) - 1, 0] := by decide +kernel
theorem index15 : ∀ t : Fin cfg0.N, win0_15.index t = ![t.val / 4, min (64 * (t.val % 4) + 64) 255, 0] := by decide +kernel
theorem index16 : ∀ t : Fin cfg0.N, win0_16.index t = ![t.val / 4, t.val % 4, 0] := by decide +kernel
theorem index17 : ∀ t : Fin cfg0.N, win0_17.index t = ![t.val / 4, 64 * (t.val % 4) - 1, 0] := by decide +kernel
theorem index18 : ∀ t : Fin cfg0.N, win0_18.index t = ![t.val / 4, min (64 * (t.val % 4) + 64) 255, 0] := by decide +kernel
theorem index19 : ∀ t : Fin cfg0.N, win0_19.index t = ![t.val / 4, t.val % 4, 0] := by decide +kernel
theorem flush19' : ∀ t : Fin cfg0.N, (cfg0.win 19).flush t = true := by decide +kernel

variable (m : (ℓ : Loc nD τ sig) → Buf (Elt Ideal) ℓ) (c : Dev nD)

/-- The arguments. -/
abbrev argX : S8x4096x1024.Idx → EReal := m (c, Proc.tc.devRef main_arg0)
abbrev argY : S8x4096x512.Idx → EReal := m (c, Proc.tc.devRef main_arg1)
abbrev argZ : S8x4096x512.Idx → EReal := m (c, Proc.tc.devRef main_arg2)
abbrev argWo : S1024x1024.Idx → EReal := m (c, Proc.tc.devRef main_arg3)
abbrev argGate1 : S8x1x1024.Idx → EReal := m (c, Proc.tc.devRef main_arg4)
abbrev argNorm : S1024.Idx → EReal := m (c, Proc.tc.devRef main_arg5)
abbrev argShift : S8x1x1024.Idx → EReal := m (c, Proc.tc.devRef main_arg6)
abbrev argScale : S8x1x1024.Idx → EReal := m (c, Proc.tc.devRef main_arg7)
abbrev argGate2 : S8x1x1024.Idx → EReal := m (c, Proc.tc.devRef main_arg8)
abbrev argUp : S1024x5632.Idx → EReal := m (c, Proc.tc.devRef main_arg9)
abbrev argConv : S3x2816.Idx → EReal := m (c, Proc.tc.devRef main_arg10)
abbrev argBias : S2816.Idx → EReal := m (c, Proc.tc.devRef main_arg11)
abbrev argDown : S2816x1024.Idx → EReal := m (c, Proc.tc.devRef main_arg12)

theorem wo_at (k d : Fin 1024) : @Eq EReal (V m c main_v0 (ix2 k d)) (argWo m c (ix2 k d)) := by
  unfold V
  after_reads_at

theorem up_at (k : Fin 1024) (f : Fin 5632) : @Eq EReal (V m c main_v1 (ix2 k f)) (argUp m c (ix2 k f)) := by
  unfold V
  after_reads_at

theorem down_at (f : Fin 2816) (d : Fin 1024) : @Eq EReal (V m c main_v2 (ix2 f d)) (argDown m c (ix2 f d)) := by
  unfold V
  after_reads_at

theorem norm_at (d : Fin 1024) : @Eq EReal (V m c main_v3 (ix2 0 d)) (argNorm m c (ix1 d)) := by
  unfold V
  after_reads_at

theorem bias_at (f : Fin 2816) : @Eq EReal (V m c main_v4 (ix2 0 f)) (argBias m c (ix1 f)) := by
  unfold V
  after_reads_at

theorem read0 (X : Buf (Elt Ideal) ((c : Thread nD τ).loc main_arg0)) (t : Fin cfg0.N) (y : S1x1024x1024.Idx) (i : S8x4096x1024.Idx)
    (h0 : (i 0).val = win0_0.index t 0 * 1 + 1 * (y 0).val) (h1 : (i 1).val = win0_0.index t 1 * 1024 + 1 * (y 1).val) (h2 : (i 2).val = win0_0.index t 2 * 1024 + 1 * (y 2).val) :
    ((cfg0.win 0).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read1 (X : Buf (Elt Ideal) ((c : Thread nD τ).loc main_arg0)) (t : Fin cfg0.N) (y : S1x16x1024.Idx) (i : S8x4096x1024.Idx)
    (h0 : (i 0).val = win0_1.index t 0 * 1 + 1 * (y 0).val) (h1 : (i 1).val = win0_1.index t 1 * 16 + 1 * (y 1).val) (h2 : (i 2).val = win0_1.index t 2 * 1024 + 1 * (y 2).val) :
    ((cfg0.win 1).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read2 (X : Buf (Elt Ideal) ((c : Thread nD τ).loc main_arg0)) (t : Fin cfg0.N) (y : S1x16x1024.Idx) (i : S8x4096x1024.Idx)
    (h0 : (i 0).val = win0_2.index t 0 * 1 + 1 * (y 0).val) (h1 : (i 1).val = win0_2.index t 1 * 16 + 1 * (y 1).val) (h2 : (i 2).val = win0_2.index t 2 * 1024 + 1 * (y 2).val) :
    ((cfg0.win 2).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read3 (X : Buf (Elt Ideal) ((c : Thread nD τ).loc main_arg4)) (t : Fin cfg0.N) (y : S1x1x1024.Idx) (i : S8x1x1024.Idx)
    (h0 : (i 0).val = win0_3.index t 0 * 1 + 1 * (y 0).val) (h1 : (i 1).val = win0_3.index t 1 * 1 + 1 * (y 1).val) (h2 : (i 2).val = win0_3.index t 2 * 1024 + 1 * (y 2).val) :
    ((cfg0.win 3).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read4 (X : Buf (Elt Ideal) ((c : Thread nD τ).loc main_v0)) (t : Fin cfg0.N) (y : S1024x1024.Idx) (i : S1024x1024.Idx)
    (h0 : (i 0).val = win0_4.index t 0 * 1024 + 1 * (y 0).val) (h1 : (i 1).val = win0_4.index t 1 * 1024 + 1 * (y 1).val) :
    ((cfg0.win 4).blk t).view.read (Elt Ideal) X y = X i := by
  rw [View.read_apply]
  refine congrArg X (funext fun a => Fin.ext ?_)
  match a with
  | ⟨0, _⟩ => exact h0.symm
  | ⟨1, _⟩ => exact h1.symm

theorem read5 (X : Buf (Elt Ideal) ((c : Thread nD τ).loc main_v3)) (t : Fin cfg0.N) (y : S1x1024.Idx) (i : S1x1024.Idx)
    (h0 : (i 0).val = win0_5.index t 0 * 1 + 1 * (y 0).val) (h1 : (i 1).val = win0_5.index t 1 * 1024 + 1 * (y 1).val) :
    ((cfg0.win 5).blk t).view.read (Elt Ideal) X y = X i := by
  rw [View.read_apply]
  refine congrArg X (funext fun a => Fin.ext ?_)
  match a with
  | ⟨0, _⟩ => exact h0.symm
  | ⟨1, _⟩ => exact h1.symm

theorem read6 (X : Buf (Elt Ideal) ((c : Thread nD τ).loc main_arg6)) (t : Fin cfg0.N) (y : S1x1x1024.Idx) (i : S8x1x1024.Idx)
    (h0 : (i 0).val = win0_6.index t 0 * 1 + 1 * (y 0).val) (h1 : (i 1).val = win0_6.index t 1 * 1 + 1 * (y 1).val) (h2 : (i 2).val = win0_6.index t 2 * 1024 + 1 * (y 2).val) :
    ((cfg0.win 6).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read7 (X : Buf (Elt Ideal) ((c : Thread nD τ).loc main_arg7)) (t : Fin cfg0.N) (y : S1x1x1024.Idx) (i : S8x1x1024.Idx)
    (h0 : (i 0).val = win0_7.index t 0 * 1 + 1 * (y 0).val) (h1 : (i 1).val = win0_7.index t 1 * 1 + 1 * (y 1).val) (h2 : (i 2).val = win0_7.index t 2 * 1024 + 1 * (y 2).val) :
    ((cfg0.win 7).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read8 (X : Buf (Elt Ideal) ((c : Thread nD τ).loc main_arg8)) (t : Fin cfg0.N) (y : S1x1x1024.Idx) (i : S8x1x1024.Idx)
    (h0 : (i 0).val = win0_8.index t 0 * 1 + 1 * (y 0).val) (h1 : (i 1).val = win0_8.index t 1 * 1 + 1 * (y 1).val) (h2 : (i 2).val = win0_8.index t 2 * 1024 + 1 * (y 2).val) :
    ((cfg0.win 8).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read9 (X : Buf (Elt Ideal) ((c : Thread nD τ).loc main_v1)) (t : Fin cfg0.N) (y : S1024x5632.Idx) (i : S1024x5632.Idx)
    (h0 : (i 0).val = win0_9.index t 0 * 1024 + 1 * (y 0).val) (h1 : (i 1).val = win0_9.index t 1 * 5632 + 1 * (y 1).val) :
    ((cfg0.win 9).blk t).view.read (Elt Ideal) X y = X i := by
  rw [View.read_apply]
  refine congrArg X (funext fun a => Fin.ext ?_)
  match a with
  | ⟨0, _⟩ => exact h0.symm
  | ⟨1, _⟩ => exact h1.symm

theorem read10 (X : Buf (Elt Ideal) ((c : Thread nD τ).loc main_arg10)) (t : Fin cfg0.N) (y : S3x2816.Idx) (i : S3x2816.Idx)
    (h0 : (i 0).val = win0_10.index t 0 * 3 + 1 * (y 0).val) (h1 : (i 1).val = win0_10.index t 1 * 2816 + 1 * (y 1).val) :
    ((cfg0.win 10).blk t).view.read (Elt Ideal) X y = X i := by
  rw [View.read_apply]
  refine congrArg X (funext fun a => Fin.ext ?_)
  match a with
  | ⟨0, _⟩ => exact h0.symm
  | ⟨1, _⟩ => exact h1.symm

theorem read11 (X : Buf (Elt Ideal) ((c : Thread nD τ).loc main_v4)) (t : Fin cfg0.N) (y : S1x2816.Idx) (i : S1x2816.Idx)
    (h0 : (i 0).val = win0_11.index t 0 * 1 + 1 * (y 0).val) (h1 : (i 1).val = win0_11.index t 1 * 2816 + 1 * (y 1).val) :
    ((cfg0.win 11).blk t).view.read (Elt Ideal) X y = X i := by
  rw [View.read_apply]
  refine congrArg X (funext fun a => Fin.ext ?_)
  match a with
  | ⟨0, _⟩ => exact h0.symm
  | ⟨1, _⟩ => exact h1.symm

theorem read12 (X : Buf (Elt Ideal) ((c : Thread nD τ).loc main_v2)) (t : Fin cfg0.N) (y : S2816x1024.Idx) (i : S2816x1024.Idx)
    (h0 : (i 0).val = win0_12.index t 0 * 2816 + 1 * (y 0).val) (h1 : (i 1).val = win0_12.index t 1 * 1024 + 1 * (y 1).val) :
    ((cfg0.win 12).blk t).view.read (Elt Ideal) X y = X i := by
  rw [View.read_apply]
  refine congrArg X (funext fun a => Fin.ext ?_)
  match a with
  | ⟨0, _⟩ => exact h0.symm
  | ⟨1, _⟩ => exact h1.symm

theorem read13 (X : Buf (Elt Ideal) ((c : Thread nD τ).loc main_arg1)) (t : Fin cfg0.N) (y : S1x1024x512.Idx) (i : S8x4096x512.Idx)
    (h0 : (i 0).val = win0_13.index t 0 * 1 + 1 * (y 0).val) (h1 : (i 1).val = win0_13.index t 1 * 1024 + 1 * (y 1).val) (h2 : (i 2).val = win0_13.index t 2 * 512 + 1 * (y 2).val) :
    ((cfg0.win 13).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read14 (X : Buf (Elt Ideal) ((c : Thread nD τ).loc main_arg1)) (t : Fin cfg0.N) (y : S1x16x512.Idx) (i : S8x4096x512.Idx)
    (h0 : (i 0).val = win0_14.index t 0 * 1 + 1 * (y 0).val) (h1 : (i 1).val = win0_14.index t 1 * 16 + 1 * (y 1).val) (h2 : (i 2).val = win0_14.index t 2 * 512 + 1 * (y 2).val) :
    ((cfg0.win 14).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read15 (X : Buf (Elt Ideal) ((c : Thread nD τ).loc main_arg1)) (t : Fin cfg0.N) (y : S1x16x512.Idx) (i : S8x4096x512.Idx)
    (h0 : (i 0).val = win0_15.index t 0 * 1 + 1 * (y 0).val) (h1 : (i 1).val = win0_15.index t 1 * 16 + 1 * (y 1).val) (h2 : (i 2).val = win0_15.index t 2 * 512 + 1 * (y 2).val) :
    ((cfg0.win 15).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read16 (X : Buf (Elt Ideal) ((c : Thread nD τ).loc main_arg2)) (t : Fin cfg0.N) (y : S1x1024x512.Idx) (i : S8x4096x512.Idx)
    (h0 : (i 0).val = win0_16.index t 0 * 1 + 1 * (y 0).val) (h1 : (i 1).val = win0_16.index t 1 * 1024 + 1 * (y 1).val) (h2 : (i 2).val = win0_16.index t 2 * 512 + 1 * (y 2).val) :
    ((cfg0.win 16).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read17 (X : Buf (Elt Ideal) ((c : Thread nD τ).loc main_arg2)) (t : Fin cfg0.N) (y : S1x16x512.Idx) (i : S8x4096x512.Idx)
    (h0 : (i 0).val = win0_17.index t 0 * 1 + 1 * (y 0).val) (h1 : (i 1).val = win0_17.index t 1 * 16 + 1 * (y 1).val) (h2 : (i 2).val = win0_17.index t 2 * 512 + 1 * (y 2).val) :
    ((cfg0.win 17).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read18 (X : Buf (Elt Ideal) ((c : Thread nD τ).loc main_arg2)) (t : Fin cfg0.N) (y : S1x16x512.Idx) (i : S8x4096x512.Idx)
    (h0 : (i 0).val = win0_18.index t 0 * 1 + 1 * (y 0).val) (h1 : (i 1).val = win0_18.index t 1 * 16 + 1 * (y 1).val) (h2 : (i 2).val = win0_18.index t 2 * 512 + 1 * (y 2).val) :
    ((cfg0.win 18).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem blk0 (t : Fin cfg0.N) (b : Fin 8) (hb : b.val = t.val / 4) (r : Fin 1024) (d : Fin 1024) (l : Fin 4096) (hl : l.val = 1024 * (t.val % 4) + r.val) :
    @Eq EReal (iblk m c 0 t (ix3 0 r d)) (argX m c (ix3 b l d)) := by
  refine (read0 c (V m c main_arg0) t (ix3 0 r d) (ix3 b l d) ?_ ?_ ?_).trans (congrFun (V_main_arg0 m c) _)
  · rw [index0]; show b.val = t.val / 4 * 1 + 1 * 0; omega
  · rw [index0]; show l.val = t.val % 4 * 1024 + 1 * r.val; omega
  · rw [index0]; show d.val = 0 * 1024 + 1 * d.val; omega

theorem blk1 (t : Fin cfg0.N) (b : Fin 8) (hb : b.val = t.val / 4) (r : Fin 16) (d : Fin 1024) (l : Fin 4096) (hl : l.val + 16 = 1024 * (t.val % 4) + r.val) :
    @Eq EReal (iblk m c 1 t (ix3 0 r d)) (argX m c (ix3 b l d)) := by
  refine (read1 c (V m c main_arg0) t (ix3 0 r d) (ix3 b l d) ?_ ?_ ?_).trans (congrFun (V_main_arg0 m c) _)
  · rw [index1]; show b.val = t.val / 4 * 1 + 1 * 0; omega
  · rw [index1]; show l.val = (64 * (t.val % 4) - 1) * 16 + 1 * r.val; omega
  · rw [index1]; show d.val = 0 * 1024 + 1 * d.val; omega

theorem blk2 (t : Fin cfg0.N) (b : Fin 8) (hb : b.val = t.val / 4) (r : Fin 16) (d : Fin 1024) (l : Fin 4096) (hl : l.val = 1024 * (t.val % 4) + 1024 + r.val) :
    @Eq EReal (iblk m c 2 t (ix3 0 r d)) (argX m c (ix3 b l d)) := by
  refine (read2 c (V m c main_arg0) t (ix3 0 r d) (ix3 b l d) ?_ ?_ ?_).trans (congrFun (V_main_arg0 m c) _)
  · rw [index2]; show b.val = t.val / 4 * 1 + 1 * 0; omega
  · rw [index2]; show l.val = (min (64 * (t.val % 4) + 64) 255) * 16 + 1 * r.val; omega
  · rw [index2]; show d.val = 0 * 1024 + 1 * d.val; omega

theorem blk3 (t : Fin cfg0.N) (b : Fin 8) (hb : b.val = t.val / 4) (d : Fin 1024) :
    @Eq EReal (iblk m c 3 t (ix3 0 0 d)) (argGate1 m c (ix3 b 0 d)) := by
  refine (read3 c (V m c main_arg4) t (ix3 0 0 d) (ix3 b 0 d) ?_ ?_ ?_).trans (congrFun (V_main_arg4 m c) _)
  · rw [index3]; show b.val = t.val / 4 * 1 + 1 * 0; omega
  · rw [index3]; rfl
  · rw [index3]; show d.val = 0 * 1024 + 1 * d.val; omega

theorem blk4 (t : Fin cfg0.N) (k : Fin 1024) (d : Fin 1024) : @Eq EReal (iblk m c 4 t (ix2 k d)) (argWo m c (ix2 k d)) := by
  refine (read4 c (V m c main_v0) t (ix2 k d) (ix2 k d) ?_ ?_).trans (wo_at m c k d)
  · rw [index4]; show k.val = 0 * 1024 + 1 * k.val; omega
  · rw [index4]; show d.val = 0 * 1024 + 1 * d.val; omega

theorem blk5 (t : Fin cfg0.N) (d : Fin 1024) : @Eq EReal (iblk m c 5 t (ix2 0 d)) (argNorm m c (ix1 d)) := by
  refine (read5 c (V m c main_v3) t (ix2 0 d) (ix2 0 d) ?_ ?_).trans (norm_at m c d)
  · rw [index5]; rfl
  · rw [index5]; show d.val = 0 * 1024 + 1 * d.val; omega

theorem blk6 (t : Fin cfg0.N) (b : Fin 8) (hb : b.val = t.val / 4) (d : Fin 1024) :
    @Eq EReal (iblk m c 6 t (ix3 0 0 d)) (argShift m c (ix3 b 0 d)) := by
  refine (read6 c (V m c main_arg6) t (ix3 0 0 d) (ix3 b 0 d) ?_ ?_ ?_).trans (congrFun (V_main_arg6 m c) _)
  · rw [index6]; show b.val = t.val / 4 * 1 + 1 * 0; omega
  · rw [index6]; rfl
  · rw [index6]; show d.val = 0 * 1024 + 1 * d.val; omega

theorem blk7 (t : Fin cfg0.N) (b : Fin 8) (hb : b.val = t.val / 4) (d : Fin 1024) :
    @Eq EReal (iblk m c 7 t (ix3 0 0 d)) (argScale m c (ix3 b 0 d)) := by
  refine (read7 c (V m c main_arg7) t (ix3 0 0 d) (ix3 b 0 d) ?_ ?_ ?_).trans (congrFun (V_main_arg7 m c) _)
  · rw [index7]; show b.val = t.val / 4 * 1 + 1 * 0; omega
  · rw [index7]; rfl
  · rw [index7]; show d.val = 0 * 1024 + 1 * d.val; omega

theorem blk8 (t : Fin cfg0.N) (b : Fin 8) (hb : b.val = t.val / 4) (d : Fin 1024) :
    @Eq EReal (iblk m c 8 t (ix3 0 0 d)) (argGate2 m c (ix3 b 0 d)) := by
  refine (read8 c (V m c main_arg8) t (ix3 0 0 d) (ix3 b 0 d) ?_ ?_ ?_).trans (congrFun (V_main_arg8 m c) _)
  · rw [index8]; show b.val = t.val / 4 * 1 + 1 * 0; omega
  · rw [index8]; rfl
  · rw [index8]; show d.val = 0 * 1024 + 1 * d.val; omega

theorem blk9 (t : Fin cfg0.N) (k : Fin 1024) (d : Fin 5632) : @Eq EReal (iblk m c 9 t (ix2 k d)) (argUp m c (ix2 k d)) := by
  refine (read9 c (V m c main_v1) t (ix2 k d) (ix2 k d) ?_ ?_).trans (up_at m c k d)
  · rw [index9]; show k.val = 0 * 1024 + 1 * k.val; omega
  · rw [index9]; show d.val = 0 * 5632 + 1 * d.val; omega

theorem blk10 (t : Fin cfg0.N) (k : Fin 3) (d : Fin 2816) : @Eq EReal (iblk m c 10 t (ix2 k d)) (argConv m c (ix2 k d)) := by
  refine (read10 c (V m c main_arg10) t (ix2 k d) (ix2 k d) ?_ ?_).trans (congrFun (V_main_arg10 m c) _)
  · rw [index10]; show k.val = 0 * 3 + 1 * k.val; omega
  · rw [index10]; show d.val = 0 * 2816 + 1 * d.val; omega

theorem blk11 (t : Fin cfg0.N) (d : Fin 2816) : @Eq EReal (iblk m c 11 t (ix2 0 d)) (argBias m c (ix1 d)) := by
  refine (read11 c (V m c main_v4) t (ix2 0 d) (ix2 0 d) ?_ ?_).trans (bias_at m c d)
  · rw [index11]; rfl
  · rw [index11]; show d.val = 0 * 2816 + 1 * d.val; omega

theorem blk12 (t : Fin cfg0.N) (k : Fin 2816) (d : Fin 1024) : @Eq EReal (iblk m c 12 t (ix2 k d)) (argDown m c (ix2 k d)) := by
  refine (read12 c (V m c main_v2) t (ix2 k d) (ix2 k d) ?_ ?_).trans (down_at m c k d)
  · rw [index12]; show k.val = 0 * 2816 + 1 * k.val; omega
  · rw [index12]; show d.val = 0 * 1024 + 1 * d.val; omega

theorem blk13 (t : Fin cfg0.N) (b : Fin 8) (hb : b.val = t.val / 4) (r : Fin 1024) (d : Fin 512) (l : Fin 4096) (hl : l.val = 1024 * (t.val % 4) + r.val) :
    @Eq EReal (iblk m c 13 t (ix3 0 r d)) (argY m c (ix3 b l d)) := by
  refine (read13 c (V m c main_arg1) t (ix3 0 r d) (ix3 b l d) ?_ ?_ ?_).trans (congrFun (V_main_arg1 m c) _)
  · rw [index13]; show b.val = t.val / 4 * 1 + 1 * 0; omega
  · rw [index13]; show l.val = t.val % 4 * 1024 + 1 * r.val; omega
  · rw [index13]; show d.val = 0 * 512 + 1 * d.val; omega

theorem blk14 (t : Fin cfg0.N) (b : Fin 8) (hb : b.val = t.val / 4) (r : Fin 16) (d : Fin 512) (l : Fin 4096) (hl : l.val + 16 = 1024 * (t.val % 4) + r.val) :
    @Eq EReal (iblk m c 14 t (ix3 0 r d)) (argY m c (ix3 b l d)) := by
  refine (read14 c (V m c main_arg1) t (ix3 0 r d) (ix3 b l d) ?_ ?_ ?_).trans (congrFun (V_main_arg1 m c) _)
  · rw [index14]; show b.val = t.val / 4 * 1 + 1 * 0; omega
  · rw [index14]; show l.val = (64 * (t.val % 4) - 1) * 16 + 1 * r.val; omega
  · rw [index14]; show d.val = 0 * 512 + 1 * d.val; omega

theorem blk15 (t : Fin cfg0.N) (b : Fin 8) (hb : b.val = t.val / 4) (r : Fin 16) (d : Fin 512) (l : Fin 4096) (hl : l.val = 1024 * (t.val % 4) + 1024 + r.val) :
    @Eq EReal (iblk m c 15 t (ix3 0 r d)) (argY m c (ix3 b l d)) := by
  refine (read15 c (V m c main_arg1) t (ix3 0 r d) (ix3 b l d) ?_ ?_ ?_).trans (congrFun (V_main_arg1 m c) _)
  · rw [index15]; show b.val = t.val / 4 * 1 + 1 * 0; omega
  · rw [index15]; show l.val = (min (64 * (t.val % 4) + 64) 255) * 16 + 1 * r.val; omega
  · rw [index15]; show d.val = 0 * 512 + 1 * d.val; omega

theorem blk16 (t : Fin cfg0.N) (b : Fin 8) (hb : b.val = t.val / 4) (r : Fin 1024) (d : Fin 512) (l : Fin 4096) (hl : l.val = 1024 * (t.val % 4) + r.val) :
    @Eq EReal (iblk m c 16 t (ix3 0 r d)) (argZ m c (ix3 b l d)) := by
  refine (read16 c (V m c main_arg2) t (ix3 0 r d) (ix3 b l d) ?_ ?_ ?_).trans (congrFun (V_main_arg2 m c) _)
  · rw [index16]; show b.val = t.val / 4 * 1 + 1 * 0; omega
  · rw [index16]; show l.val = t.val % 4 * 1024 + 1 * r.val; omega
  · rw [index16]; show d.val = 0 * 512 + 1 * d.val; omega

theorem blk17 (t : Fin cfg0.N) (b : Fin 8) (hb : b.val = t.val / 4) (r : Fin 16) (d : Fin 512) (l : Fin 4096) (hl : l.val + 16 = 1024 * (t.val % 4) + r.val) :
    @Eq EReal (iblk m c 17 t (ix3 0 r d)) (argZ m c (ix3 b l d)) := by
  refine (read17 c (V m c main_arg2) t (ix3 0 r d) (ix3 b l d) ?_ ?_ ?_).trans (congrFun (V_main_arg2 m c) _)
  · rw [index17]; show b.val = t.val / 4 * 1 + 1 * 0; omega
  · rw [index17]; show l.val = (64 * (t.val % 4) - 1) * 16 + 1 * r.val; omega
  · rw [index17]; show d.val = 0 * 512 + 1 * d.val; omega

theorem blk18 (t : Fin cfg0.N) (b : Fin 8) (hb : b.val = t.val / 4) (r : Fin 16) (d : Fin 512) (l : Fin 4096) (hl : l.val = 1024 * (t.val % 4) + 1024 + r.val) :
    @Eq EReal (iblk m c 18 t (ix3 0 r d)) (argZ m c (ix3 b l d)) := by
  refine (read18 c (V m c main_arg2) t (ix3 0 r d) (ix3 b l d) ?_ ?_ ?_).trans (congrFun (V_main_arg2 m c) _)
  · rw [index18]; show b.val = t.val / 4 * 1 + 1 * 0; omega
  · rw [index18]; show l.val = (min (64 * (t.val % 4) + 64) 255) * 16 + 1 * r.val; omega
  · rw [index18]; show d.val = 0 * 512 + 1 * d.val; omega

/-- The mixer's output rows of a sequence. -/
def mixer (b : Fin 8) (l : Fin 4096) (k : Fin 1024) : EReal :=
  if h : k.val < 512 then argY m c (ix3 b l (⟨k.val, h⟩ : Fin 512)) else argZ m c (ix3 b l (⟨k.val - 512, by omega⟩ : Fin 512))

/-- The output of a sequence at a row and a channel. -/
def outAt (b : Fin 8) (l : Fin 4096) (d : Fin 1024) : EReal :=
  block (fun l d => argX m c (ix3 b l d)) (mixer m c b) (fun k d => argWo m c (ix2 k d)) (fun d => argGate1 m c (ix3 b 0 d))
    (fun d => argNorm m c (ix1 d)) (fun d => argShift m c (ix3 b 0 d)) (fun d => argScale m c (ix3 b 0 d)) (fun d => argGate2 m c (ix3 b 0 d))
    (fun k f => argUp m c (ix2 k f)) (fun t f => argConv m c (ix2 t f)) (fun f => argBias m c (ix1 f)) (fun f d => argDown m c (ix2 f d)) l d

/-- The output array. -/
def result : Buf (Elt Ideal) ((c : Thread nD τ).loc main_v5) := fun i => outAt m c (i 0) (i 1) (i 2)

theorem rows_at (t : Fin cfg0.N) (b : Fin 8) (hb : b.val = t.val / 4) (n : Fin 1056) (k : Fin 1024) (l : Fin 4096)
    (hl : l.val + 16 = 1024 * (t.val % 4) + n.val) :
    @Eq EReal (yext (iblk m c 13 t) (iblk m c 14 t) (iblk m c 15 t) (iblk m c 16 t) (iblk m c 17 t) (iblk m c 18 t) (ix2 n k)) (mixer m c b l k) := by
  refine (yext_at (iblk m c 13 t) (iblk m c 14 t) (iblk m c 15 t) (iblk m c 16 t) (iblk m c 17 t) (iblk m c 18 t) n k).trans ?_
  unfold mixer
  by_cases hk : k.val < 512
  · simp only [dif_pos hk]
    split
    · exact blk14 m c t b hb _ _ l (by dsimp only; omega)
    · split
      · exact blk13 m c t b hb _ _ l (by dsimp only; omega)
      · exact blk15 m c t b hb _ _ l (by dsimp only; omega)
  · simp only [dif_neg hk]
    split
    · exact blk17 m c t b hb _ _ l (by dsimp only; omega)
    · split
      · exact blk16 m c t b hb _ _ l (by dsimp only; omega)
      · exact blk18 m c t b hb _ _ l (by dsimp only; omega)

theorem tile_value (t : Fin cfg0.N) (b : Fin 8) (hb : b.val = t.val / 4) (r d : Fin 1024) (l : Fin 4096) (hl : l.val = 1024 * (t.val % 4) + r.val) :
    @Eq EReal (tile (BitVec.ofNat 32 (grid0.coords t 1).val) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (yext (iblk m c 13 t) (iblk m c 14 t) (iblk m c 15 t) (iblk m c 16 t) (iblk m c 17 t) (iblk m c 18 t)) (ix3 0 r d)) (outAt m c b l d) := by
  rw [coords1]
  refine (tile_at (t.val % 4) (by omega) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (yext (iblk m c 13 t) (iblk m c 14 t) (iblk m c 15 t) (iblk m c 16 t) (iblk m c 17 t) (iblk m c 18 t))
      (fun l d => argX m c (ix3 b l d)) (mixer m c b) (blk0 m c t b hb) (blk1 m c t b hb) (blk2 m c t b hb) (rows_at m c t b hb) r d l hl).trans ?_
  exact block_congr (fun _ _ => rfl) (fun _ _ => rfl) (blk4 m c t) (blk3 m c t b hb) (blk5 m c t) (blk6 m c t b hb) (blk7 m c t b hb)
    (blk8 m c t b hb) (blk9 m c t) (blk10 m c t) (blk11 m c t) (blk12 m c t) rfl rfl

theorem flushed_eq (t : Fin cfg0.N) : (dats m 0 c).flushed 19 t = ((cfg0.win 19).blk t).view.read (Elt Ideal) (result m c) := by
  have hN : t.val < 32 := lt_of_lt_of_eq t.isLt N_0
  rw [flushed19_A, out0_A_19_eq]
  funext y
  rw [View.read_apply]
  have hy0 : (y 0).val < 1 := (y 0).isLt
  have hy1 : (y 1).val < 1024 := (y 1).isLt
  have hy2 : (y 2).val < 1024 := (y 2).isLt
  have e0 : (((cfg0.win 19).blk t).view.emb y 0 : Fin 8) = (⟨t.val / 4, by omega⟩ : Fin 8) := Fin.ext (by
    show win0_19.index t 0 * 1 + 1 * (y 0).val = t.val / 4
    rw [index19]; show t.val / 4 * 1 + 1 * (y 0).val = t.val / 4; omega)
  have e1 : (((cfg0.win 19).blk t).view.emb y 1 : Fin 4096) = (⟨1024 * (t.val % 4) + (y 1).val, by omega⟩ : Fin 4096) := Fin.ext (by
    show win0_19.index t 1 * 1024 + 1 * (y 1).val = 1024 * (t.val % 4) + (y 1).val
    rw [index19]; show t.val % 4 * 1024 + 1 * (y 1).val = _; omega)
  have e2 : (((cfg0.win 19).blk t).view.emb y 2 : Fin 1024) = (y 2 : Fin 1024) := Fin.ext (by
    show win0_19.index t 2 * 1024 + 1 * (y 2).val = (y 2).val
    rw [index19]; show 0 * 1024 + 1 * (y 2).val = _; omega)
  refine Eq.trans ?_ ((tile_value m c t (⟨t.val / 4, by omega⟩ : Fin 8) rfl (y 1) (y 2) (⟨1024 * (t.val % 4) + (y 1).val, by omega⟩ : Fin 4096) rfl).trans ?_)
  · refine congrArg _ (funext fun a => Fin.ext ?_)
    match a with
    | ⟨0, _⟩ => show (y 0).val = 0; omega
    | ⟨1, _⟩ => rfl
    | ⟨2, _⟩ => rfl
  · show outAt m c _ _ _ = outAt m c (((cfg0.win 19).blk t).view.emb y 0) (((cfg0.win 19).blk t).view.emb y 1) (((cfg0.win 19).blk t).view.emb y 2)
    rw [e0, e1, e2]

theorem final : (dats m 0 c).arrAt 19 cfg0.N = result m c :=
  (dats m 0 c).arrAt_eq_of_cover 19 (result m c) (fun t _ => flushed_eq m c t) fun i => by
    have h0 : (i 0 : Nat) < 8 := (i 0).isLt
    have h1 : (i 1 : Nat) < 4096 := (i 1).isLt
    have h2 : (i 2 : Nat) < 1024 := (i 2).isLt
    have hn : (i 0 : Nat) * 4 + (i 1 : Nat) / 1024 < cfg0.N := by rw [show cfg0.N = 32 from N_0]; omega
    refine ⟨⟨(i 0 : Nat) * 4 + (i 1 : Nat) / 1024, hn⟩, flush19' _, ?_⟩
    show i ∈ ((View.whole main_v5).slice (win0_19.rect ⟨(i 0 : Nat) * 4 + (i 1 : Nat) / 1024, hn⟩)).set
    rw [View.set_slice_whole, Rect.mem_set_unit]
    intro a
    match a with
    | ⟨0, _⟩ =>
      show win0_19.index _ 0 * 1 ≤ (i 0 : Nat) ∧ (i 0 : Nat) < win0_19.index _ 0 * 1 + 1
      rw [index19]; simp; omega
    | ⟨1, _⟩ =>
      show win0_19.index _ 1 * 1024 ≤ (i 1 : Nat) ∧ (i 1 : Nat) < win0_19.index _ 1 * 1024 + 1024
      rw [index19]; simp; omega
    | ⟨2, _⟩ =>
      show win0_19.index _ 2 * 1024 ≤ (i 2 : Nat) ∧ (i 2 : Nat) < win0_19.index _ 2 * 1024 + 1024
      rw [index19]; simp; omega

end Cert.MixIdeal.Rows

end
-- ==== Proof.Mix.Ref.lean ====
module

public import proofs.«01_k».proof.Proof.Gen.MixRefIdeal.Read
public import proofs.«01_k».proof.Proof.Ffn.Spec
public import Idealize.ShloMosaic.Lib.Pointwise

/-! The reference, read at an index. -/

@[expose] public section

set_option maxRecDepth 16384

noncomputable section

open Idealize.ShloMosaic

namespace Cert.MixRefIdeal.Rows

open Cert.MixRefIdeal Cert.MixRefIdeal.Gen Cert.MixRefIdeal.Read Cert.Block

variable (x0 : FVec Ideal S8x4096x1024 .f32) (x1 x2 : FVec Ideal S8x4096x512 .bf16) (x3 : FVec Ideal S1024x1024 .f32)
  (x4 : FVec Ideal S8x1x1024 .f32) (x5 : FVec Ideal S1024 .f32) (x6 x7 x8 : FVec Ideal S8x1x1024 .f32) (x9 : FVec Ideal S1024x5632 .f32)
  (x10 : FVec Ideal S3x2816 .f32) (x11 : FVec Ideal S2816 .f32) (x12 : FVec Ideal S2816x1024 .f32)

/-- The two mixers' output rows of a sequence, side by side. -/
def mixer (b : Fin 8) (l : Fin 4096) (k : Fin 1024) : EReal :=
  if h : k.val < 512 then x1 (ix3 b l (⟨k.val, h⟩ : Fin 512)) else x2 (ix3 b l (⟨k.val - 512, by omega⟩ : Fin 512))

theorem mixed_eq (b : Fin 8) (l : Fin 4096) (d : Fin 1024) :
    @Eq EReal (val_main_v6 (F := Ideal) x0 x1 x2 x3 x4 (ix3 b l d))
      (mixed (fun l d => x0 (ix3 b l d)) (mixer x1 x2 b) (fun k d => x3 (ix2 k d)) (fun d => x4 (ix3 b 0 d)) l d) := by
  unfold val_main_v6 val_main_v5 val_main_v4 val_main_v3 val_main_v2 val_main_v1 val_main_v0 mixed mixer
  pointwise

/-- The normed rows of a sequence. -/
abbrev rowsOf (b : Fin 8) (l : Fin 4096) : Fin 1024 → EReal :=
  normed (mixed (fun l d => x0 (ix3 b l d)) (mixer x1 x2 b) (fun k d => x3 (ix2 k d)) (fun d => x4 (ix3 b 0 d)) l)
    (fun d => x5 (ix1 d)) (fun d => x6 (ix3 b 0 d)) (fun d => x7 (ix3 b 0 d))

theorem normed_eq (b : Fin 8) (l : Fin 4096) (d : Fin 1024) :
    @Eq EReal (val_main_v25 (F := Ideal) x0 x1 x2 x3 x4 x5 x6 x7 (ix3 b l d)) (rowsOf x0 x1 x2 x3 x4 x5 x6 x7 b l d) := by
  unfold rowsOf normed
  simp only [← mixed_eq]
  unfold val_main_v25 val_main_v24 val_main_v23 val_main_v22 val_main_v21 val_main_v20 val_main_cst_2 val_main_v19 val_main_v18 val_main_v17
    val_main_v16 val_main_v15 val_main_v14 val_main_v13 val_main_v12 val_main_cst_1 val_main_v11 val_main_v10 val_main_cst_0 val_main_v9
    val_main_v8 val_main_cst val_main_v7
  generalize val_main_v6 (F := Ideal) x0 x1 x2 x3 x4 = z
  pointwise

/-- The gate of a sequence's rows with a row of zeros before and after, -/
theorem gate_eq (b : Fin 8) (n : Fin 4098) (f : Fin 2816) :
    @Eq EReal (val_main_v29 (F := Ideal) x0 x1 x2 x3 x4 x5 x6 x7 x9 (ix3 b n f))
      (∑ x, around (rowsOf x0 x1 x2 x3 x4 x5 x6 x7 b) n.val x * x9 (ix2 x (⟨f.val, by omega⟩ : Fin 5632))) := by
  by_cases h : 1 ≤ n.val ∧ n.val ≤ 4096
  · rw [around_of _ _ (⟨n.val - 1, by omega⟩ : Fin 4096) (by dsimp only; omega)]
    simp only [← normed_eq]
    unfold val_main_v29 val_main_v27 val_main_v26 val_main_call0_v0 val_main_c
    generalize val_main_v25 (F := Ideal) x0 x1 x2 x3 x4 x5 x6 x7 = z
    pointwise
    rw [dif_pos (by omega)]
  · rw [gate_zero _ _ h]
    unfold val_main_v29 val_main_v27 val_main_v26 val_main_call0_v0 val_main_c
    generalize val_main_v25 (F := Ideal) x0 x1 x2 x3 x4 x5 x6 x7 = z
    pointwise
    rw [dif_neg (by omega)]
    show (((0#32 : BitVec 32).toInt : ℝ) : EReal) = 0
    simp

theorem value_eq (b : Fin 8) (l : Fin 4096) (f : Fin 2816) :
    @Eq EReal (val_main_v28 (F := Ideal) x0 x1 x2 x3 x4 x5 x6 x7 x9 (ix3 b l f))
      (∑ x, rowsOf x0 x1 x2 x3 x4 x5 x6 x7 b l x * x9 (ix2 x (⟨2816 + f.val, by omega⟩ : Fin 5632))) := by
  simp only [← normed_eq]
  unfold val_main_v28 val_main_v26
  generalize val_main_v25 (F := Ideal) x0 x1 x2 x3 x4 x5 x6 x7 = z
  pointwise

theorem channel_eq (b : Fin 8) (l : Fin 4096) (f : Fin 2816) :
    @Eq EReal (val_main_v54 (F := Ideal) x0 x1 x2 x3 x4 x5 x6 x7 x9 x10 x11 (ix3 b l f))
      (channel (rowsOf x0 x1 x2 x3 x4 x5 x6 x7 b) (fun k f => x9 (ix2 k f)) (fun t f => x10 (ix2 t f)) (fun f => x11 (ix1 f)) l.val f) := by
  unfold channel gated conv
  rw [around_of _ (l.val + 1) l rfl, ← value_eq]
  have g0 := gate_eq x0 x1 x2 x3 x4 x5 x6 x7 x9 b (⟨l.val, by omega⟩ : Fin 4098) f
  have g1 := gate_eq x0 x1 x2 x3 x4 x5 x6 x7 x9 b (⟨l.val + 1, by omega⟩ : Fin 4098) f
  have g2 := gate_eq x0 x1 x2 x3 x4 x5 x6 x7 x9 b (⟨l.val + 2, by omega⟩ : Fin 4098) f
  dsimp only at g0 g1 g2
  rw [around_of _ (l.val + 1) l rfl] at g1
  rw [← g0, ← g1, ← g2]
  unfold val_main_v54 val_main_v53 val_main_call1_v5 val_main_call1_v4 val_main_call1_cst_0 val_main_call1_v3 val_main_call1_v2
    val_main_call1_cst val_main_call1_v1 val_main_call1_v0 val_main_v52 val_main_v51 val_main_v50 val_main_v49 val_main_v48 val_main_v47
    val_main_v46 val_main_v45 val_main_v44 val_main_v43 val_main_v42 val_main_v41 val_main_v40 val_main_v39 val_main_v38 val_main_v37
    val_main_v36 val_main_v35 val_main_v34 val_main_v33 val_main_v32 val_main_v31 val_main_v30
  generalize val_main_v29 (F := Ideal) x0 x1 x2 x3 x4 x5 x6 x7 x9 = z
  generalize val_main_v28 (F := Ideal) x0 x1 x2 x3 x4 x5 x6 x7 x9 = u
  pointwise
  rw [zero_sub]
  simp only [Nat.add_comm 1, Nat.add_comm 2]

theorem reference_at (b : Fin 8) (l : Fin 4096) (d : Fin 1024) :
    @Eq EReal (val_main_v58 (F := Ideal) x0 x1 x2 x3 x4 x5 x6 x7 x8 x9 x10 x11 x12 (ix3 b l d))
      (block (fun l d => x0 (ix3 b l d)) (mixer x1 x2 b) (fun k d => x3 (ix2 k d)) (fun d => x4 (ix3 b 0 d))
        (fun d => x5 (ix1 d)) (fun d => x6 (ix3 b 0 d)) (fun d => x7 (ix3 b 0 d)) (fun d => x8 (ix3 b 0 d))
        (fun k f => x9 (ix2 k f)) (fun t f => x10 (ix2 t f)) (fun f => x11 (ix1 f)) (fun f d => x12 (ix2 f d)) l d) := by
  unfold block
  simp only [← mixed_eq, ← channel_eq]
  unfold val_main_v58 val_main_v57 val_main_v56 val_main_v55
  generalize val_main_v54 (F := Ideal) x0 x1 x2 x3 x4 x5 x6 x7 x9 x10 x11 = u
  generalize val_main_v6 (F := Ideal) x0 x1 x2 x3 x4 = z
  pointwise

end Cert.MixRefIdeal.Rows

end
-- ==== Proof.Mix.Value.lean ====
module

public import proofs.«01_k».proof.Defs
public import proofs.«01_k».proof.Proof.Mix.Array
public import proofs.«01_k».proof.Proof.Mix.Ref
public import proofs.«01_k».proof.Proof.Gen.MixRefIdeal.Run
public import Idealize.ShloMosaic.Adequacy
public import Idealize.ShloMosaic.Init
public import Idealize.ShloMosaic.Lib.Claim

/-! The kernel's array is the reference's. -/

@[expose] public section

set_option maxRecDepth 16384

noncomputable section

open Idealize.ShloMosaic Idealize.ShloMosaic.TcCoe Idealize.SL.Sem

namespace Cert.MixIdeal.Rows

open Cert.MixIdeal Cert.MixIdeal.Gen

variable (m : (ℓ : Loc nD τ sig) → Buf (Elt Ideal) ℓ) (c : Dev nD)

theorem result_eq : result m c = Cert.MixRefIdeal.Read.val_main_v58 (F := Ideal) (argX m c) (argY m c) (argZ m c) (argWo m c) (argGate1 m c) (argNorm m c) (argShift m c) (argScale m c) (argGate2 m c) (argUp m c) (argConv m c) (argBias m c) (argDown m c) := by
  funext i
  obtain ⟨b, l, d, rfl⟩ : ∃ (b : Fin 8) (l : Fin 4096) (d : Fin 1024), i = ix3 b l d :=
    ⟨i 0, i 1, i 2, funext fun a => by match a with | ⟨0, _⟩ => rfl | ⟨1, _⟩ => rfl | ⟨2, _⟩ => rfl⟩
  exact (Cert.MixRefIdeal.Rows.reference_at _ _ _ _ _ _ _ _ _ _ _ _ _ b l d).symm

end Cert.MixIdeal.Rows

namespace Cert.Proof

/-- The reference runs, and leaves its arguments as they were. -/
theorem mix_reference_frame : Cert.quiescent_MixRefIdeal := by
  intro m g _
  exact (θ_run Cert.MixRefIdeal.defs _ _).mono (fun r h => ⟨fun c => (h c).2, Idealize.ShloMosaic.sem_eq_zero_of_no_sems (by decide) r.2⟩)
    (Cert.MixRefIdeal.Value.run m g)

/-- The kernel computes what its reference computes. -/
theorem mix_value : Cert.algebraic_MixIdeal_MixRefIdeal := by
  intro m g m' g' _ hagree
  refine ⟨fun c => Cert.MixIdeal.Rows.result m c, ?_, ?_⟩
  · exact (θ_run _ _ _).mono (fun r h c => ⟨(h c).1.trans (Cert.MixIdeal.Rows.final m c), (h c).2⟩)
      (Cert.MixIdeal.Value.run_blocks m g)
  · refine (θ_run _ _ _).mono (fun r h c => ⟨?_, (h c).2⟩) (Cert.MixRefIdeal.Value.run m' g')
    obtain ⟨a0, a1, a2, a3, a4, a5, a6, a7, a8, a9, a10, a11, a12⟩ := hagree c
    refine ((h c).1.trans (Cert.MixRefIdeal.Read.val_main_v58_eq m' c)).trans ?_
    rw [a0, a1, a2, a3, a4, a5, a6, a7, a8, a9, a10, a11, a12]
    exact (Cert.MixIdeal.Rows.result_eq m c).symm

end Cert.Proof

end
-- ==== Proof.FhIn.Step.lean ====
module

public import proofs.«01_k».proof.Proof.Gen.FhInIdeal.Value
public import Idealize.ShloMosaic.Lib.Pointwise

/-! What one grid point of the mixer's input projection leaves in its three output blocks: the normed rows with sixteen rows
of its neighbours on either side, the transformed rows in their residue-major order, and the convolved channels. -/

@[expose] public section

set_option maxRecDepth 16384

noncomputable section

open Idealize.ShloMosaic Idealize.ShloMosaic.TcCoe Idealize.SL.Sem
open Idealize.ShloMosaic.Pipeline (Dat)

namespace Cert.FhInIdeal.Rows

open Cert.FhInIdeal Cert.FhInIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem readCov_ld {S : Shape} {e : EltTy} {sig : RefSig} {κ : Kind} {sp : Space} (v : View sig κ sp S e)
    (L : List (View.Piece (Elt F) S e)) (r : Rect S) : v.readCov L r.toLoadRect = View.ld (View.canon L) r :=
  View.readCov_eq_canon' v L r

/-- The modulated norm of the rows, zero before the sequence's first tile and after its last. -/
def hn (j : grid0.Coords) (x0 : Vec F S1x512x1024 .f32) (x1 x2 : Vec F S1x16x1024 .f32) (x3 : Vec F S1x1024 .f32)
    (x4 x5 : Vec F S1x1x1024 .f32) : Vec F S544x1024 .bf16 :=
  View.canon (Val := Elt F) (s := S544x1024) (e := .bf16)
    [⟨Rect.unit (s := S544x1024) ![528, 0] S16x1024.size inb_S544x1024_S16x1024_528_0,
        k0_pay14 (k0_pay12 (k0_pay4 x3) (k0_pay5 x4) (k0_pay6 x5) (k0_pay8 x2)) (Scalar.cmpi .slt (BitVec.ofNat 32 (j 1).val) 7#32) k0_pay13⟩,
     ⟨Rect.unit (s := S544x1024) ![16, 0] S512x1024.size inb_S544x1024_S512x1024_16_0,
        k0_pay11 (k0_pay4 x3) (k0_pay5 x4) (k0_pay6 x5) (k0_pay7 x0)⟩,
     ⟨Rect.unit (s := S544x1024) ![0, 0] S16x1024.size inb_S544x1024_S16x1024_0_0,
        k0_pay10 (k0_pay9 j x3 x4 x5 x1)⟩]

theorem hn_fold (j : grid0.Coords) (x0 : Vec F S1x512x1024 .f32) (x1 x2 : Vec F S1x16x1024 .f32) (x3 : Vec F S1x1024 .f32)
    (x4 x5 : Vec F S1x1x1024 .f32) :
    View.canon (Val := Elt F) (s := S544x1024) (e := .bf16)
    [⟨Rect.unit (s := S544x1024) ![528, 0] ![16, 1024] inb_S544x1024_S16x1024_528_0,
        k0_pay14 (k0_pay12 (k0_pay4 x3) (k0_pay5 x4) (k0_pay6 x5) (k0_pay8 x2)) (Scalar.cmpi .slt (BitVec.ofNat 32 (j 1).val) 7#32) k0_pay13⟩,
     ⟨Rect.unit (s := S544x1024) ![16, 0] ![512, 1024] inb_S544x1024_S512x1024_16_0,
        k0_pay11 (k0_pay4 x3) (k0_pay5 x4) (k0_pay6 x5) (k0_pay7 x0)⟩,
     ⟨Rect.unit (s := S544x1024) ![0, 0] ![16, 1024] inb_S544x1024_S16x1024_0_0,
        k0_pay10 (k0_pay9 j x3 x4 x5 x1)⟩] = hn j x0 x1 x2 x3 x4 x5 := rfl

/-- The convolved channels, before the bias. -/
def taps (h : Vec F S544x1024 .bf16) (x6 : Vec F S1024x2048 .bf16) (x7 : Vec F S3x1536 .f32) : FVec F S544x1536 .f32 :=
  k0_pay17 h x6 x7

variable (c : Dev nD)
  (i : grid0.Coords)
  (arg2 : Memref sig .tc .vmem S1x512x1024 .f32)
  (harg2 : arg2.IsWhole)
  (arg3 : Memref sig .tc .vmem S1x16x1024 .f32)
  (harg3 : arg3.IsWhole)
  (arg4 : Memref sig .tc .vmem S1x16x1024 .f32)
  (harg4 : arg4.IsWhole)
  (arg5 : Memref sig .tc .vmem S1x1024 .f32)
  (harg5 : arg5.IsWhole)
  (arg6 : Memref sig .tc .vmem S1x1x1024 .f32)
  (harg6 : arg6.IsWhole)
  (arg7 : Memref sig .tc .vmem S1x1x1024 .f32)
  (harg7 : arg7.IsWhole)
  (arg8 : Memref sig .tc .vmem S1024x2048 .bf16)
  (harg8 : arg8.IsWhole)
  (arg9 : Memref sig .tc .vmem S3x1536 .f32)
  (harg9 : arg9.IsWhole)
  (arg10 : Memref sig .tc .vmem S1x1536 .f32)
  (harg10 : arg10.IsWhole)
  (arg11 : Memref sig .tc .vmem S512x1024 .bf16)
  (harg11 : arg11.IsWhole)
  (arg12 : Memref sig .tc .vmem S512x512 .bf16)
  (harg12 : arg12.IsWhole)
  (arg13 : Memref sig .tc .vmem S1x32x16x1024 .bf16)
  (harg13 : arg13.IsWhole)
  (arg14 : Memref sig .tc .vmem S1x512x512 .bf16)
  (harg14 : arg14.IsWhole)
  (arg15 : Memref sig .tc .vmem S1x512x512 .f32)
  (harg15 : arg15.IsWhole)
  (arg16 : Memref sig .tc .vmem S544x1024 .bf16)
  (harg16 : arg16.IsWhole)
  (x0 : Vec F S1x512x1024 .f32)
  (x1 : Vec F S1x16x1024 .f32)
  (x2 : Vec F S1x16x1024 .f32)
  (x3 : Vec F S1x1024 .f32)
  (x4 : Vec F S1x1x1024 .f32)
  (x5 : Vec F S1x1x1024 .f32)
  (x6 : Vec F S1024x2048 .bf16)
  (x7 : Vec F S3x1536 .f32)
  (x8 : Vec F S1x1536 .f32)
  (x9 : Vec F S512x1024 .bf16)
  (x10 : Vec F S512x512 .bf16)

set_option maxHeartbeats 1600000 in
theorem out0_A_11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10
    = k0_pay16 (hn i x0 x1 x2 x3 x4 x5) x6 x10 x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  first
    | rw [View.canon_unit_zero (S := S1x32x16x1024) hz4]
    | rw [View.canon_cons_unit_zero (S := S1x32x16x1024) hz4]
  simp only [readCov_ld, View.ld_unit_zero (S := S544x1024) hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1x512x1024) hz3, View.ld_unit_zero (S := S1x16x1024) hz3, View.ld_unit_zero (S := S1x1x1024) hz3,
    View.ld_unit_zero (S := S1x1024) hz2, View.ld_unit_zero (S := S1024x2048) hz2, View.ld_unit_zero (S := S3x1536) hz2,
    View.ld_unit_zero (S := S1x1536) hz2, View.ld_unit_zero (S := S512x1024) hz2, View.ld_unit_zero (S := S512x512) hz2, hn_fold]
  all_goals rfl

set_option maxHeartbeats 1600000 in
theorem out0_A_12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10
    = k0_pay3 (taps (hn i x0 x1 x2 x3 x4 x5) x6 x7) x8 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  first
    | rw [View.canon_unit_zero (S := S1x512x512) hz3]
    | rw [View.canon_cons_unit_zero (S := S1x512x512) hz3]
  simp only [readCov_ld, View.ld_unit_zero (S := S544x1024) hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1x512x1024) hz3, View.ld_unit_zero (S := S1x16x1024) hz3, View.ld_unit_zero (S := S1x1x1024) hz3,
    View.ld_unit_zero (S := S1x1024) hz2, View.ld_unit_zero (S := S1024x2048) hz2, View.ld_unit_zero (S := S3x1536) hz2,
    View.ld_unit_zero (S := S1x1536) hz2, View.ld_unit_zero (S := S512x1024) hz2, View.ld_unit_zero (S := S512x512) hz2, hn_fold]
  all_goals rfl

set_option maxHeartbeats 1600000 in
theorem out0_A_13_eq : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10
    = k0_pay2 (taps (hn i x0 x1 x2 x3 x4 x5) x6 x7) x8 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  first
    | rw [View.canon_unit_zero (S := S1x512x512) hz3]
    | rw [View.canon_cons_unit_zero (S := S1x512x512) hz3]
  simp only [readCov_ld, View.ld_unit_zero (S := S544x1024) hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
    View.ld_unit_zero (S := S1x512x1024) hz3, View.ld_unit_zero (S := S1x16x1024) hz3, View.ld_unit_zero (S := S1x1x1024) hz3,
    View.ld_unit_zero (S := S1x1024) hz2, View.ld_unit_zero (S := S1024x2048) hz2, View.ld_unit_zero (S := S3x1536) hz2,
    View.ld_unit_zero (S := S1x1536) hz2, View.ld_unit_zero (S := S512x1024) hz2, View.ld_unit_zero (S := S512x512) hz2, hn_fold]
  all_goals rfl

end Cert.FhInIdeal.Rows

end
-- ==== Proof.FhIn.Spec.lean ====
module

public import proofs.«01_k».proof.Proof.Ffn.Spec

/-! The mixer's input projection, row by row, in plain words: the transformed rows and the convolved channels. -/

@[expose] public section

noncomputable section

open Idealize.ShloMosaic

namespace Cert.Block

/-- The first 512 projected channels of row `l`, transformed. -/
def fourier (H : Fin 4096 → Fin 1024 → EReal) (W : Fin 1024 → Fin 2048 → EReal) (G : Fin 512 → Fin 1024 → EReal)
    (l : Fin 4096) (e : Fin 1024) : EReal :=
  ∑ f : Fin 512, (∑ x, H l x * W x ⟨f.val, by omega⟩) * G f e

/-- The other 1536 projected channels of row `l`, convolved along the rows. -/
def convolved (H : Fin 4096 → Fin 1024 → EReal) (W : Fin 1024 → Fin 2048 → EReal) (cw : Fin 3 → Fin 1536 → EReal)
    (cb : Fin 1536 → EReal) (l : Nat) (f : Fin 1536) : EReal :=
  conv (around H l) (around H (l + 1)) (around H (l + 2)) (fun x => W x ⟨512 + f.val, by omega⟩) (cw 0 f) (cw 1 f) (cw 2 f) (cb f)

theorem fourier_congr {H H' : Fin 4096 → Fin 1024 → EReal} {W W' : Fin 1024 → Fin 2048 → EReal} {G G' : Fin 512 → Fin 1024 → EReal}
    (hH : ∀ l x, H l x = H' l x) (hW : ∀ x f, W x f = W' x f) (hG : ∀ f e, G f e = G' f e) (l : Fin 4096) (e : Fin 1024) :
    fourier H W G l e = fourier H' W' G' l e := by
  obtain rfl : H = H' := funext₂ hH
  obtain rfl : W = W' := funext₂ hW
  obtain rfl : G = G' := funext₂ hG
  rfl

theorem convolved_congr {H H' : Fin 4096 → Fin 1024 → EReal} {W W' : Fin 1024 → Fin 2048 → EReal} {cw cw' : Fin 3 → Fin 1536 → EReal}
    {cb cb' : Fin 1536 → EReal} (hH : ∀ l x, H l x = H' l x) (hW : ∀ x f, W x f = W' x f) (hcw : ∀ t f, cw t f = cw' t f)
    (hcb : ∀ f, cb f = cb' f) (l : Nat) (f : Fin 1536) : convolved H W cw cb l f = convolved H' W' cw' cb' l f := by
  obtain rfl : H = H' := funext₂ hH
  obtain rfl : W = W' := funext₂ hW
  obtain rfl : cw = cw' := funext₂ hcw
  obtain rfl : cb = cb' := funext hcb
  rfl

end Cert.Block

end
-- ==== Proof.FhIn.Tile.lean ====
module

public import proofs.«01_k».proof.Proof.FhIn.Step
public import proofs.«01_k».proof.Proof.FhIn.Spec

/-! The output blocks of a grid point, read at an index. -/

@[expose] public section

set_option maxRecDepth 16384

noncomputable section

open Idealize.ShloMosaic Idealize.ShloMosaic.TcCoe

namespace Cert.FhInIdeal.Rows

open Cert.FhInIdeal Cert.FhInIdeal.Gen Cert.Block

section Parts
variable (j : grid0.Coords) (x0 : Vec Ideal S1x512x1024 .f32) (x1 x2 : Vec Ideal S1x16x1024 .f32) (x3 : Vec Ideal S1x1024 .f32)
    (x4 x5 : Vec Ideal S1x1x1024 .f32) (x6 : Vec Ideal S1024x2048 .bf16) (x7 : Vec Ideal S3x1536 .f32) (x8 : Vec Ideal S1x1536 .f32)
    (x9 : Vec Ideal S512x1024 .bf16) (x10 : Vec Ideal S512x512 .bf16) (h : Vec Ideal S544x1024 .bf16) (z : FVec Ideal S544x1536 .f32)

theorem normCur_at (n : Fin 512) (d : Fin 1024) :
    @Eq EReal (k0_pay11 (k0_pay4 x3) (k0_pay5 x4) (k0_pay6 x5) (k0_pay7 x0) (ix2 n d))
      (normed (fun x => x0 (ix3 0 n x)) (fun x => x3 (ix2 0 x)) (fun x => x4 (ix3 0 0 x)) (fun x => x5 (ix3 0 0 x)) d) := by
  unfold_payloads
  unfold normed
  pointwise

theorem normPrev_at (n : Fin 16) (d : Fin 1024) :
    @Eq EReal (k0_pay10 (k0_pay9 j x3 x4 x5 x1) (ix2 n d))
      (Scalar.select (Scalar.cmpi .sgt (BitVec.ofNat 32 (j 1).val) 0#32)
        (normed (fun x => x1 (ix3 0 n x)) (fun x => x3 (ix2 0 x)) (fun x => x4 (ix3 0 0 x)) (fun x => x5 (ix3 0 0 x)) d) (0 : EReal)) := by
  unfold_payloads
  unfold normed
  pointwise

theorem normNext_at (b : BitVec 1) (n : Fin 16) (d : Fin 1024) :
    @Eq EReal (k0_pay14 (k0_pay12 (k0_pay4 x3) (k0_pay5 x4) (k0_pay6 x5) (k0_pay8 x2)) b k0_pay13 (ix2 n d))
      (Scalar.select b
        (normed (fun x => x2 (ix3 0 n x)) (fun x => x3 (ix2 0 x)) (fun x => x4 (ix3 0 0 x)) (fun x => x5 (ix3 0 0 x)) d) (0 : EReal)) := by
  unfold_payloads
  unfold normed
  pointwise

theorem taps_at (n : Fin 512) (f : Fin 1536) :
    @Eq EReal (taps h x6 x7 (ix2 (⟨16 + n.val, by omega⟩ : Fin 544) f))
      ((∑ x, (h (ix2 (⟨15 + n.val, by omega⟩ : Fin 544) x) : EReal) * x6 (ix2 x (⟨512 + f.val, by omega⟩ : Fin 2048))) * x7 (ix2 0 f)
        + (∑ x, (h (ix2 (⟨16 + n.val, by omega⟩ : Fin 544) x) : EReal) * x6 (ix2 x (⟨512 + f.val, by omega⟩ : Fin 2048))) * x7 (ix2 1 f)
        + (∑ x, (h (ix2 (⟨17 + n.val, by omega⟩ : Fin 544) x) : EReal) * x6 (ix2 x (⟨512 + f.val, by omega⟩ : Fin 2048))) * x7 (ix2 2 f)) := by
  unfold taps
  unfold_payloads
  pointwise
  have e1 : (16 + n.val + 544 - 1) % 544 = 15 + n.val := by omega
  have e2 : (16 + n.val + 544 - 543) % 544 = 17 + n.val := by omega
  simp only [e1, e2]

theorem first_at (n f : Fin 512) :
    @Eq EReal (k0_pay2 z x8 (ix3 0 n f))
      ((z (ix2 (⟨16 + n.val, by omega⟩ : Fin 544) (⟨f.val, by omega⟩ : Fin 1536)) : EReal) + x8 (ix2 0 (⟨f.val, by omega⟩ : Fin 1536))) := by
  unfold_payloads
  pointwise

theorem product_at (n f : Fin 512) :
    @Eq EReal (k0_pay3 z x8 (ix3 0 n f))
      (((z (ix2 (⟨16 + n.val, by omega⟩ : Fin 544) (⟨1024 + f.val, by omega⟩ : Fin 1536)) : EReal) + x8 (ix2 0 (⟨1024 + f.val, by omega⟩ : Fin 1536)))
        * ((z (ix2 (⟨16 + n.val, by omega⟩ : Fin 544) (⟨512 + f.val, by omega⟩ : Fin 1536)) : EReal) + x8 (ix2 0 (⟨512 + f.val, by omega⟩ : Fin 1536)))) := by
  unfold_payloads
  pointwise

theorem residue_at (a : Fin 32) (q : Fin 16) (e : Fin 1024) :
    @Eq EReal (k0_pay16 h x6 x10 x9 (ix4 0 a q e))
      (∑ f : Fin 512, (∑ k, (x10 (ix2 (⟨a.val * 16 + q.val, by omega⟩ : Fin 512) k) : EReal)
          * ∑ x, (h (ix2 (⟨16 + k.val, by omega⟩ : Fin 544) x) : EReal) * x6 (ix2 x (⟨f.val, by omega⟩ : Fin 2048)))
        * x9 (ix2 f e)) := by
  unfold_payloads
  pointwise

end Parts

/-- A buffer of rows filled in three pieces, at an index. -/
theorem rows3_at (A C : Vec Ideal S16x1024 .bf16) (B : Vec Ideal S512x1024 .bf16) (n : Fin 544) (d : Fin 1024) :
    @Eq EReal (View.canon (Val := Elt Ideal) (s := S544x1024) (e := .bf16)
      [⟨Rect.unit (s := S544x1024) ![528, 0] S16x1024.size inb_S544x1024_S16x1024_528_0, C⟩,
       ⟨Rect.unit (s := S544x1024) ![16, 0] S512x1024.size inb_S544x1024_S512x1024_16_0, B⟩,
       ⟨Rect.unit (s := S544x1024) ![0, 0] S16x1024.size inb_S544x1024_S16x1024_0_0, A⟩] (ix2 n d))
      (if h : n.val < 16 then A (ix2 (⟨n.val, h⟩ : Fin 16) d)
        else if h' : n.val < 528 then B (ix2 (⟨n.val - 16, by omega⟩ : Fin 512) d)
        else C (ix2 (⟨n.val - 528, by omega⟩ : Fin 16) d)) := by
  let G : S544x1024.Idx → EReal := fun y =>
    if h : (y 0).val < 16 then A (ix2 (⟨(y 0).val, h⟩ : Fin 16) (y 1))
        else if h' : (y 0).val < 528 then B (ix2 (⟨(y 0).val - 16, by omega⟩ : Fin 512) (y 1))
        else C (ix2 (⟨(y 0).val - 528, by have : (y 0).val < 544 := (y 0).isLt; omega⟩ : Fin 16) (y 1))
  have gA : ∀ x : S16x1024.Idx, A x = G ((Rect.unit (s := S544x1024) ![0, 0] S16x1024.size inb_S544x1024_S16x1024_0_0).emb x) := by
    intro x
    have hx : (x 0).val < 16 := (x 0).isLt
    have e0 : ((Rect.unit (s := S544x1024) ![0, 0] S16x1024.size inb_S544x1024_S16x1024_0_0).emb x 0).val = (x 0).val := by
      show 0 + 1 * (x 0).val = _; omega
    have e1 : (Rect.unit (s := S544x1024) ![0, 0] S16x1024.size inb_S544x1024_S16x1024_0_0).emb x 1 = (x 1) := Fin.ext (by
      show 0 + 1 * (x 1).val = _; omega)
    simp only [G, e0, e1]
    rw [dif_pos hx]
    exact congrArg A (funext fun a => by match a with | ⟨0, _⟩ => rfl | ⟨1, _⟩ => rfl)
  have gB : ∀ x : S512x1024.Idx, B x = G ((Rect.unit (s := S544x1024) ![16, 0] S512x1024.size inb_S544x1024_S512x1024_16_0).emb x) := by
    intro x
    have hx : (x 0).val < 512 := (x 0).isLt
    have e0 : ((Rect.unit (s := S544x1024) ![16, 0] S512x1024.size inb_S544x1024_S512x1024_16_0).emb x 0).val = 16 + (x 0).val := by
      show 16 + 1 * (x 0).val = _; omega
    have e1 : (Rect.unit (s := S544x1024) ![16, 0] S512x1024.size inb_S544x1024_S512x1024_16_0).emb x 1 = (x 1) := Fin.ext (by
      show 0 + 1 * (x 1).val = _; omega)
    simp only [G, e0, e1]
    rw [dif_neg (by omega), dif_pos (by omega)]
    exact congrArg B (funext fun a => Fin.ext (by
      match a with
      | ⟨0, _⟩ => show (x 0).val = 16 + (x 0).val - 16; omega
      | ⟨1, _⟩ => rfl))
  have gC : ∀ x : S16x1024.Idx, C x = G ((Rect.unit (s := S544x1024) ![528, 0] S16x1024.size inb_S544x1024_S16x1024_528_0).emb x) := by
    intro x
    have hx : (x 0).val < 16 := (x 0).isLt
    have e0 : ((Rect.unit (s := S544x1024) ![528, 0] S16x1024.size inb_S544x1024_S16x1024_528_0).emb x 0).val = 528 + (x 0).val := by
      show 528 + 1 * (x 0).val = _; omega
    have e1 : (Rect.unit (s := S544x1024) ![528, 0] S16x1024.size inb_S544x1024_S16x1024_528_0).emb x 1 = (x 1) := Fin.ext (by
      show 0 + 1 * (x 1).val = _; omega)
    simp only [G, e0, e1]
    rw [dif_neg (by omega), dif_neg (by omega)]
    exact congrArg C (funext fun a => Fin.ext (by
      match a with
      | ⟨0, _⟩ => show (x 0).val = 528 + (x 0).val - 528; omega
      | ⟨1, _⟩ => rfl))
  have mem : ∀ (o k : Nat) (inb : ∀ a, (![o, 0] : Fin 2 → Nat) a + (![k, 1024] : Fin 2 → Nat) a ≤ S544x1024.size a), o ≤ n.val → n.val < o + k →
      (ix2 n d : S544x1024.Idx) ∈ (Rect.unit (s := S544x1024) ![o, 0] ![k, 1024] inb).set := by
    intro o k inb h1 h2
    rw [Rect.mem_set_unit]
    intro a
    match a with
    | ⟨0, _⟩ => exact ⟨h1, h2⟩
    | ⟨1, _⟩ => exact ⟨Nat.zero_le _, by show d.val < 0 + 1024; omega⟩
  refine View.canon_apply_of_pieces (Val := Elt Ideal) (e := .bf16) G _ ?_ (ix2 n d) ?_
  · intro p hp
    simp only [List.mem_cons, List.not_mem_nil, or_false] at hp
    rcases hp with rfl | rfl | rfl
    · exact gC
    · exact gB
    · exact gA
  · by_cases h : n.val < 16
    · exact ⟨_, .tail _ (.tail _ (.head _)), mem 0 16 inb_S544x1024_S16x1024_0_0 (by omega) (by omega)⟩
    · by_cases h' : n.val < 528
      · exact ⟨_, .tail _ (.head _), mem 16 512 inb_S544x1024_S512x1024_16_0 (by omega) (by omega)⟩
      · exact ⟨_, .head _, mem 528 16 inb_S544x1024_S16x1024_528_0 (by omega) (by omega)⟩

/-- Whether the tile has a tile before it, and one after it. -/
theorem after_first (i : Nat) (hi : i < 8) (x : EReal) :
    Scalar.select (Scalar.cmpi .sgt (BitVec.ofNat 32 i) 0#32) x (0 : EReal) = if 0 < i then x else 0 := by
  have : i = 0 ∨ i = 1 ∨ i = 2 ∨ i = 3 ∨ i = 4 ∨ i = 5 ∨ i = 6 ∨ i = 7 := by omega
  rcases this with h | h | h | h | h | h | h | h <;> subst h <;> simp <;> rfl

theorem before_last (i : Nat) (hi : i < 8) (x : EReal) :
    Scalar.select (Scalar.cmpi .slt (BitVec.ofNat 32 i) 7#32) x (0 : EReal) = if i < 7 then x else 0 := by
  have : i = 0 ∨ i = 1 ∨ i = 2 ∨ i = 3 ∨ i = 4 ∨ i = 5 ∨ i = 6 ∨ i = 7 := by omega
  rcases this with h | h | h | h | h | h | h | h <;> subst h <;> simp <;> rfl

/-- A sum of rows weighed by a row of a permutation matrix is the row it names. -/
theorem pick (p : Fin 512 → EReal) (s : Fin 512) (hp : ∀ k, p k = if k = s then 1 else 0) (f : Fin 512 → EReal) :
    ∑ k, p k * f k = f s := by
  rw [Finset.sum_eq_single s]
  · rw [hp, if_pos rfl, one_mul]
  · intro k _ hk
    rw [hp, if_neg hk, zero_mul]
  · intro h
    exact absurd (Finset.mem_univ s) h

section Block

variable (j : grid0.Coords) (i : Nat) (hi : i < 8) (hj : (j 1).val = i)
    (x0 : Vec Ideal S1x512x1024 .f32) (x1 x2 : Vec Ideal S1x16x1024 .f32) (x3 : Vec Ideal S1x1024 .f32)
    (x4 x5 : Vec Ideal S1x1x1024 .f32) (x6 : Vec Ideal S1024x2048 .bf16) (x7 : Vec Ideal S3x1536 .f32) (x8 : Vec Ideal S1x1536 .f32)
    (x9 : Vec Ideal S512x1024 .bf16) (x10 : Vec Ideal S512x512 .bf16)
    (X : Fin 4096 → Fin 1024 → EReal)
    (h0 : ∀ (r : Fin 512) (d : Fin 1024) (l : Fin 4096), l.val = 512 * i + r.val → x0 (ix3 0 r d) = X l d)
    (h1 : ∀ (r : Fin 16) (d : Fin 1024) (l : Fin 4096), l.val + 16 = 512 * i + r.val → x1 (ix3 0 r d) = X l d)
    (h2 : ∀ (r : Fin 16) (d : Fin 1024) (l : Fin 4096), l.val = 512 * i + 512 + r.val → x2 (ix3 0 r d) = X l d)
    (hp : ∀ (r k : Fin 512), x10 (ix2 r k) = if k.val = 32 * (r.val % 16) + r.val / 16 then (1 : EReal) else 0)

/-- The normed rows of the call these blocks are read from. -/
abbrev rowsOf (l : Fin 4096) : Fin 1024 → EReal :=
  normed (X l) (fun x => x3 (ix2 0 x)) (fun x => x4 (ix3 0 0 x)) (fun x => x5 (ix3 0 0 x))

include hi hj h0 h1 h2 in
theorem hn_at (n : Fin 544) (d : Fin 1024) :
    @Eq EReal (hn j x0 x1 x2 x3 x4 x5 (ix2 n d)) (around (rowsOf x3 x4 x5 X) (512 * i + n.val - 15) d) := by
  unfold hn
  rw [rows3_at]
  split
  · rename_i hn
    rw [normPrev_at, hj, after_first i hi]
    split
    · rename_i h
      rw [around_of _ _ (⟨512 * i + n.val - 16, by omega⟩ : Fin 4096) (by dsimp only; omega)]
      refine congrArg (fun r => normed r _ _ _ d) (funext fun x => ?_)
      rw [h1 _ _ (⟨512 * i + n.val - 16, by omega⟩ : Fin 4096) (by dsimp only; omega)]
    · rw [around_zero]; omega
  · split
    · rename_i hn hn'
      rw [normCur_at]
      rw [around_of _ _ (⟨512 * i + n.val - 16, by omega⟩ : Fin 4096) (by dsimp only; omega)]
      refine congrArg (fun r => normed r _ _ _ d) (funext fun x => ?_)
      rw [h0 _ _ (⟨512 * i + n.val - 16, by omega⟩ : Fin 4096) (by dsimp only; omega)]
    · rename_i hn hn'
      rw [normNext_at, hj, before_last i hi]
      split
      · rename_i h
        rw [around_of _ _ (⟨512 * i + n.val - 16, by omega⟩ : Fin 4096) (by dsimp only; omega)]
        refine congrArg (fun r => normed r _ _ _ d) (funext fun x => ?_)
        rw [h2 _ _ (⟨512 * i + n.val - 16, by omega⟩ : Fin 4096) (by dsimp only; omega)]
      · rw [around_zero]; omega

include hi hj h0 h1 h2 in
/-- A convolved channel of the block, with its bias. -/
theorem convolved_at (r : Fin 512) (f : Fin 1536) (l : Fin 4096) (hl : l.val = 512 * i + r.val) :
    @Eq EReal ((taps (hn j x0 x1 x2 x3 x4 x5) x6 x7 (ix2 (⟨16 + r.val, by omega⟩ : Fin 544) f) : EReal) + x8 (ix2 0 f))
      (convolved (rowsOf x3 x4 x5 X) (fun x f => x6 (ix2 x f)) (fun t f => x7 (ix2 t f)) (fun f => x8 (ix2 0 f)) l.val f) := by
  rw [taps_at]
  simp only [hn_at j i hi hj x0 x1 x2 x3 x4 x5 X h0 h1 h2]
  have e1 : 512 * i + (15 + r.val) - 15 = l.val := by omega
  have e2 : 512 * i + (16 + r.val) - 15 = l.val + 1 := by omega
  have e3 : 512 * i + (17 + r.val) - 15 = l.val + 2 := by omega
  rw [e1, e2, e3]
  rfl

include hi hj h0 h1 h2 in
/-- The third output block at an index. -/
theorem third_at (r f : Fin 512) (l : Fin 4096) (hl : l.val = 512 * i + r.val) :
    @Eq EReal (k0_pay2 (taps (hn j x0 x1 x2 x3 x4 x5) x6 x7) x8 (ix3 0 r f))
      (convolved (rowsOf x3 x4 x5 X) (fun x f => x6 (ix2 x f)) (fun t f => x7 (ix2 t f)) (fun f => x8 (ix2 0 f)) l.val
        (⟨f.val, by omega⟩ : Fin 1536)) := by
  rw [first_at]
  exact convolved_at j i hi hj x0 x1 x2 x3 x4 x5 x6 x7 x8 X h0 h1 h2 r _ l hl

include hi hj h0 h1 h2 in
/-- The second output block at an index. -/
theorem second_at (r f : Fin 512) (l : Fin 4096) (hl : l.val = 512 * i + r.val) :
    @Eq EReal (k0_pay3 (taps (hn j x0 x1 x2 x3 x4 x5) x6 x7) x8 (ix3 0 r f))
      (convolved (rowsOf x3 x4 x5 X) (fun x f => x6 (ix2 x f)) (fun t f => x7 (ix2 t f)) (fun f => x8 (ix2 0 f)) l.val
          (⟨1024 + f.val, by omega⟩ : Fin 1536)
        * convolved (rowsOf x3 x4 x5 X) (fun x f => x6 (ix2 x f)) (fun t f => x7 (ix2 t f)) (fun f => x8 (ix2 0 f)) l.val
          (⟨512 + f.val, by omega⟩ : Fin 1536)) := by
  rw [product_at, convolved_at j i hi hj x0 x1 x2 x3 x4 x5 x6 x7 x8 X h0 h1 h2 r _ l hl,
    convolved_at j i hi hj x0 x1 x2 x3 x4 x5 x6 x7 x8 X h0 h1 h2 r _ l hl]

include hi hj h0 h1 h2 hp in
/-- The first output block at an index: the rows of residue `a`. -/
theorem first_block_at (a : Fin 32) (q : Fin 16) (e : Fin 1024) (l : Fin 4096) (hl : l.val = 512 * i + 32 * q.val + a.val) :
    @Eq EReal (k0_pay16 (hn j x0 x1 x2 x3 x4 x5) x6 x10 x9 (ix4 0 a q e))
      (fourier (rowsOf x3 x4 x5 X) (fun x f => x6 (ix2 x f)) (fun f e => x9 (ix2 f e)) l e) := by
  rw [residue_at]
  unfold fourier
  refine Finset.sum_congr rfl fun f _ => ?_
  rw [pick _ (⟨32 * q.val + a.val, by omega⟩ : Fin 512) (fun k => ?_)]
  · simp only [hn_at j i hi hj x0 x1 x2 x3 x4 x5 X h0 h1 h2]
    have e2 : 512 * i + (16 + (32 * q.val + a.val)) - 15 = l.val + 1 := by omega
    rw [e2, around_of _ (l.val + 1) l rfl]
  · rw [hp]
    refine if_congr ?_ rfl rfl
    rw [Fin.ext_iff]
    dsimp only
    have e1 : (a.val * 16 + q.val) % 16 = q.val := by omega
    have e2 : (a.val * 16 + q.val) / 16 = a.val := by omega
    rw [e1, e2]

end Block

end Cert.FhInIdeal.Rows

end
-- ==== Proof.FhIn.Perm.lean ====
module

public import proofs.«01_k».proof.Proof.Gen.FhInIdeal.Value
public import Idealize.ShloMosaic.Lib.StableHlo.ReadAt
public import Idealize.ShloMosaic.Lib.Pointwise

/-! The permutation matrix the call builds: row `r` takes row `32 (r mod 16) + r / 16`. -/

@[expose] public section

set_option maxRecDepth 16384

noncomputable section

open Idealize.ShloMosaic Idealize.ShloMosaic.TcCoe

namespace Cert.FhInIdeal.Rows

open Cert.FhInIdeal Cert.FhInIdeal.Gen Cert.FhInIdeal.Value

theorem source_word : ∀ r : Fin 512,
    IntOp.addi (IntOp.muli (32#32) (IntOp.remsi ArithUnit.host (BitVec.ofNat 32 r.val) 16#32))
      (IntOp.divsi ArithUnit.host (BitVec.ofNat 32 r.val) 16#32) = BitVec.ofNat 32 (32 * (r.val % 16) + r.val / 16) := by
  decide +kernel

theorem select_eq (a b : Nat) (ha : a < 512) (hb : b < 512) :
    @Eq EReal (Scalar.select (IntOp.cmpi CmpIPredicate.eq (BitVec.ofNat 32 a) (BitVec.ofNat 32 b)) (1 : EReal) 0)
      (if b = a then 1 else 0) := by
  by_cases h : b = a
  · subst h
    rw [if_pos rfl]
    simp [IntOp.cmpi, Scalar.select]
  · rw [if_neg h]
    have : ¬ BitVec.ofNat 32 a = BitVec.ofNat 32 b := by
      intro e
      have := congrArg BitVec.toNat e
      simp only [BitVec.toNat_ofNat] at this
      omega
    have e : (BitVec.ofNat 32 a == BitVec.ofNat 32 b) = false := beq_eq_false_iff_ne.mpr this
    simp [IntOp.cmpi, Scalar.select, e]

variable (m : (ℓ : Loc nD τ sig) → Buf (Elt Ideal) ℓ) (c : Dev nD)

theorem perm_at (r k : Fin 512) :
    @Eq EReal (V m c main_v14 (ix2 r k)) (if k.val = 32 * (r.val % 16) + r.val / 16 then (1 : EReal) else 0) := by
  rw [← select_eq _ _ (by omega) k.isLt, ← source_word]
  unfold V
  after_reads_at

end Cert.FhInIdeal.Rows

end
-- ==== Proof.FhIn.Array.lean ====
module

public import proofs.«01_k».proof.Proof.FhIn.Tile
public import proofs.«01_k».proof.Proof.FhIn.Perm
public import Idealize.ShloMosaic.Lib.StableHlo.ReadAt

/-! The three arrays the kernel leaves, from their blocks, and those from the call's arguments. -/

@[expose] public section

set_option maxRecDepth 16384

noncomputable section

open Idealize.ShloMosaic Idealize.ShloMosaic.TcCoe Idealize.SL.Sem
open Idealize.ShloMosaic.Pipeline (Dat)

namespace Cert.FhInIdeal.Rows

open Cert.FhInIdeal Cert.FhInIdeal.Gen Cert.FhInIdeal.Value Cert.Block

/-- Where each window's block lies at a step: eight steps a sequence, 512 rows a step. -/
theorem coords1 : ∀ t : Fin cfg0.N, (grid0.coords t 1).val = t.val % 8 := by decide +kernel
theorem index0 : ∀ t : Fin cfg0.N, win0_0.index t = ![t.val / 8, t.val % 8, 0] := by decide +kernel
theorem index1 : ∀ t : Fin cfg0.N, win0_1.index t = ![t.val / 8, 32 * (t.val % 8) - 1, 0] := by decide +kernel
theorem index2 : ∀ t : Fin cfg0.N, win0_2.index t = ![t.val / 8, min (32 * (t.val % 8) + 32) 255, 0] := by decide +kernel
theorem index3 : ∀ t : Fin cfg0.N, win0_3.index t = ![0, 0] := by decide +kernel
theorem index4 : ∀ t : Fin cfg0.N, win0_4.index t = ![t.val / 8, 0, 0] := by decide +kernel
theorem index5 : ∀ t : Fin cfg0.N, win0_5.index t = ![t.val / 8, 0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![t.val / 8, 0, t.val % 8, 0] := by decide +kernel
theorem index12 : ∀ t : Fin cfg0.N, win0_12.index t = ![t.val / 8, t.val % 8, 0] := by decide +kernel
theorem index13 : ∀ t : Fin cfg0.N, win0_13.index t = ![t.val / 8, t.val % 8, 0] := by decide +kernel
theorem flush11' : ∀ t : Fin cfg0.N, (cfg0.win 11).flush t = true := by decide +kernel
theorem flush12' : ∀ t : Fin cfg0.N, (cfg0.win 12).flush t = true := by decide +kernel
theorem flush13' : ∀ t : Fin cfg0.N, (cfg0.win 13).flush t = true := by decide +kernel

variable (m : (ℓ : Loc nD τ sig) → Buf (Elt Ideal) ℓ) (c : Dev nD)

/-- The arguments. -/
abbrev argX : S8x4096x1024.Idx → EReal := m (c, Proc.tc.devRef main_arg0)
abbrev argNorm : S1024.Idx → EReal := m (c, Proc.tc.devRef main_arg1)
abbrev argShift : S8x1x1024.Idx → EReal := m (c, Proc.tc.devRef main_arg2)
abbrev argScale : S8x1x1024.Idx → EReal := m (c, Proc.tc.devRef main_arg3)
abbrev argIn : S1024x2048.Idx → EReal := m (c, Proc.tc.devRef main_arg4)
abbrev argConv : S3x1536.Idx → EReal := m (c, Proc.tc.devRef main_arg5)
abbrev argBias : S1536.Idx → EReal := m (c, Proc.tc.devRef main_arg6)
abbrev argG : S512x1024.Idx → EReal := m (c, Proc.tc.devRef main_arg7)

theorem in_at (k : Fin 1024) (f : Fin 2048) : @Eq EReal (V m c main_v0 (ix2 k f)) (argIn m c (ix2 k f)) := by
  unfold V
  after_reads_at

theorem norm_at (d : Fin 1024) : @Eq EReal (V m c main_v1 (ix2 0 d)) (argNorm m c (ix1 d)) := by
  unfold V
  after_reads_at

theorem bias_at (f : Fin 1536) : @Eq EReal (V m c main_v2 (ix2 0 f)) (argBias m c (ix1 f)) := by
  unfold V
  after_reads_at

theorem read0 (X : Buf (Elt Ideal) ((c : Thread nD τ).loc main_arg0)) (t : Fin cfg0.N) (y : S1x512x1024.Idx) (i : S8x4096x1024.Idx)
    (h0 : (i 0).val = win0_0.index t 0 * 1 + 1 * (y 0).val) (h1 : (i 1).val = win0_0.index t 1 * 512 + 1 * (y 1).val) (h2 : (i 2).val = win0_0.index t 2 * 1024 + 1 * (y 2).val) :
    ((cfg0.win 0).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read1 (X : Buf (Elt Ideal) ((c : Thread nD τ).loc main_arg0)) (t : Fin cfg0.N) (y : S1x16x1024.Idx) (i : S8x4096x1024.Idx)
    (h0 : (i 0).val = win0_1.index t 0 * 1 + 1 * (y 0).val) (h1 : (i 1).val = win0_1.index t 1 * 16 + 1 * (y 1).val) (h2 : (i 2).val = win0_1.index t 2 * 1024 + 1 * (y 2).val) :
    ((cfg0.win 1).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read2 (X : Buf (Elt Ideal) ((c : Thread nD τ).loc main_arg0)) (t : Fin cfg0.N) (y : S1x16x1024.Idx) (i : S8x4096x1024.Idx)
    (h0 : (i 0).val = win0_2.index t 0 * 1 + 1 * (y 0).val) (h1 : (i 1).val = win0_2.index t 1 * 16 + 1 * (y 1).val) (h2 : (i 2).val = win0_2.index t 2 * 1024 + 1 * (y 2).val) :
    ((cfg0.win 2).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read3 (X : Buf (Elt Ideal) ((c : Thread nD τ).loc main_v1)) (t : Fin cfg0.N) (y : S1x1024.Idx) (i : S1x1024.Idx)
    (h0 : (i 0).val = win0_3.index t 0 * 1 + 1 * (y 0).val) (h1 : (i 1).val = win0_3.index t 1 * 1024 + 1 * (y 1).val) :
    ((cfg0.win 3).blk t).view.read (Elt Ideal) X y = X i := by
  rw [View.read_apply]
  refine congrArg X (funext fun a => Fin.ext ?_)
  match a with
  | ⟨0, _⟩ => exact h0.symm
  | ⟨1, _⟩ => exact h1.symm

theorem read4 (X : Buf (Elt Ideal) ((c : Thread nD τ).loc main_arg2)) (t : Fin cfg0.N) (y : S1x1x1024.Idx) (i : S8x1x1024.Idx)
    (h0 : (i 0).val = win0_4.index t 0 * 1 + 1 * (y 0).val) (h1 : (i 1).val = win0_4.index t 1 * 1 + 1 * (y 1).val) (h2 : (i 2).val = win0_4.index t 2 * 1024 + 1 * (y 2).val) :
    ((cfg0.win 4).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read5 (X : Buf (Elt Ideal) ((c : Thread nD τ).loc main_arg3)) (t : Fin cfg0.N) (y : S1x1x1024.Idx) (i : S8x1x1024.Idx)
    (h0 : (i 0).val = win0_5.index t 0 * 1 + 1 * (y 0).val) (h1 : (i 1).val = win0_5.index t 1 * 1 + 1 * (y 1).val) (h2 : (i 2).val = win0_5.index t 2 * 1024 + 1 * (y 2).val) :
    ((cfg0.win 5).blk t).view.read (Elt Ideal) X y = X i := by
  rw [View.read_apply]
  refine congrArg X (funext fun a => Fin.ext ?_)
  match a with
  | ⟨0, _⟩ => exact h0.symm
  | ⟨1, _⟩ => exact h1.symm
  | ⟨2, _⟩ => exact h2.symm

theorem read6 (X : Buf (Elt Ideal) ((c : Thread nD τ).loc main_v0)) (t : Fin cfg0.N) (y : S1024x2048.Idx) (i : S1024x2048.Idx)
    (h0 : (i 0).val = win0_6.index t 0 * 1024 + 1 * (y 0).val) (h1 : (i 1).val = win0_6.index t 1 * 2048 + 1 * (y 1).val) :
    ((cfg0.win 6).blk t).view.read (Elt Ideal) X y = X i := by
  rw [View.read_apply]
  refine congrArg X (funext fun a => Fin.ext ?_)
  match a with
  | ⟨0, _⟩ => exact h0.symm
  | ⟨1, _⟩ => exact h1.symm

theorem read7 (X : Buf (Elt Ideal) ((c : Thread nD τ).loc main_arg5)) (t : Fin cfg0.N) (y : S3x1536.Idx) (i : S3x1536.Idx)
    (h0 : (i 0).val = win0_7.index t 0 * 3 + 1 * (y 0).val) (h1 : (i 1).val = win0_7.index t 1 * 1536 + 1 * (y 1).val) :
    ((cfg0.win 7).blk t).view.read (Elt Ideal) X y = X i := by
  rw [View.read_apply]
  refine congrArg X (funext fun a => Fin.ext ?_)
  match a with
  | ⟨0, _⟩ => exact h0.symm
  | ⟨1, _⟩ => exact h1.symm

theorem read8 (X : Buf (Elt Ideal) ((c : Thread nD τ).loc main_v2)) (t : Fin cfg0.N) (y : S1x1536.Idx) (i : S1x1536.Idx)
    (h0 : (i 0).val = win0_8.index t 0 * 1 + 1 * (y 0).val) (h1 : (i 1).val = win0_8.index t 1 * 1536 + 1 * (y 1).val) :
    ((cfg0.win 8).blk t).view.read (Elt Ideal) X y = X i := by
  rw [View.read_apply]
  refine congrArg X (funext fun a => Fin.ext ?_)
  match a with
  | ⟨0, _⟩ => exact h0.symm
  | ⟨1, _⟩ => exact h1.symm

theorem read9 (X : Buf (Elt Ideal) ((c : Thread nD τ).loc main_arg7)) (t : Fin cfg0.N) (y : S512x1024.Idx) (i : S512x1024.Idx)
    (h0 : (i 0).val = win0_9.index t 0 * 512 + 1 * (y 0).val) (h1 : (i 1).val = win0_9.index t 1 * 1024 + 1 * (y 1).val) :
    ((cfg0.win 9).blk t).view.read (Elt Ideal) X y = X i := by
  rw [View.read_apply]
  refine congrArg X (funext fun a => Fin.ext ?_)
  match a with
  | ⟨0, _⟩ => exact h0.symm
  | ⟨1, _⟩ => exact h1.symm

theorem read10 (X : Buf (Elt Ideal) ((c : Thread nD τ).loc main_v14)) (t : Fin cfg0.N) (y : S512x512.Idx) (i : S512x512.Idx)
    (h0 : (i 0).val = win0_10.index t 0 * 512 + 1 * (y 0).val) (h1 : (i 1).val = win0_10.index t 1 * 512 + 1 * (y 1).val) :
    ((cfg0.win 10).blk t).view.read (Elt Ideal) X y = X i := by
  rw [View.read_apply]
  refine congrArg X (funext fun a => Fin.ext ?_)
  match a with
  | ⟨0, _⟩ => exact h0.symm
  | ⟨1, _⟩ => exact h1.symm

theorem blk0 (t : Fin cfg0.N) (b : Fin 8) (hb : b.val = t.val / 8) (r : Fin 512) (d : Fin 1024) (l : Fin 4096) (hl : l.val = 512 * (t.val % 8) + r.val) :
    @Eq EReal (iblk m c 0 t (ix3 0 r d)) (argX m c (ix3 b l d)) := by
  refine (read0 c (V m c main_arg0) t (ix3 0 r d) (ix3 b l d) ?_ ?_ ?_).trans (congrFun (V_main_arg0 m c) _)
  · rw [index0]; show b.val = t.val / 8 * 1 + 1 * 0; omega
  · rw [index0]; show l.val = t.val % 8 * 512 + 1 * r.val; omega
  · rw [index0]; show d.val = 0 * 1024 + 1 * d.val; omega

theorem blk1 (t : Fin cfg0.N) (b : Fin 8) (hb : b.val = t.val / 8) (r : Fin 16) (d : Fin 1024) (l : Fin 4096) (hl : l.val + 16 = 512 * (t.val % 8) + r.val) :
    @Eq EReal (iblk m c 1 t (ix3 0 r d)) (argX m c (ix3 b l d)) := by
  refine (read1 c (V m c main_arg0) t (ix3 0 r d) (ix3 b l d) ?_ ?_ ?_).trans (congrFun (V_main_arg0 m c) _)
  · rw [index1]; show b.val = t.val / 8 * 1 + 1 * 0; omega
  · rw [index1]; show l.val = (32 * (t.val % 8) - 1) * 16 + 1 * r.val; omega
  · rw [index1]; show d.val = 0 * 1024 + 1 * d.val; omega

theorem blk2 (t : Fin cfg0.N) (b : Fin 8) (hb : b.val = t.val / 8) (r : Fin 16) (d : Fin 1024) (l : Fin 4096) (hl : l.val = 512 * (t.val % 8) + 512 + r.val) :
    @Eq EReal (iblk m c 2 t (ix3 0 r d)) (argX m c (ix3 b l d)) := by
  refine (read2 c (V m c main_arg0) t (ix3 0 r d) (ix3 b l d) ?_ ?_ ?_).trans (congrFun (V_main_arg0 m c) _)
  · rw [index2]; show b.val = t.val / 8 * 1 + 1 * 0; omega
  · rw [index2]; show l.val = (min (32 * (t.val % 8) + 32) 255) * 16 + 1 * r.val; omega
  · rw [index2]; show d.val = 0 * 1024 + 1 * d.val; omega

theorem blk4 (t : Fin cfg0.N) (b : Fin 8) (hb : b.val = t.val / 8) (d : Fin 1024) :
    @Eq EReal (iblk m c 4 t (ix3 0 0 d)) (argShift m c (ix3 b 0 d)) := by
  refine (read4 c (V m c main_arg2) t (ix3 0 0 d) (ix3 b 0 d) ?_ ?_ ?_).trans (congrFun (V_main_arg2 m c) _)
  · rw [index4]; show b.val = t.val / 8 * 1 + 1 * 0; omega
  · rw [index4]; rfl
  · rw [index4]; show d.val = 0 * 1024 + 1 * d.val; omega

theorem blk5 (t : Fin cfg0.N) (b : Fin 8) (hb : b.val = t.val / 8) (d : Fin 1024) :
    @Eq EReal (iblk m c 5 t (ix3 0 0 d)) (argScale m c (ix3 b 0 d)) := by
  refine (read5 c (V m c main_arg3) t (ix3 0 0 d) (ix3 b 0 d) ?_ ?_ ?_).trans (congrFun (V_main_arg3 m c) _)
  · rw [index5]; show b.val = t.val / 8 * 1 + 1 * 0; omega
  · rw [index5]; rfl
  · rw [index5]; show d.val = 0 * 1024 + 1 * d.val; omega

theorem blk3 (t : Fin cfg0.N) (d : Fin 1024) : @Eq EReal (iblk m c 3 t (ix2 0 d)) (argNorm m c (ix1 d)) := by
  refine (read3 c (V m c main_v1) t (ix2 0 d) (ix2 0 d) ?_ ?_).trans (norm_at m c d)
  · rw [index3]; rfl
  · rw [index3]; show d.val = 0 * 1024 + 1 * d.val; omega

theorem blk8 (t : Fin cfg0.N) (d : Fin 1536) : @Eq EReal (iblk m c 8 t (ix2 0 d)) (argBias m c (ix1 d)) := by
  refine (read8 c (V m c main_v2) t (ix2 0 d) (ix2 0 d) ?_ ?_).trans (bias_at m c d)
  · rw [index8]; rfl
  · rw [index8]; show d.val = 0 * 1536 + 1 * d.val; omega

theorem blk6 (t : Fin cfg0.N) (k : Fin 1024) (d : Fin 2048) : @Eq EReal (iblk m c 6 t (ix2 k d)) (argIn m c (ix2 k d)) := by
  refine (read6 c (V m c main_v0) t (ix2 k d) (ix2 k d) ?_ ?_).trans (in_at m c k d)
  · rw [index6]; show k.val = 0 * 1024 + 1 * k.val; omega
  · rw [index6]; show d.val = 0 * 2048 + 1 * d.val; omega

theorem blk7 (t : Fin cfg0.N) (k : Fin 3) (d : Fin 1536) : @Eq EReal (iblk m c 7 t (ix2 k d)) (argConv m c (ix2 k d)) := by
  refine (read7 c (V m c main_arg5) t (ix2 k d) (ix2 k d) ?_ ?_).trans (congrFun (V_main_arg5 m c) _)
  · rw [index7]; show k.val = 0 * 3 + 1 * k.val; omega
  · rw [index7]; show d.val = 0 * 1536 + 1 * d.val; omega

theorem blk9 (t : Fin cfg0.N) (k : Fin 512) (d : Fin 1024) : @Eq EReal (iblk m c 9 t (ix2 k d)) (argG m c (ix2 k d)) := by
  refine (read9 c (V m c main_arg7) t (ix2 k d) (ix2 k d) ?_ ?_).trans (congrFun (V_main_arg7 m c) _)
  · rw [index9]; show k.val = 0 * 512 + 1 * k.val; omega
  · rw [index9]; show d.val = 0 * 1024 + 1 * d.val; omega

theorem blk10 (t : Fin cfg0.N) (k : Fin 512) (d : Fin 512) : @Eq EReal (iblk m c 10 t (ix2 k d)) (if d.val = 32 * (k.val % 16) + k.val / 16 then (1 : EReal) else 0) := by
  refine (read10 c (V m c main_v14) t (ix2 k d) (ix2 k d) ?_ ?_).trans (perm_at m c k d)
  · rw [index10]; show k.val = 0 * 512 + 1 * k.val; omega
  · rw [index10]; show d.val = 0 * 512 + 1 * d.val; omega

/-- The normed rows of a sequence. -/
abbrev rows (b : Fin 8) (l : Fin 4096) : Fin 1024 → EReal :=
  normed (fun d => argX m c (ix3 b l d)) (fun d => argNorm m c (ix1 d)) (fun d => argShift m c (ix3 b 0 d)) (fun d => argScale m c (ix3 b 0 d))

/-- A convolved channel of a sequence's row. -/
abbrev channelAt (b : Fin 8) (l : Nat) (f : Fin 1536) : EReal :=
  convolved (rows m c b) (fun k f => argIn m c (ix2 k f)) (fun t f => argConv m c (ix2 t f)) (fun f => argBias m c (ix1 f)) l f

def firstAt (b : Fin 8) (a : Fin 32) (q : Fin 128) (e : Fin 1024) : EReal :=
  fourier (rows m c b) (fun k f => argIn m c (ix2 k f)) (fun f e => argG m c (ix2 f e)) (⟨q.val * 32 + a.val, by omega⟩ : Fin 4096) e

def secondAt (b : Fin 8) (l : Fin 4096) (f : Fin 512) : EReal :=
  channelAt m c b l.val (⟨1024 + f.val, by omega⟩ : Fin 1536) * channelAt m c b l.val (⟨512 + f.val, by omega⟩ : Fin 1536)

def thirdAt (b : Fin 8) (l : Fin 4096) (f : Fin 512) : EReal := channelAt m c b l.val (⟨f.val, by omega⟩ : Fin 1536)

/-- The output arrays. -/
def first : Buf (Elt Ideal) ((c : Thread nD τ).loc main_v15_0) := fun i => firstAt m c (i 0) (i 1) (i 2) (i 3)
def second : Buf (Elt Ideal) ((c : Thread nD τ).loc main_v15_1) := fun i => secondAt m c (i 0) (i 1) (i 2)
def third : Buf (Elt Ideal) ((c : Thread nD τ).loc main_v15_2) := fun i => thirdAt m c (i 0) (i 1) (i 2)

theorem rows_congr (t : Fin cfg0.N) (b : Fin 8) (hb : b.val = t.val / 8) (l : Fin 4096) (x : Fin 1024) :
    rowsOf (iblk m c 3 t) (iblk m c 4 t) (iblk m c 5 t) (fun l d => argX m c (ix3 b l d)) l x = rows m c b l x := by
  have e3 : (fun x => (iblk m c 3 t (ix2 0 x) : EReal)) = fun d => argNorm m c (ix1 d) := funext (blk3 m c t)
  have e4 : (fun x => (iblk m c 4 t (ix3 0 0 x) : EReal)) = fun d => argShift m c (ix3 b 0 d) := funext (blk4 m c t b hb)
  have e5 : (fun x => (iblk m c 5 t (ix3 0 0 x) : EReal)) = fun d => argScale m c (ix3 b 0 d) := funext (blk5 m c t b hb)
  exact congrFun (congr (congr (congrArg (normed _) e3) e4) e5) x

theorem channel_congr (t : Fin cfg0.N) (b : Fin 8) (hb : b.val = t.val / 8) (l : Nat) (f : Fin 1536) :
    convolved (rowsOf (iblk m c 3 t) (iblk m c 4 t) (iblk m c 5 t) (fun l d => argX m c (ix3 b l d))) (fun x f => iblk m c 6 t (ix2 x f))
      (fun k f => iblk m c 7 t (ix2 k f)) (fun f => iblk m c 8 t (ix2 0 f)) l f = channelAt m c b l f :=
  convolved_congr (rows_congr m c t b hb) (blk6 m c t) (blk7 m c t) (blk8 m c t) l f

theorem first_value (t : Fin cfg0.N) (b : Fin 8) (hb : b.val = t.val / 8) (a : Fin 32) (p : Fin 16) (e : Fin 1024) (q : Fin 128)
    (hq : q.val = 16 * (t.val % 8) + p.val) :
    @Eq EReal (k0_pay16 (hn (grid0.coords t) (iblk m c 0 t) (iblk m c 1 t) (iblk m c 2 t) (iblk m c 3 t) (iblk m c 4 t) (iblk m c 5 t)) (iblk m c 6 t) (iblk m c 10 t) (iblk m c 9 t) (ix4 0 a p e)) (firstAt m c b a q e) := by
  refine (first_block_at (grid0.coords t) (t.val % 8) (by omega) (coords1 t) (iblk m c 0 t) (iblk m c 1 t) (iblk m c 2 t) (iblk m c 3 t) (iblk m c 4 t) (iblk m c 5 t) (iblk m c 6 t) (iblk m c 9 t) (iblk m c 10 t)
    (fun l d => argX m c (ix3 b l d)) (blk0 m c t b hb) (blk1 m c t b hb) (blk2 m c t b hb) (blk10 m c t) a p e
    (⟨q.val * 32 + a.val, by omega⟩ : Fin 4096) (by dsimp only; omega)).trans ?_
  exact fourier_congr (rows_congr m c t b hb) (blk6 m c t) (blk9 m c t) _ e

theorem second_value (t : Fin cfg0.N) (b : Fin 8) (hb : b.val = t.val / 8) (r f : Fin 512) (l : Fin 4096)
    (hl : l.val = 512 * (t.val % 8) + r.val) :
    @Eq EReal (k0_pay3 (taps (hn (grid0.coords t) (iblk m c 0 t) (iblk m c 1 t) (iblk m c 2 t) (iblk m c 3 t) (iblk m c 4 t) (iblk m c 5 t)) (iblk m c 6 t) (iblk m c 7 t)) (iblk m c 8 t) (ix3 0 r f)) (secondAt m c b l f) := by
  refine (second_at (grid0.coords t) (t.val % 8) (by omega) (coords1 t) (iblk m c 0 t) (iblk m c 1 t) (iblk m c 2 t) (iblk m c 3 t) (iblk m c 4 t) (iblk m c 5 t) (iblk m c 6 t) (iblk m c 7 t) (iblk m c 8 t)
    (fun l d => argX m c (ix3 b l d)) (blk0 m c t b hb) (blk1 m c t b hb) (blk2 m c t b hb) r f l hl).trans ?_
  rw [channel_congr m c t b hb, channel_congr m c t b hb]
  rfl

theorem third_value (t : Fin cfg0.N) (b : Fin 8) (hb : b.val = t.val / 8) (r f : Fin 512) (l : Fin 4096)
    (hl : l.val = 512 * (t.val % 8) + r.val) :
    @Eq EReal (k0_pay2 (taps (hn (grid0.coords t) (iblk m c 0 t) (iblk m c 1 t) (iblk m c 2 t) (iblk m c 3 t) (iblk m c 4 t) (iblk m c 5 t)) (iblk m c 6 t) (iblk m c 7 t)) (iblk m c 8 t) (ix3 0 r f)) (thirdAt m c b l f) := by
  refine (third_at (grid0.coords t) (t.val % 8) (by omega) (coords1 t) (iblk m c 0 t) (iblk m c 1 t) (iblk m c 2 t) (iblk m c 3 t) (iblk m c 4 t) (iblk m c 5 t) (iblk m c 6 t) (iblk m c 7 t) (iblk m c 8 t)
    (fun l d => argX m c (ix3 b l d)) (blk0 m c t b hb) (blk1 m c t b hb) (blk2 m c t b hb) r f l hl).trans ?_
  exact channel_congr m c t b hb _ _

theorem flushed12_eq (t : Fin cfg0.N) : (dats m 0 c).flushed 12 t = ((cfg0.win 12).blk t).view.read (Elt Ideal) (second m c) := by
  have hN : t.val < 64 := lt_of_lt_of_eq t.isLt N_0
  rw [flushed12_A, out0_A_12_eq]
  funext y
  rw [View.read_apply]
  have hy0 : (y 0).val < 1 := (y 0).isLt
  have hy1 : (y 1).val < 512 := (y 1).isLt
  have hy2 : (y 2).val < 512 := (y 2).isLt
  have e0 : (((cfg0.win 12).blk t).view.emb y 0 : Fin 8) = (⟨t.val / 8, by omega⟩ : Fin 8) := Fin.ext (by
    show win0_12.index t 0 * 1 + 1 * (y 0).val = t.val / 8
    rw [index12]; show t.val / 8 * 1 + 1 * (y 0).val = t.val / 8; omega)
  have e1 : (((cfg0.win 12).blk t).view.emb y 1 : Fin 4096) = (⟨512 * (t.val % 8) + (y 1).val, by omega⟩ : Fin 4096) := Fin.ext (by
    show win0_12.index t 1 * 512 + 1 * (y 1).val = 512 * (t.val % 8) + (y 1).val
    rw [index12]; show t.val % 8 * 512 + 1 * (y 1).val = _; omega)
  have e2 : (((cfg0.win 12).blk t).view.emb y 2 : Fin 512) = (y 2 : Fin 512) := Fin.ext (by
    show win0_12.index t 2 * 512 + 1 * (y 2).val = (y 2).val
    rw [index12]; show 0 * 512 + 1 * (y 2).val = _; omega)
  refine Eq.trans ?_ ((second_value m c t (⟨t.val / 8, by omega⟩ : Fin 8) rfl (y 1) (y 2) (⟨512 * (t.val % 8) + (y 1).val, by omega⟩ : Fin 4096) rfl).trans ?_)
  · refine congrArg _ (funext fun a => Fin.ext ?_)
    match a with
    | ⟨0, _⟩ => show (y 0).val = 0; omega
    | ⟨1, _⟩ => rfl
    | ⟨2, _⟩ => rfl
  · show secondAt m c _ _ _ = secondAt m c (((cfg0.win 12).blk t).view.emb y 0) (((cfg0.win 12).blk t).view.emb y 1) (((cfg0.win 12).blk t).view.emb y 2)
    rw [e0, e1, e2]

theorem final12 : (dats m 0 c).arrAt 12 cfg0.N = second m c :=
  (dats m 0 c).arrAt_eq_of_cover 12 (second m c) (fun t _ => flushed12_eq m c t) fun i => by
    have h0 : (i 0 : Nat) < 8 := (i 0).isLt
    have h1 : (i 1 : Nat) < 4096 := (i 1).isLt
    have h2 : (i 2 : Nat) < 512 := (i 2).isLt
    have hn : (i 0 : Nat) * 8 + (i 1 : Nat) / 512 < cfg0.N := by rw [show cfg0.N = 64 from N_0]; omega
    refine ⟨⟨(i 0 : Nat) * 8 + (i 1 : Nat) / 512, hn⟩, flush12' _, ?_⟩
    show i ∈ ((View.whole main_v15_1).slice (win0_12.rect ⟨(i 0 : Nat) * 8 + (i 1 : Nat) / 512, hn⟩)).set
    rw [View.set_slice_whole, Rect.mem_set_unit]
    intro a
    match a with
    | ⟨0, _⟩ =>
      show win0_12.index _ 0 * 1 ≤ (i 0 : Nat) ∧ (i 0 : Nat) < win0_12.index _ 0 * 1 + 1
      rw [index12]; simp; omega
    | ⟨1, _⟩ =>
      show win0_12.index _ 1 * 512 ≤ (i 1 : Nat) ∧ (i 1 : Nat) < win0_12.index _ 1 * 512 + 512
      rw [index12]; simp; omega
    | ⟨2, _⟩ =>
      show win0_12.index _ 2 * 512 ≤ (i 2 : Nat) ∧ (i 2 : Nat) < win0_12.index _ 2 * 512 + 512
      rw [index12]; simp; omega

theorem flushed13_eq (t : Fin cfg0.N) : (dats m 0 c).flushed 13 t = ((cfg0.win 13).blk t).view.read (Elt Ideal) (third m c) := by
  have hN : t.val < 64 := lt_of_lt_of_eq t.isLt N_0
  rw [flushed13_A, out0_A_13_eq]
  funext y
  rw [View.read_apply]
  have hy0 : (y 0).val < 1 := (y 0).isLt
  have hy1 : (y 1).val < 512 := (y 1).isLt
  have hy2 : (y 2).val < 512 := (y 2).isLt
  have e0 : (((cfg0.win 13).blk t).view.emb y 0 : Fin 8) = (⟨t.val / 8, by omega⟩ : Fin 8) := Fin.ext (by
    show win0_13.index t 0 * 1 + 1 * (y 0).val = t.val / 8
    rw [index13]; show t.val / 8 * 1 + 1 * (y 0).val = t.val / 8; omega)
  have e1 : (((cfg0.win 13).blk t).view.emb y 1 : Fin 4096) = (⟨512 * (t.val % 8) + (y 1).val, by omega⟩ : Fin 4096) := Fin.ext (by
    show win0_13.index t 1 * 512 + 1 * (y 1).val = 512 * (t.val % 8) + (y 1).val
    rw [index13]; show t.val % 8 * 512 + 1 * (y 1).val = _; omega)
  have e2 : (((cfg0.win 13).blk t).view.emb y 2 : Fin 512) = (y 2 : Fin 512) := Fin.ext (by
    show win0_13.index t 2 * 512 + 1 * (y 2).val = (y 2).val
    rw [index13]; show 0 * 512 + 1 * (y 2).val = _; omega)
  refine Eq.trans ?_ ((third_value m c t (⟨t.val / 8, by omega⟩ : Fin 8) rfl (y 1) (y 2) (⟨512 * (t.val % 8) + (y 1).val, by omega⟩ : Fin 4096) rfl).trans ?_)
  · refine congrArg _ (funext fun a => Fin.ext ?_)
    match a with
    | ⟨0, _⟩ => show (y 0).val = 0; omega
    | ⟨1, _⟩ => rfl
    | ⟨2, _⟩ => rfl
  · show thirdAt m c _ _ _ = thirdAt m c (((cfg0.win 13).blk t).view.emb y 0) (((cfg0.win 13).blk t).view.emb y 1) (((cfg0.win 13).blk t).view.emb y 2)
    rw [e0, e1, e2]

theorem final13 : (dats m 0 c).arrAt 13 cfg0.N = third m c :=
  (dats m 0 c).arrAt_eq_of_cover 13 (third m c) (fun t _ => flushed13_eq m c t) fun i => by
    have h0 : (i 0 : Nat) < 8 := (i 0).isLt
    have h1 : (i 1 : Nat) < 4096 := (i 1).isLt
    have h2 : (i 2 : Nat) < 512 := (i 2).isLt
    have hn : (i 0 : Nat) * 8 + (i 1 : Nat) / 512 < cfg0.N := by rw [show cfg0.N = 64 from N_0]; omega
    refine ⟨⟨(i 0 : Nat) * 8 + (i 1 : Nat) / 512, hn⟩, flush13' _, ?_⟩
    show i ∈ ((View.whole main_v15_2).slice (win0_13.rect ⟨(i 0 : Nat) * 8 + (i 1 : Nat) / 512, hn⟩)).set
    rw [View.set_slice_whole, Rect.mem_set_unit]
    intro a
    match a with
    | ⟨0, _⟩ =>
      show win0_13.index _ 0 * 1 ≤ (i 0 : Nat) ∧ (i 0 : Nat) < win0_13.index _ 0 * 1 + 1
      rw [index13]; simp; omega
    | ⟨1, _⟩ =>
      show win0_13.index _ 1 * 512 ≤ (i 1 : Nat) ∧ (i 1 : Nat) < win0_13.index _ 1 * 512 + 512
      rw [index13]; simp; omega
    | ⟨2, _⟩ =>
      show win0_13.index _ 2 * 512 ≤ (i 2 : Nat) ∧ (i 2 : Nat) < win0_13.index _ 2 * 512 + 512
      rw [index13]; simp; omega

theorem flushed11_eq (t : Fin cfg0.N) : (dats m 0 c).flushed 11 t = ((cfg0.win 11).blk t).view.read (Elt Ideal) (first m c) := by
  have hN : t.val < 64 := lt_of_lt_of_eq t.isLt N_0
  rw [flushed11_A, out0_A_11_eq]
  funext y
  rw [View.read_apply]
  have hy0 : (y 0).val < 1 := (y 0).isLt
  have hy1 : (y 1).val < 32 := (y 1).isLt
  have hy2 : (y 2).val < 16 := (y 2).isLt
  have hy3 : (y 3).val < 1024 := (y 3).isLt
  have e0 : (((cfg0.win 11).blk t).view.emb y 0 : Fin 8) = (⟨t.val / 8, by omega⟩ : Fin 8) := Fin.ext (by
    show win0_11.index t 0 * 1 + 1 * (y 0).val = t.val / 8
    rw [index11]; show t.val / 8 * 1 + 1 * (y 0).val = t.val / 8; omega)
  have e1 : (((cfg0.win 11).blk t).view.emb y 1 : Fin 32) = (y 1 : Fin 32) := Fin.ext (by
    show win0_11.index t 1 * 32 + 1 * (y 1).val = (y 1).val
    rw [index11]; show 0 * 32 + 1 * (y 1).val = _; omega)
  have e2 : (((cfg0.win 11).blk t).view.emb y 2 : Fin 128) = (⟨16 * (t.val % 8) + (y 2).val, by omega⟩ : Fin 128) := Fin.ext (by
    show win0_11.index t 2 * 16 + 1 * (y 2).val = 16 * (t.val % 8) + (y 2).val
    rw [index11]; show t.val % 8 * 16 + 1 * (y 2).val = _; omega)
  have e3 : (((cfg0.win 11).blk t).view.emb y 3 : Fin 1024) = (y 3 : Fin 1024) := Fin.ext (by
    show win0_11.index t 3 * 1024 + 1 * (y 3).val = (y 3).val
    rw [index11]; show 0 * 1024 + 1 * (y 3).val = _; omega)
  refine Eq.trans ?_ ((first_value m c t (⟨t.val / 8, by omega⟩ : Fin 8) rfl (y 1) (y 2) (y 3) (⟨16 * (t.val % 8) + (y 2).val, by omega⟩ : Fin 128) rfl).trans ?_)
  · refine congrArg _ (funext fun a => Fin.ext ?_)
    match a with
    | ⟨0, _⟩ => show (y 0).val = 0; omega
    | ⟨1, _⟩ => rfl
    | ⟨2, _⟩ => rfl
    | ⟨3, _⟩ => rfl
  · show firstAt m c _ _ _ _ = firstAt m c (((cfg0.win 11).blk t).view.emb y 0) (((cfg0.win 11).blk t).view.emb y 1)
      (((cfg0.win 11).blk t).view.emb y 2) (((cfg0.win 11).blk t).view.emb y 3)
    rw [e0, e1, e2, e3]

theorem final11 : (dats m 0 c).arrAt 11 cfg0.N = first m c :=
  (dats m 0 c).arrAt_eq_of_cover 11 (first m c) (fun t _ => flushed11_eq m c t) fun i => by
    have h0 : (i 0 : Nat) < 8 := (i 0).isLt
    have h1 : (i 1 : Nat) < 32 := (i 1).isLt
    have h2 : (i 2 : Nat) < 128 := (i 2).isLt
    have h3 : (i 3 : Nat) < 1024 := (i 3).isLt
    have hn : (i 0 : Nat) * 8 + (i 2 : Nat) / 16 < cfg0.N := by rw [show cfg0.N = 64 from N_0]; omega
    refine ⟨⟨(i 0 : Nat) * 8 + (i 2 : Nat) / 16, hn⟩, flush11' _, ?_⟩
    show i ∈ ((View.whole main_v15_0).slice (win0_11.rect ⟨(i 0 : Nat) * 8 + (i 2 : Nat) / 16, hn⟩)).set
    rw [View.set_slice_whole, Rect.mem_set_unit]
    intro a
    match a with
    | ⟨0, _⟩ =>
      show win0_11.index _ 0 * 1 ≤ (i 0 : Nat) ∧ (i 0 : Nat) < win0_11.index _ 0 * 1 + 1
      rw [index11]; simp; omega
    | ⟨1, _⟩ =>
      show win0_11.index _ 1 * 32 ≤ (i 1 : Nat) ∧ (i 1 : Nat) < win0_11.index _ 1 * 32 + 32
      rw [index11]; simp; omega
    | ⟨2, _⟩ =>
      show win0_11.index _ 2 * 16 ≤ (i 2 : Nat) ∧ (i 2 : Nat) < win0_11.index _ 2 * 16 + 16
      rw [index11]; simp; omega
    | ⟨3, _⟩ =>
      show win0_11.index _ 3 * 1024 ≤ (i 3 : Nat) ∧ (i 3 : Nat) < win0_11.index _ 3 * 1024 + 1024
      rw [index11]; simp; omega

end Cert.FhInIdeal.Rows

end
-- ==== Proof.FhIn.Ref.lean ====
module

public import proofs.«01_k».proof.Proof.Gen.FhInRefIdeal.Read
public import proofs.«01_k».proof.Proof.FhIn.Spec
public import Idealize.ShloMosaic.Lib.Pointwise

/-! The reference, read at an index. -/

@[expose] public section

set_option maxRecDepth 16384

noncomputable section

open Idealize.ShloMosaic

namespace Cert.FhInRefIdeal.Rows

open Cert.FhInRefIdeal Cert.FhInRefIdeal.Gen Cert.FhInRefIdeal.Read Cert.Block

variable (x0 : FVec Ideal S8x4096x1024 .f32) (x1 : FVec Ideal S1024 .f32) (x2 x3 : FVec Ideal S8x1x1024 .f32)
  (x4 : FVec Ideal S1024x2048 .f32) (x5 : FVec Ideal S3x1536 .f32) (x6 : FVec Ideal S1536 .f32) (x7 : FVec Ideal S512x1024 .bf16)

/-- The normed rows of a sequence. -/
abbrev rowsOf (b : Fin 8) (l : Fin 4096) : Fin 1024 → EReal :=
  normed (fun d => x0 (ix3 b l d)) (fun d => x1 (ix1 d)) (fun d => x2 (ix3 b 0 d)) (fun d => x3 (ix3 b 0 d))

theorem normed_eq (b : Fin 8) (l : Fin 4096) (d : Fin 1024) :
    @Eq EReal (val_main_v18 (F := Ideal) x0 x1 x2 x3 (ix3 b l d)) (rowsOf x0 x1 x2 x3 b l d) := by
  unfold rowsOf normed
  unfold val_main_v18 val_main_v17 val_main_v16 val_main_v15 val_main_v14 val_main_v13 val_main_cst_2 val_main_v12 val_main_v11 val_main_v10 val_main_v9 val_main_v8 val_main_v7 val_main_v6 val_main_v5 val_main_cst_1 val_main_v4 val_main_v3 val_main_cst_0 val_main_v2 val_main_v1
    val_main_cst val_main_v0
  pointwise

theorem projected_eq (b : Fin 8) (l : Fin 4096) (f : Fin 2048) :
    @Eq EReal (val_main_v19 (F := Ideal) x0 x1 x2 x3 x4 (ix3 b l f)) (∑ x, rowsOf x0 x1 x2 x3 b l x * x4 (ix2 x f)) := by
  simp only [← normed_eq]
  unfold val_main_v19
  generalize val_main_v18 (F := Ideal) x0 x1 x2 x3 = z
  pointwise

/-- The channels to convolve, with a row of zeros before a sequence's first and after its last. -/
theorem padded_eq (b : Fin 8) (n : Fin 4098) (f : Fin 1536) :
    @Eq EReal (val_main_v26 (F := Ideal) x0 x1 x2 x3 x4 (ix3 b n f))
      (∑ x, around (rowsOf x0 x1 x2 x3 b) n.val x * x4 (ix2 x (⟨512 + f.val, by omega⟩ : Fin 2048))) := by
  by_cases h : 1 ≤ n.val ∧ n.val ≤ 4096
  · rw [around_of _ _ (⟨n.val - 1, by omega⟩ : Fin 4096) (by dsimp only; omega), ← projected_eq]
    unfold val_main_v26 val_main_v25 val_main_call0_v0 val_main_c
    generalize val_main_v19 (F := Ideal) x0 x1 x2 x3 x4 = z
    pointwise
    rw [dif_pos (by omega)]
  · rw [gate_zero _ _ h]
    unfold val_main_v26 val_main_v25 val_main_call0_v0 val_main_c
    generalize val_main_v19 (F := Ideal) x0 x1 x2 x3 x4 = z
    pointwise
    rw [dif_neg (by omega)]
    show (((0#32 : BitVec 32).toInt : ℝ) : EReal) = 0
    simp

theorem convolved_eq (b : Fin 8) (l : Fin 4096) (f : Fin 1536) :
    @Eq EReal (val_main_v49 (F := Ideal) x0 x1 x2 x3 x4 x5 x6 (ix3 b l f))
      (convolved (rowsOf x0 x1 x2 x3 b) (fun k f => x4 (ix2 k f)) (fun t f => x5 (ix2 t f)) (fun f => x6 (ix1 f)) l.val f) := by
  unfold convolved conv
  have g0 := padded_eq x0 x1 x2 x3 x4 b (⟨l.val, by omega⟩ : Fin 4098) f
  have g1 := padded_eq x0 x1 x2 x3 x4 b (⟨l.val + 1, by omega⟩ : Fin 4098) f
  have g2 := padded_eq x0 x1 x2 x3 x4 b (⟨l.val + 2, by omega⟩ : Fin 4098) f
  dsimp only at g0 g1 g2
  rw [← g0, ← g1, ← g2]
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27
  generalize val_main_v26 (F := Ideal) x0 x1 x2 x3 x4 = z
  pointwise
  simp only [Nat.add_comm 1, Nat.add_comm 2]

/-- The third result at an index. -/
theorem third_at (b : Fin 8) (l : Fin 4096) (f : Fin 512) :
    @Eq EReal (val_main_v50 (F := Ideal) x0 x1 x2 x3 x4 x5 x6 (ix3 b l f))
      (convolved (rowsOf x0 x1 x2 x3 b) (fun k f => x4 (ix2 k f)) (fun t f => x5 (ix2 t f)) (fun f => x6 (ix1 f)) l.val
        (⟨f.val, by omega⟩ : Fin 1536)) := by
  rw [← convolved_eq]
  unfold val_main_v50
  generalize val_main_v49 (F := Ideal) x0 x1 x2 x3 x4 x5 x6 = z
  pointwise

/-- The second result at an index. -/
theorem second_at (b : Fin 8) (l : Fin 4096) (f : Fin 512) :
    @Eq EReal (val_main_v55 (F := Ideal) x0 x1 x2 x3 x4 x5 x6 (ix3 b l f))
      (convolved (rowsOf x0 x1 x2 x3 b) (fun k f => x4 (ix2 k f)) (fun t f => x5 (ix2 t f)) (fun f => x6 (ix1 f)) l.val
          (⟨1024 + f.val, by omega⟩ : Fin 1536)
        * convolved (rowsOf x0 x1 x2 x3 b) (fun k f => x4 (ix2 k f)) (fun t f => x5 (ix2 t f)) (fun f => x6 (ix1 f)) l.val
          (⟨512 + f.val, by omega⟩ : Fin 1536)) := by
  rw [← convolved_eq, ← convolved_eq]
  unfold val_main_v55 val_main_v54 val_main_v52 val_main_v51
  generalize val_main_v49 (F := Ideal) x0 x1 x2 x3 x4 x5 x6 = z
  pointwise

/-- The first result at an index: residue `a`, quotient `q` is row `32 q + a`. -/
theorem first_at (b : Fin 8) (a : Fin 32) (q : Fin 128) (e : Fin 1024) :
    @Eq EReal (val_main_v53 (F := Ideal) x0 x1 x2 x3 x4 x7 (ix4 b a q e))
      (fourier (rowsOf x0 x1 x2 x3 b) (fun k f => x4 (ix2 k f)) (fun f e => x7 (ix2 f e)) (⟨q.val * 32 + a.val, by omega⟩ : Fin 4096) e) := by
  unfold fourier
  simp only [← projected_eq]
  unfold val_main_v53 val_main_v24 val_main_v23 val_main_v22 val_main_v21 val_main_v20
  generalize val_main_v19 (F := Ideal) x0 x1 x2 x3 x4 = z
  pointwise

end Cert.FhInRefIdeal.Rows

end
-- ==== Proof.FhIn.Value.lean ====
module

public import proofs.«01_k».proof.Defs
public import proofs.«01_k».proof.Proof.FhIn.Array
public import proofs.«01_k».proof.Proof.FhIn.Ref
public import proofs.«01_k».proof.Proof.Gen.FhInRefIdeal.Run
public import Idealize.ShloMosaic.Adequacy
public import Idealize.ShloMosaic.Init
public import Idealize.ShloMosaic.Lib.Claim

/-! The kernel's three arrays are the reference's. -/

@[expose] public section

set_option maxRecDepth 16384

noncomputable section

open Idealize.ShloMosaic Idealize.ShloMosaic.TcCoe Idealize.SL.Sem

namespace Cert.FhInIdeal.Rows

open Cert.FhInIdeal Cert.FhInIdeal.Gen

variable (m : (ℓ : Loc nD τ sig) → Buf (Elt Ideal) ℓ) (c : Dev nD)

theorem first_eq : first m c = Cert.FhInRefIdeal.Read.val_main_v53 (F := Ideal) (argX m c) (argNorm m c) (argShift m c) (argScale m c) (argIn m c) (argG m c) := by
  funext i
  obtain ⟨b, a, q, e, rfl⟩ : ∃ (b : Fin 8) (a : Fin 32) (q : Fin 128) (e : Fin 1024), i = ix4 b a q e :=
    ⟨i 0, i 1, i 2, i 3, funext fun a => by match a with | ⟨0, _⟩ => rfl | ⟨1, _⟩ => rfl | ⟨2, _⟩ => rfl | ⟨3, _⟩ => rfl⟩
  exact (Cert.FhInRefIdeal.Rows.first_at _ _ _ _ _ _ b a q e).symm

theorem second_eq : second m c = Cert.FhInRefIdeal.Read.val_main_v55 (F := Ideal) (argX m c) (argNorm m c) (argShift m c) (argScale m c) (argIn m c) (argConv m c) (argBias m c) := by
  funext i
  obtain ⟨b, l, d, rfl⟩ : ∃ (b : Fin 8) (l : Fin 4096) (d : Fin 512), i = ix3 b l d :=
    ⟨i 0, i 1, i 2, funext fun a => by match a with | ⟨0, _⟩ => rfl | ⟨1, _⟩ => rfl | ⟨2, _⟩ => rfl⟩
  exact (Cert.FhInRefIdeal.Rows.second_at _ _ _ _ _ _ _ b l d).symm

theorem third_eq : third m c = Cert.FhInRefIdeal.Read.val_main_v50 (F := Ideal) (argX m c) (argNorm m c) (argShift m c) (argScale m c) (argIn m c) (argConv m c) (argBias m c) := by
  funext i
  obtain ⟨b, l, d, rfl⟩ : ∃ (b : Fin 8) (l : Fin 4096) (d : Fin 512), i = ix3 b l d :=
    ⟨i 0, i 1, i 2, funext fun a => by match a with | ⟨0, _⟩ => rfl | ⟨1, _⟩ => rfl | ⟨2, _⟩ => rfl⟩
  exact (Cert.FhInRefIdeal.Rows.third_at _ _ _ _ _ _ _ b l d).symm

end Cert.FhInIdeal.Rows

namespace Cert.Proof

/-- The reference runs, and leaves its arguments as they were. -/
theorem fhin_reference_frame : Cert.quiescent_FhInRefIdeal := by
  intro m g _
  exact (θ_run Cert.FhInRefIdeal.defs _ _).mono (fun r h => ⟨fun c => (h c).2.2.2, Idealize.ShloMosaic.sem_eq_zero_of_no_sems (by decide) r.2⟩)
    (Cert.FhInRefIdeal.Value.run m g)

/-- The kernel computes what its reference computes. -/
theorem fhin_value : Cert.algebraic_FhInIdeal_FhInRefIdeal := by
  intro m g m' g' _ hagree
  refine ⟨fun c => Cert.FhInIdeal.Rows.first m c, fun c => Cert.FhInIdeal.Rows.second m c, fun c => Cert.FhInIdeal.Rows.third m c, ?_, ?_⟩
  · exact (θ_run _ _ _).mono (fun r h c => ⟨(h c).1.trans (Cert.FhInIdeal.Rows.final11 m c), (h c).2.1.trans (Cert.FhInIdeal.Rows.final12 m c),
      (h c).2.2.1.trans (Cert.FhInIdeal.Rows.final13 m c), (h c).2.2.2⟩) (Cert.FhInIdeal.Value.run_blocks m g)
  · refine (θ_run _ _ _).mono (fun r h c => ⟨?_, ?_, ?_, (h c).2.2.2⟩) (Cert.FhInRefIdeal.Value.run m' g')
    all_goals obtain ⟨a0, a1, a2, a3, a4, a5, a6, a7⟩ := hagree c
    · refine ((h c).1.trans (Cert.FhInRefIdeal.Read.val_main_v53_eq _ _ _ _ _ _)).trans ?_
      rw [a0, a1, a2, a3, a4, a7]
      exact (Cert.FhInIdeal.Rows.first_eq m c).symm
    · refine ((h c).2.1.trans (Cert.FhInRefIdeal.Read.val_main_v55_eq m' c)).trans ?_
      rw [a0, a1, a2, a3, a4, a5, a6]
      exact (Cert.FhInIdeal.Rows.second_eq m c).symm
    · refine ((h c).2.2.1.trans (Cert.FhInRefIdeal.Read.val_main_v50_eq m' c)).trans ?_
      rw [a0, a1, a2, a3, a4, a5, a6]
      exact (Cert.FhInIdeal.Rows.third_eq m c).symm

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Attn.Value
public import proofs.«01_k».proof.Proof.Attn.Pre
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Ffn.Value
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Mix.Value
public import proofs.«01_k».proof.Proof.Gen.FhIn
public import proofs.«01_k».proof.Proof.Gen.FhIn.Frame
public import proofs.«01_k».proof.Proof.Gen.FhInIdeal
public import proofs.«01_k».proof.Proof.Gen.FhInIdeal.Frame
public import proofs.«01_k».proof.Proof.Gen.FhInIdeal.Value
public import proofs.«01_k».proof.Proof.Gen.FhInRefIdeal
public import proofs.«01_k».proof.Proof.Gen.FhInRefIdeal.Run
public import proofs.«01_k».proof.Proof.Gen.FhInRefIdeal.Read
public import proofs.«01_k».proof.Proof.FhIn.Value
public import Idealize.ShloMosaic.Adequacy
public import Idealize.ShloMosaic.Init
public import Idealize.ShloMosaic.Lib.Claim

@[expose] public section

noncomputable section

namespace Cert.Proof

open Idealize.ShloMosaic Idealize.SL.Sem

/-- The reference runs, and leaves its arguments as they were. -/
theorem reference_frame : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run m g)

/-- The attention kernel computes what its reference computes. -/
theorem attention : Cert.algebraic_KernelIdeal_ReferenceIdeal_pre_finite := by
  intro m g m' g' hpre hagree
  refine ⟨fun c => Cert.KernelIdeal.Attn.result m c, ?_, ?_⟩
  · exact (θ_run _ _ _).mono (fun r h c => ⟨(h c).1.trans (Cert.KernelIdeal.Attn.final m c), (h c).2⟩)
      (Cert.KernelIdeal.Value.run_blocks m g)
  · refine (θ_run _ _ _).mono (fun r h c => ⟨?_, (h c).2⟩) (Cert.ReferenceIdeal.Value.run m' g')
    obtain ⟨hq, hk, hkc⟩ := Cert.Attn.finite_args _ _ _ _ _ (hpre c)
    obtain ⟨a0, a1, a2, a3, a4⟩ := hagree c
    refine ((h c).1.trans (Cert.ReferenceIdeal.Read.val_main_v20_eq _ _ _ _ _)).trans ?_
    rw [a0, a1, a2, a3, a4]
    exact (Cert.KernelIdeal.Attn.result_eq m c hq hk hkc).symm

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Mix.Gen.facts, Cert.MixIdeal.Gen.facts, Cert.MixRefIdeal.Gen.facts, Cert.FhIn.Gen.facts, Cert.FhInIdeal.Gen.facts, Cert.FhInRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Ffn.Gen.frame m ρ, fun m ρ _ => Cert.FfnIdeal.Gen.frame m ρ, ffn_reference_frame,
  fun m ρ _ => Cert.Mix.Gen.frame m ρ, fun m ρ _ => Cert.MixIdeal.Gen.frame m ρ, mix_reference_frame,
  fun m ρ _ => Cert.FhIn.Gen.frame m ρ, fun m ρ _ => Cert.FhInIdeal.Gen.frame m ρ, fhin_reference_frame,
  trivial, attention, trivial, ffn_value, trivial, mix_value, trivial, fhin_value⟩

end Cert.Proof

end
